-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 2048, 512]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = Layout.block ⟨3, ![2, 128, 512]⟩ ⟨3, ![2, 2048, 512]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S2x128x512 .f32) (main_arg1 : FVec F S512x512 .f32) (main_arg2 : FVec F S512x512 .f32) (main_arg3 : FVec F S512x512 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Pre_finite_ReferenceIdeal.lean ====
abbrev S2x2048x512 : Shape := ⟨3, ![2, 2048, 512]⟩
abbrev S512x8192 : Shape := ⟨2, ![512, 8192]⟩
abbrev S8192x512 : Shape := ⟨2, ![8192, 512]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S512x8192 : S_.BroadcastsInDim S512x8192 (![] : Fin 0 → Fin S512x8192.rank)
  reducesTo_S512x8192_S_d0_1 : S512x8192.ReducesTo [0, 1] S_

variable [Facts]

def fn {F : FTy → Type} [FloatOps F] (main_arg0 : FVec F S2x2048x512 .f32) (main_arg1 : FVec F S512x8192 .f32) (main_arg2 : FVec F S512x8192 .f32) (main_arg3 : FVec F S512x8192 .f32) (main_arg4 : FVec F S8192x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  let main_v9 : FVec F S512x8192 .f32 := Host.absf main_arg2
  let main_cst_2 : FVec F S_ .f32 := constant S_ .f32 0x7F800000#32
  let main_v10 : FVec F S512x8192 .f32 := broadcastInDim S512x8192 ![] bcast_S_S512x8192 main_cst_2
  let main_v11 : IVec S512x8192 1 := cmpf .olt main_v9 main_v10
  let main_c_3 : IVec S_ 1 := constantI S_ 1 1#1
  let main_v12 : IVec S_ 1 := (fun x v => Host.reduce IntOp.andi x v reducesTo_S512x8192_S_d0_1 h_S_) main_v11 main_c_3
  let main_v13 : IVec S_ 1 := andi main_v8 main_v12
  main_v13
-- ==== Kernel.lean ====
abbrev S2x128x512 : Shape := ⟨3, ![2, 128, 512]⟩
abbrev S512x512 : Shape := ⟨2, ![512, 512]⟩
abbrev S_ : Shape := ⟨0, ![]⟩
abbrev S512x8x64 : Shape := ⟨3, ![512, 8, 64]⟩
abbrev S8x512x64 : Shape := ⟨3, ![8, 512, 64]⟩
abbrev S8x64x512 : Shape := ⟨3, ![8, 64, 512]⟩
abbrev S2x2048x512 : Shape := ⟨3, ![2, 2048, 512]⟩
abbrev S2x8x2048x64 : Shape := ⟨4, ![2, 8, 2048, 64]⟩
abbrev S2x2x128x512 : Shape := ⟨4, ![2, 2, 128, 512]⟩
abbrev S15x2x128x512 : Shape := ⟨4, ![15, 2, 128, 512]⟩
abbrev S8 : Shape := ⟨1, ![8]⟩
abbrev S7 : Shape := ⟨1, ![7]⟩
abbrev S15 : Shape := ⟨1, ![15]⟩
abbrev S1 : Shape := ⟨1, ![1]⟩
abbrev S1x128x512 : Shape := ⟨3, ![1, 128, 512]⟩
abbrev S128x512 : Shape := ⟨2, ![128, 512]⟩
abbrev S128x64 : Shape := ⟨2, ![128, 64]⟩
abbrev S1x1x128x64 : Shape := ⟨4, ![1, 1, 128, 64]⟩
abbrev S1x512x64 : Shape := ⟨3, ![1, 512, 64]⟩
abbrev S512x64 : Shape := ⟨2, ![512, 64]⟩
abbrev S1x1x2048x64 : Shape := ⟨4, ![1, 1, 2048, 64]⟩
abbrev S2048x64 : Shape := ⟨2, ![2048, 64]⟩
abbrev S128x2048 : Shape := ⟨2, ![128, 2048]⟩
abbrev S128 : Shape := ⟨1, ![128]⟩
abbrev S128x1 : Shape := ⟨2, ![128, 1]⟩
abbrev S1x64x512 : Shape := ⟨3, ![1, 64, 512]⟩
abbrev S64x512 : Shape := ⟨2, ![64, 512]⟩
abbrev S1x1x128x512 : Shape := ⟨4, ![1, 1, 128, 512]⟩
abbrev S1x2x128x512 : Shape := ⟨4, ![1, 2, 128, 512]⟩

abbrev nBuf : Space → Nat
  | .hbm => 16
  | .vmem => 11
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S_, .f32⟩
  | .hbm, ⟨6, _⟩ => ⟨S512x512, .f32⟩
  | .hbm, ⟨7, _⟩ => ⟨S512x512, .f32⟩
  | .hbm, ⟨8, _⟩ => ⟨S512x8x64, .f32⟩
  | .hbm, ⟨9, _⟩ => ⟨S8x512x64, .f32⟩
  | .hbm, ⟨10, _⟩ => ⟨S8x512x64, .bf16⟩
  | .hbm, ⟨11, _⟩ => ⟨S512x512, .bf16⟩
  | .hbm, ⟨12, _⟩ => ⟨S512x512, .bf16⟩
  | .hbm, ⟨13, _⟩ => ⟨S8x64x512, .f32⟩
  | .hbm, ⟨14, _⟩ => ⟨S8x64x512, .bf16⟩
  | .hbm, ⟨15, _⟩ => ⟨S2x128x512, .f32⟩
  | .local _ .vmem, ⟨0, _⟩ => ⟨S2x128x512, .f32⟩
  | .local _ .vmem, ⟨1, _⟩ => ⟨S8x512x64, .bf16⟩
  | .local _ .vmem, ⟨2, _⟩ => ⟨S8x64x512, .bf16⟩
  | .local _ .vmem, ⟨3, _⟩ => ⟨S512x512, .bf16⟩
  | .local _ .vmem, ⟨4, _⟩ => ⟨S512x512, .bf16⟩
  | .local _ .vmem, ⟨5, _⟩ => ⟨S2x128x512, .f32⟩
  | .local _ .vmem, ⟨6, _⟩ => ⟨S2x2048x512, .bf16⟩
  | .local _ .vmem, ⟨7, _⟩ => ⟨S2x8x2048x64, .bf16⟩
  | .local _ .vmem, ⟨8, _⟩ => ⟨S2x8x2048x64, .bf16⟩
  | .local _ .vmem, ⟨9, _⟩ => ⟨S2x2x128x512, .bf16⟩
  | .local _ .vmem, ⟨10, _⟩ => ⟨S15x2x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 3 → Nat :=
  let c0_12 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v16 : BitVec 32 := Scalar.muli v2 c128_i32
  let v17 : Index := Scalar.indexCast v16
  let c0_13 : Index := 0#32
  ![0, v17.toNat, 0]
def k0_off2 (d0 : Dev nD) (c0_i32_14 : BitVec 32) : Fin 3 → Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v21 : BitVec 32 := Scalar.subi v2 c0_i32_14
  let c32_i32 : BitVec 32 := 32#32
  let v22 : BitVec 32 := Scalar.addi v21 c32_i32
  let c16_i32_15 : BitVec 32 := 16#32
  let v23 : BitVec 32 := Scalar.remsi v22 c16_i32_15
  let c128_i32_17 : BitVec 32 := 128#32
  let v25 : BitVec 32 := Scalar.muli v23 c128_i32_17
  let c0_i32_23 : BitVec 32 := 0#32
  ![0, v25.toNat, 0]
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_20 : BitVec 32 := 1#32
  let v26 : BitVec 32 := Scalar.muli v7 c1_i32_20
  let v27 : BitVec 32 := Scalar.addi c0_i32_21 v26
  v27.toNat
def k0_off3 (d0 : Dev nD) (c0_i32_26 : BitVec 32) : Fin 3 → Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v34 : BitVec 32 := Scalar.addi v2 c0_i32_26
  let c16_i32_27 : BitVec 32 := 16#32
  let v35 : BitVec 32 := Scalar.remsi v34 c16_i32_27
  let c128_i32_29 : BitVec 32 := 128#32
  let v37 : BitVec 32 := Scalar.muli v35 c128_i32_29
  let c0_i32_35 : BitVec 32 := 0#32
  ![0, v37.toNat, 0]
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_32 : BitVec 32 := 1#32
  let v38 : BitVec 32 := Scalar.muli v5 c1_i32_32
  let v39 : BitVec 32 := Scalar.addi c0_i32_33 v38
  v39.toNat
def k0_off4 (d0 : Dev nD) : Fin 3 → Nat :=
  let c0_39 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_38 : BitVec 32 := 128#32
  let v46 : BitVec 32 := Scalar.muli v2 c128_i32_38
  let v47 : Index := Scalar.indexCast v46
  let c0_40 : Index := 0#32
  ![0, v47.toNat, 0]
def k0_off5 (d0 : Dev nD) : Fin 4 → Nat :=
  let c0_47 : Index := 0#32
  let c0_48 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_46 : BitVec 32 := 128#32
  let v59 : BitVec 32 := Scalar.muli v2 c128_i32_46
  let v60 : Index := Scalar.indexCast v59
  let c0_49 : Index := 0#32
  ![0, 0, v60.toNat, 0]
def k0_off6 (d0 : Dev nD) : Fin 4 → Nat :=
  let c0_55 : Index := 0#32
  let c1 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_54 : BitVec 32 := 128#32
  let v71 : BitVec 32 := Scalar.muli v2 c128_i32_54
  let v72 : Index := Scalar.indexCast v71
  let c0_56 : Index := 0#32
  ![0, 1, v72.toNat, 0]
def k0_off7 (d0 : Dev nD) : Fin 4 → Nat :=
  let c0_62 : Index := 0#32
  let c2 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_61 : BitVec 32 := 128#32
  let v83 : BitVec 32 := Scalar.muli v2 c128_i32_61
  let v84 : Index := Scalar.indexCast v83
  let c0_63 : Index := 0#32
  ![0, 2, v84.toNat, 0]
def k0_off8 (d0 : Dev nD) : Fin 4 → Nat :=
  let c0_69 : Index := 0#32
  let c3 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_68 : BitVec 32 := 128#32
  let v95 : BitVec 32 := Scalar.muli v2 c128_i32_68
  let v96 : Index := Scalar.indexCast v95
  let c0_70 : Index := 0#32
  ![0, 3, v96.toNat, 0]
def k0_off9 (d0 : Dev nD) : Fin 4 → Nat :=
  let c0_76 : Index := 0#32
  let c4 : Index := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_75 : BitVec 32 := 128#32
  let v107 : BitVec 32 := Scalar.muli v2 c128_i32_75
  let v108 : Index := Scalar.indexCast v107
  let c0_77 : Index := 0#32
  ![0, 4, v108.toNat, 0]
def k0_off10 (d0 : Dev nD) : Fin 4 → Nat :=
  let c0_83 : Index := 0#32
  let c5 : Index := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_82 : BitVec 32 := 128#32
  let v119 : BitVec 32 := Scalar.muli v2 c128_i32_82
  let v120 : Index := Scalar.indexCast v119
  let c0_84 : Index := 0#32
  ![0, 5, v120.toNat, 0]
def k0_off11 (d0 : Dev nD) : Fin 4 → Nat :=
  let c0_90 : Index := 0#32
  let c6 : Index := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_89 : BitVec 32 := 128#32
  let v131 : BitVec 32 := Scalar.muli v2 c128_i32_89
  let v132 : Index := Scalar.indexCast v131
  let c0_91 : Index := 0#32
  ![0, 6, v132.toNat, 0]
def k0_off12 (d0 : Dev nD) : Fin 4 → Nat :=
  let c0_97 : Index := 0#32
  let c7 : Index := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_96 : BitVec 32 := 128#32
  let v143 : BitVec 32 := Scalar.muli v2 c128_i32_96
  let v144 : Index := Scalar.indexCast v143
  let c0_98 : Index := 0#32
  ![0, 7, v144.toNat, 0]
def k0_off13 (d0 : Dev nD) : Fin 3 → Nat :=
  let c1_104 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_103 : BitVec 32 := 128#32
  let v154 : BitVec 32 := Scalar.muli v2 c128_i32_103
  let v155 : Index := Scalar.indexCast v154
  let c0_105 : Index := 0#32
  ![1, v155.toNat, 0]
def k0_off14 (d0 : Dev nD) : Fin 4 → Nat :=
  let c1_113 : Index := 1#32
  let c0_114 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_112 : BitVec 32 := 128#32
  let v167 : BitVec 32 := Scalar.muli v2 c128_i32_112
  let v168 : Index := Scalar.indexCast v167
  let c0_115 : Index := 0#32
  ![1, 0, v168.toNat, 0]
def k0_off15 (d0 : Dev nD) : Fin 4 → Nat :=
  let c1_121 : Index := 1#32
  let c1_122 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_120 : BitVec 32 := 128#32
  let v179 : BitVec 32 := Scalar.muli v2 c128_i32_120
  let v180 : Index := Scalar.indexCast v179
  let c0_123 : Index := 0#32
  ![1, 1, v180.toNat, 0]
def k0_off16 (d0 : Dev nD) : Fin 4 → Nat :=
  let c1_129 : Index := 1#32
  let c2_130 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_128 : BitVec 32 := 128#32
  let v191 : BitVec 32 := Scalar.muli v2 c128_i32_128
  let v192 : Index := Scalar.indexCast v191
  let c0_131 : Index := 0#32
  ![1, 2, v192.toNat, 0]
def k0_off17 (d0 : Dev nD) : Fin 4 → Nat :=
  let c1_137 : Index := 1#32
  let c3_138 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_136 : BitVec 32 := 128#32
  let v203 : BitVec 32 := Scalar.muli v2 c128_i32_136
  let v204 : Index := Scalar.indexCast v203
  let c0_139 : Index := 0#32
  ![1, 3, v204.toNat, 0]
def k0_off18 (d0 : Dev nD) : Fin 4 → Nat :=
  let c1_145 : Index := 1#32
  let c4_146 : Index := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_144 : BitVec 32 := 128#32
  let v215 : BitVec 32 := Scalar.muli v2 c128_i32_144
  let v216 : Index := Scalar.indexCast v215
  let c0_147 : Index := 0#32
  ![1, 4, v216.toNat, 0]
def k0_off19 (d0 : Dev nD) : Fin 4 → Nat :=
  let c1_153 : Index := 1#32
  let c5_154 : Index := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_152 : BitVec 32 := 128#32
  let v227 : BitVec 32 := Scalar.muli v2 c128_i32_152
  let v228 : Index := Scalar.indexCast v227
  let c0_155 : Index := 0#32
  ![1, 5, v228.toNat, 0]
def k0_off20 (d0 : Dev nD) : Fin 4 → Nat :=
  let c1_161 : Index := 1#32
  let c6_162 : Index := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_160 : BitVec 32 := 128#32
  let v239 : BitVec 32 := Scalar.muli v2 c128_i32_160
  let v240 : Index := Scalar.indexCast v239
  let c0_163 : Index := 0#32
  ![1, 6, v240.toNat, 0]
def k0_off21 (d0 : Dev nD) : Fin 4 → Nat :=
  let c1_169 : Index := 1#32
  let c7_170 : Index := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_168 : BitVec 32 := 128#32
  let v251 : BitVec 32 := Scalar.muli v2 c128_i32_168
  let v252 : Index := Scalar.indexCast v251
  let c0_171 : Index := 0#32
  ![1, 7, v252.toNat, 0]
def k0_dev5 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_191 : BitVec 32 := 1#32
  let v273 : BitVec 32 := Scalar.muli v7 c1_i32_191
  let v274 : BitVec 32 := Scalar.addi c0_i32_192 v273
  v274.toNat
def k0_dev6 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_211 : BitVec 32 := 1#32
  let v291 : BitVec 32 := Scalar.muli v5 c1_i32_211
  let v292 : BitVec 32 := Scalar.addi c0_i32_212 v291
  v292.toNat
def k0_off22 (d0 : Dev nD) (c1_i32_217 : BitVec 32) : Fin 3 → Nat :=
  let c0_221 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_220 : BitVec 32 := 128#32
  let v302 : BitVec 32 := Scalar.muli v301 c128_i32_220
  let v303 : Index := Scalar.indexCast v302
  let c0_222 : Index := 0#32
  ![0, v303.toNat, 0]
def k0_off23 (d0 : Dev nD) (c1_i32_217 : BitVec 32) : Fin 4 → Nat :=
  let c0_230 : Index := 0#32
  let c0_231 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_229 : BitVec 32 := 128#32
  let v315 : BitVec 32 := Scalar.muli v301 c128_i32_229
  let v316 : Index := Scalar.indexCast v315
  let c0_232 : Index := 0#32
  ![0, 0, v316.toNat, 0]
def k0_off24 (d0 : Dev nD) (c1_i32_217 : BitVec 32) : Fin 4 → Nat :=
  let c0_238 : Index := 0#32
  let c1_239 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_237 : BitVec 32 := 128#32
  let v327 : BitVec 32 := Scalar.muli v301 c128_i32_237
  let v328 : Index := Scalar.indexCast v327
  let c0_240 : Index := 0#32
  ![0, 1, v328.toNat, 0]
def k0_off25 (d0 : Dev nD) (c1_i32_217 : BitVec 32) : Fin 4 → Nat :=
  let c0_246 : Index := 0#32
  let c2_247 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_245 : BitVec 32 := 128#32
  let v339 : BitVec 32 := Scalar.muli v301 c128_i32_245
  let v340 : Index := Scalar.indexCast v339
  let c0_248 : Index := 0#32
  ![0, 2, v340.toNat, 0]
def k0_off26 (d0 : Dev nD) (c1_i32_217 : BitVec 32) : Fin 4 → Nat :=
  let c0_254 : Index := 0#32
  let c3_255 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_253 : BitVec 32 := 128#32
  let v351 : BitVec 32 := Scalar.muli v301 c128_i32_253
  let v352 : Index := Scalar.indexCast v351
  let c0_256 : Index := 0#32
  ![0, 3, v352.toNat, 0]
def k0_off27 (d0 : Dev nD) (c1_i32_217 : BitVec 32) : Fin 4 → Nat :=
  let c0_262 : Index := 0#32
  let c4_263 : Index := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_261 : BitVec 32 := 128#32
  let v363 : BitVec 32 := Scalar.muli v301 c128_i32_261
  let v364 : Index := Scalar.indexCast v363
  let c0_264 : Index := 0#32
  ![0, 4, v364.toNat, 0]
def k0_off28 (d0 : Dev nD) (c1_i32_217 : BitVec 32) : Fin 4 → Nat :=
  let c0_270 : Index := 0#32
  let c5_271 : Index := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_269 : BitVec 32 := 128#32
  let v375 : BitVec 32 := Scalar.muli v301 c128_i32_269
  let v376 : Index := Scalar.indexCast v375
  let c0_272 : Index := 0#32
  ![0, 5, v376.toNat, 0]
def k0_off29 (d0 : Dev nD) (c1_i32_217 : BitVec 32) : Fin 4 → Nat :=
  let c0_278 : Index := 0#32
  let c6_279 : Index := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_277 : BitVec 32 := 128#32
  let v387 : BitVec 32 := Scalar.muli v301 c128_i32_277
  let v388 : Index := Scalar.indexCast v387
  let c0_280 : Index := 0#32
  ![0, 6, v388.toNat, 0]
def k0_off30 (d0 : Dev nD) (c1_i32_217 : BitVec 32) : Fin 4 → Nat :=
  let c0_286 : Index := 0#32
  let c7_287 : Index := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_285 : BitVec 32 := 128#32
  let v399 : BitVec 32 := Scalar.muli v301 c128_i32_285
  let v400 : Index := Scalar.indexCast v399
  let c0_288 : Index := 0#32
  ![0, 7, v400.toNat, 0]
def k0_off31 (d0 : Dev nD) (c1_i32_217 : BitVec 32) : Fin 3 → Nat :=
  let c1_294 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_293 : BitVec 32 := 128#32
  let v410 : BitVec 32 := Scalar.muli v301 c128_i32_293
  let v411 : Index := Scalar.indexCast v410
  let c0_295 : Index := 0#32
  ![1, v411.toNat, 0]
def k0_off32 (d0 : Dev nD) (c1_i32_217 : BitVec 32) : Fin 4 → Nat :=
  let c1_303 : Index := 1#32
  let c0_304 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_302 : BitVec 32 := 128#32
  let v423 : BitVec 32 := Scalar.muli v301 c128_i32_302
  let v424 : Index := Scalar.indexCast v423
  let c0_305 : Index := 0#32
  ![1, 0, v424.toNat, 0]
def k0_off33 (d0 : Dev nD) (c1_i32_217 : BitVec 32) : Fin 4 → Nat :=
  let c1_311 : Index := 1#32
  let c1_312 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_310 : BitVec 32 := 128#32
  let v435 : BitVec 32 := Scalar.muli v301 c128_i32_310
  let v436 : Index := Scalar.indexCast v435
  let c0_313 : Index := 0#32
  ![1, 1, v436.toNat, 0]
def k0_off34 (d0 : Dev nD) (c1_i32_217 : BitVec 32) : Fin 4 → Nat :=
  let c1_319 : Index := 1#32
  let c2_320 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_318 : BitVec 32 := 128#32
  let v447 : BitVec 32 := Scalar.muli v301 c128_i32_318
  let v448 : Index := Scalar.indexCast v447
  let c0_321 : Index := 0#32
  ![1, 2, v448.toNat, 0]
def k0_off35 (d0 : Dev nD) (c1_i32_217 : BitVec 32) : Fin 4 → Nat :=
  let c1_327 : Index := 1#32
  let c3_328 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_326 : BitVec 32 := 128#32
  let v459 : BitVec 32 := Scalar.muli v301 c128_i32_326
  let v460 : Index := Scalar.indexCast v459
  let c0_329 : Index := 0#32
  ![1, 3, v460.toNat, 0]
def k0_off36 (d0 : Dev nD) (c1_i32_217 : BitVec 32) : Fin 4 → Nat :=
  let c1_335 : Index := 1#32
  let c4_336 : Index := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_334 : BitVec 32 := 128#32
  let v471 : BitVec 32 := Scalar.muli v301 c128_i32_334
  let v472 : Index := Scalar.indexCast v471
  let c0_337 : Index := 0#32
  ![1, 4, v472.toNat, 0]
def k0_off37 (d0 : Dev nD) (c1_i32_217 : BitVec 32) : Fin 4 → Nat :=
  let c1_343 : Index := 1#32
  let c5_344 : Index := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_342 : BitVec 32 := 128#32
  let v483 : BitVec 32 := Scalar.muli v301 c128_i32_342
  let v484 : Index := Scalar.indexCast v483
  let c0_345 : Index := 0#32
  ![1, 5, v484.toNat, 0]
def k0_off38 (d0 : Dev nD) (c1_i32_217 : BitVec 32) : Fin 4 → Nat :=
  let c1_351 : Index := 1#32
  let c6_352 : Index := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_350 : BitVec 32 := 128#32
  let v495 : BitVec 32 := Scalar.muli v301 c128_i32_350
  let v496 : Index := Scalar.indexCast v495
  let c0_353 : Index := 0#32
  ![1, 6, v496.toNat, 0]
def k0_off39 (d0 : Dev nD) (c1_i32_217 : BitVec 32) : Fin 4 → Nat :=
  let c1_359 : Index := 1#32
  let c7_360 : Index := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v299 : BitVec 32 := Scalar.subi v2 c1_i32_217
  let c32_i32_218 : BitVec 32 := 32#32
  let v300 : BitVec 32 := Scalar.addi v299 c32_i32_218
  let c16_i32_219 : BitVec 32 := 16#32
  let v301 : BitVec 32 := Scalar.remsi v300 c16_i32_219
  let c128_i32_358 : BitVec 32 := 128#32
  let v507 : BitVec 32 := Scalar.muli v301 c128_i32_358
  let v508 : Index := Scalar.indexCast v507
  let c0_361 : Index := 0#32
  ![1, 7, v508.toNat, 0]
def k0_off40 (d0 : Dev nD) (c1_i32_366 : BitVec 32) : Fin 3 → Nat :=
  let c0_369 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_368 : BitVec 32 := 128#32
  let v520 : BitVec 32 := Scalar.muli v519 c128_i32_368
  let v521 : Index := Scalar.indexCast v520
  let c0_370 : Index := 0#32
  ![0, v521.toNat, 0]
def k0_off41 (d0 : Dev nD) (c1_i32_366 : BitVec 32) : Fin 4 → Nat :=
  let c0_378 : Index := 0#32
  let c0_379 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_377 : BitVec 32 := 128#32
  let v533 : BitVec 32 := Scalar.muli v519 c128_i32_377
  let v534 : Index := Scalar.indexCast v533
  let c0_380 : Index := 0#32
  ![0, 0, v534.toNat, 0]
def k0_off42 (d0 : Dev nD) (c1_i32_366 : BitVec 32) : Fin 4 → Nat :=
  let c0_386 : Index := 0#32
  let c1_387 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_385 : BitVec 32 := 128#32
  let v545 : BitVec 32 := Scalar.muli v519 c128_i32_385
  let v546 : Index := Scalar.indexCast v545
  let c0_388 : Index := 0#32
  ![0, 1, v546.toNat, 0]
def k0_off43 (d0 : Dev nD) (c1_i32_366 : BitVec 32) : Fin 4 → Nat :=
  let c0_394 : Index := 0#32
  let c2_395 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_393 : BitVec 32 := 128#32
  let v557 : BitVec 32 := Scalar.muli v519 c128_i32_393
  let v558 : Index := Scalar.indexCast v557
  let c0_396 : Index := 0#32
  ![0, 2, v558.toNat, 0]
def k0_off44 (d0 : Dev nD) (c1_i32_366 : BitVec 32) : Fin 4 → Nat :=
  let c0_402 : Index := 0#32
  let c3_403 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_401 : BitVec 32 := 128#32
  let v569 : BitVec 32 := Scalar.muli v519 c128_i32_401
  let v570 : Index := Scalar.indexCast v569
  let c0_404 : Index := 0#32
  ![0, 3, v570.toNat, 0]
def k0_off45 (d0 : Dev nD) (c1_i32_366 : BitVec 32) : Fin 4 → Nat :=
  let c0_410 : Index := 0#32
  let c4_411 : Index := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_409 : BitVec 32 := 128#32
  let v581 : BitVec 32 := Scalar.muli v519 c128_i32_409
  let v582 : Index := Scalar.indexCast v581
  let c0_412 : Index := 0#32
  ![0, 4, v582.toNat, 0]
def k0_off46 (d0 : Dev nD) (c1_i32_366 : BitVec 32) : Fin 4 → Nat :=
  let c0_418 : Index := 0#32
  let c5_419 : Index := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_417 : BitVec 32 := 128#32
  let v593 : BitVec 32 := Scalar.muli v519 c128_i32_417
  let v594 : Index := Scalar.indexCast v593
  let c0_420 : Index := 0#32
  ![0, 5, v594.toNat, 0]
def k0_off47 (d0 : Dev nD) (c1_i32_366 : BitVec 32) : Fin 4 → Nat :=
  let c0_426 : Index := 0#32
  let c6_427 : Index := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_425 : BitVec 32 := 128#32
  let v605 : BitVec 32 := Scalar.muli v519 c128_i32_425
  let v606 : Index := Scalar.indexCast v605
  let c0_428 : Index := 0#32
  ![0, 6, v606.toNat, 0]
def k0_off48 (d0 : Dev nD) (c1_i32_366 : BitVec 32) : Fin 4 → Nat :=
  let c0_434 : Index := 0#32
  let c7_435 : Index := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_433 : BitVec 32 := 128#32
  let v617 : BitVec 32 := Scalar.muli v519 c128_i32_433
  let v618 : Index := Scalar.indexCast v617
  let c0_436 : Index := 0#32
  ![0, 7, v618.toNat, 0]
def k0_off49 (d0 : Dev nD) (c1_i32_366 : BitVec 32) : Fin 3 → Nat :=
  let c1_442 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_441 : BitVec 32 := 128#32
  let v628 : BitVec 32 := Scalar.muli v519 c128_i32_441
  let v629 : Index := Scalar.indexCast v628
  let c0_443 : Index := 0#32
  ![1, v629.toNat, 0]
def k0_off50 (d0 : Dev nD) (c1_i32_366 : BitVec 32) : Fin 4 → Nat :=
  let c1_451 : Index := 1#32
  let c0_452 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_450 : BitVec 32 := 128#32
  let v641 : BitVec 32 := Scalar.muli v519 c128_i32_450
  let v642 : Index := Scalar.indexCast v641
  let c0_453 : Index := 0#32
  ![1, 0, v642.toNat, 0]
def k0_off51 (d0 : Dev nD) (c1_i32_366 : BitVec 32) : Fin 4 → Nat :=
  let c1_459 : Index := 1#32
  let c1_460 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_458 : BitVec 32 := 128#32
  let v653 : BitVec 32 := Scalar.muli v519 c128_i32_458
  let v654 : Index := Scalar.indexCast v653
  let c0_461 : Index := 0#32
  ![1, 1, v654.toNat, 0]
def k0_off52 (d0 : Dev nD) (c1_i32_366 : BitVec 32) : Fin 4 → Nat :=
  let c1_467 : Index := 1#32
  let c2_468 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_466 : BitVec 32 := 128#32
  let v665 : BitVec 32 := Scalar.muli v519 c128_i32_466
  let v666 : Index := Scalar.indexCast v665
  let c0_469 : Index := 0#32
  ![1, 2, v666.toNat, 0]
def k0_off53 (d0 : Dev nD) (c1_i32_366 : BitVec 32) : Fin 4 → Nat :=
  let c1_475 : Index := 1#32
  let c3_476 : Index := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_474 : BitVec 32 := 128#32
  let v677 : BitVec 32 := Scalar.muli v519 c128_i32_474
  let v678 : Index := Scalar.indexCast v677
  let c0_477 : Index := 0#32
  ![1, 3, v678.toNat, 0]
def k0_off54 (d0 : Dev nD) (c1_i32_366 : BitVec 32) : Fin 4 → Nat :=
  let c1_483 : Index := 1#32
  let c4_484 : Index := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_482 : BitVec 32 := 128#32
  let v689 : BitVec 32 := Scalar.muli v519 c128_i32_482
  let v690 : Index := Scalar.indexCast v689
  let c0_485 : Index := 0#32
  ![1, 4, v690.toNat, 0]
def k0_off55 (d0 : Dev nD) (c1_i32_366 : BitVec 32) : Fin 4 → Nat :=
  let c1_491 : Index := 1#32
  let c5_492 : Index := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_490 : BitVec 32 := 128#32
  let v701 : BitVec 32 := Scalar.muli v519 c128_i32_490
  let v702 : Index := Scalar.indexCast v701
  let c0_493 : Index := 0#32
  ![1, 5, v702.toNat, 0]
def k0_off56 (d0 : Dev nD) (c1_i32_366 : BitVec 32) : Fin 4 → Nat :=
  let c1_499 : Index := 1#32
  let c6_500 : Index := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_498 : BitVec 32 := 128#32
  let v713 : BitVec 32 := Scalar.muli v519 c128_i32_498
  let v714 : Index := Scalar.indexCast v713
  let c0_501 : Index := 0#32
  ![1, 6, v714.toNat, 0]
def k0_off57 (d0 : Dev nD) (c1_i32_366 : BitVec 32) : Fin 4 → Nat :=
  let c1_507 : Index := 1#32
  let c7_508 : Index := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v518 : BitVec 32 := Scalar.addi v2 c1_i32_366
  let c16_i32_367 : BitVec 32 := 16#32
  let v519 : BitVec 32 := Scalar.remsi v518 c16_i32_367
  let c128_i32_506 : BitVec 32 := 128#32
  let v725 : BitVec 32 := Scalar.muli v519 c128_i32_506
  let v726 : Index := Scalar.indexCast v725
  let c0_509 : Index := 0#32
  ![1, 7, v726.toNat, 0]
def k0_dev7 (d0 : Dev nD) : Nat :=
  let c0_i32_530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_529 : BitVec 32 := 1#32
  let v747 : BitVec 32 := Scalar.muli v7 c1_i32_529
  let v748 : BitVec 32 := Scalar.addi c0_i32_530 v747
  v748.toNat
def k0_dev8 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_549 : BitVec 32 := 1#32
  let v765 : BitVec 32 := Scalar.muli v5 c1_i32_549
  let v766 : BitVec 32 := Scalar.addi c0_i32_550 v765
  v766.toNat
def k0_dev9 (d0 : Dev nD) : Nat :=
  let c0_i32_867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_866 : BitVec 32 := 1#32
  let v1221 : BitVec 32 := Scalar.muli v7 c1_i32_866
  let v1222 : BitVec 32 := Scalar.addi c0_i32_867 v1221
  v1222.toNat
def k0_dev10 (d0 : Dev nD) : Nat :=
  let c0_i32_887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_886 : BitVec 32 := 1#32
  let v1239 : BitVec 32 := Scalar.muli v5 c1_i32_886
  let v1240 : BitVec 32 := Scalar.addi c0_i32_887 v1239
  v1240.toNat
def k0_dev11 (d0 : Dev nD) : Nat :=
  let c0_i32_1204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1203 : BitVec 32 := 1#32
  let v1695 : BitVec 32 := Scalar.muli v7 c1_i32_1203
  let v1696 : BitVec 32 := Scalar.addi c0_i32_1204 v1695
  v1696.toNat
def k0_dev12 (d0 : Dev nD) : Nat :=
  let c0_i32_1224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1223 : BitVec 32 := 1#32
  let v1713 : BitVec 32 := Scalar.muli v5 c1_i32_1223
  let v1714 : BitVec 32 := Scalar.addi c0_i32_1224 v1713
  v1714.toNat
def k0_dev13 (d0 : Dev nD) : Nat :=
  let c0_i32_1541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1540 : BitVec 32 := 1#32
  let v2169 : BitVec 32 := Scalar.muli v7 c1_i32_1540
  let v2170 : BitVec 32 := Scalar.addi c0_i32_1541 v2169
  v2170.toNat
def k0_dev14 (d0 : Dev nD) : Nat :=
  let c0_i32_1561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1560 : BitVec 32 := 1#32
  let v2187 : BitVec 32 := Scalar.muli v5 c1_i32_1560
  let v2188 : BitVec 32 := Scalar.addi c0_i32_1561 v2187
  v2188.toNat
def k0_dev15 (d0 : Dev nD) : Nat :=
  let c0_i32_1878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1877 : BitVec 32 := 1#32
  let v2643 : BitVec 32 := Scalar.muli v7 c1_i32_1877
  let v2644 : BitVec 32 := Scalar.addi c0_i32_1878 v2643
  v2644.toNat
def k0_dev16 (d0 : Dev nD) : Nat :=
  let c0_i32_1898 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1897 : BitVec 32 := 1#32
  let v2661 : BitVec 32 := Scalar.muli v5 c1_i32_1897
  let v2662 : BitVec 32 := Scalar.addi c0_i32_1898 v2661
  v2662.toNat
def k0_dev17 (d0 : Dev nD) : Nat :=
  let c0_i32_2215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2214 : BitVec 32 := 1#32
  let v3117 : BitVec 32 := Scalar.muli v7 c1_i32_2214
  let v3118 : BitVec 32 := Scalar.addi c0_i32_2215 v3117
  v3118.toNat
def k0_off58 (d0 : Dev nD) (c0_i32_2681 : BitVec 32) : Fin 3 → Nat :=
  let c0_2686 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3793 : BitVec 32 := Scalar.subi v2 c0_i32_2681
  let c1_i32_2682 : BitVec 32 := 1#32
  let v3794 : BitVec 32 := Scalar.subi v3793 c1_i32_2682
  let c32_i32_2683 : BitVec 32 := 32#32
  let v3795 : BitVec 32 := Scalar.addi v3794 c32_i32_2683
  let c16_i32_2684 : BitVec 32 := 16#32
  let v3796 : BitVec 32 := Scalar.remsi v3795 c16_i32_2684
  let c128_i32_2685 : BitVec 32 := 128#32
  let v3797 : BitVec 32 := Scalar.muli v3796 c128_i32_2685
  let v3798 : Index := Scalar.indexCast v3797
  let c0_2687 : Index := 0#32
  ![0, v3798.toNat, 0]
def k0_off59 (d0 : Dev nD) (c0_i32_2681 : BitVec 32) : Fin 3 → Nat :=
  let c1_2689 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3793 : BitVec 32 := Scalar.subi v2 c0_i32_2681
  let c1_i32_2682 : BitVec 32 := 1#32
  let v3794 : BitVec 32 := Scalar.subi v3793 c1_i32_2682
  let c32_i32_2683 : BitVec 32 := 32#32
  let v3795 : BitVec 32 := Scalar.addi v3794 c32_i32_2683
  let c16_i32_2684 : BitVec 32 := 16#32
  let v3796 : BitVec 32 := Scalar.remsi v3795 c16_i32_2684
  let c128_i32_2688 : BitVec 32 := 128#32
  let v3801 : BitVec 32 := Scalar.muli v3796 c128_i32_2688
  let v3802 : Index := Scalar.indexCast v3801
  let c0_2690 : Index := 0#32
  ![1, v3802.toNat, 0]
@[reducible] def k0_t1_loop : Scf.Loop 32 :=
  let c0_i32_2693 : BitVec 32 := 0#32
  let c8_i32_2694 : BitVec 32 := 8#32
  let v3807 : BitVec 32 := Scalar.addi c0_i32_2693 c8_i32_2694
  let c1_i32_2695 : BitVec 32 := 1#32
  ⟨c0_i32_2693, v3807, c1_i32_2695⟩
def k0_off60 (k0_t1 : Fin k0_t1_loop.trips) : Fin 3 → Nat :=
  let c0_i32_2693 : BitVec 32 := 0#32
  let c1_i32_2695 : BitVec 32 := 1#32
  let arg17 : BitVec 32 := Scf.iv c0_i32_2693 c1_i32_2695 k0_t1
  let v4715 : Index := Scalar.indexCast arg17
  let c0_3799 : Index := 0#32
  let c0_3800 : Index := 0#32
  ![v4715.toNat, 0, 0]
def k0_off61 (k0_t1 : Fin k0_t1_loop.trips) : Fin 4 → Nat :=
  let c0_3802 : Index := 0#32
  let c0_i32_2693 : BitVec 32 := 0#32
  let c1_i32_2695 : BitVec 32 := 1#32
  let arg17 : BitVec 32 := Scf.iv c0_i32_2693 c1_i32_2695 k0_t1
  let v4720 : Index := Scalar.indexCast arg17
  let c0_3803 : Index := 0#32
  let c0_3804 : Index := 0#32
  ![0, v4720.toNat, 0, 0]
def k0_off62 (k0_t1 : Fin k0_t1_loop.trips) : Fin 3 → Nat :=
  let c0_i32_2693 : BitVec 32 := 0#32
  let c1_i32_2695 : BitVec 32 := 1#32
  let arg17 : BitVec 32 := Scf.iv c0_i32_2693 c1_i32_2695 k0_t1
  let v4736 : Index := Scalar.indexCast arg17
  let c0_3811 : Index := 0#32
  let c0_3812 : Index := 0#32
  ![v4736.toNat, 0, 0]
def k0_off63 (k0_t1 : Fin k0_t1_loop.trips) : Fin 4 → Nat :=
  let c1_3817 : Index := 1#32
  let c0_i32_2693 : BitVec 32 := 0#32
  let c1_i32_2695 : BitVec 32 := 1#32
  let arg17 : BitVec 32 := Scf.iv c0_i32_2693 c1_i32_2695 k0_t1
  let v4746 : Index := Scalar.indexCast arg17
  let c0_3818 : Index := 0#32
  let c0_3819 : Index := 0#32
  ![1, v4746.toNat, 0, 0]
def k0_dev18 (d0 : Dev nD) : Nat :=
  let c0_i32_2710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2709 : BitVec 32 := 1#32
  let v3817 : BitVec 32 := Scalar.muli v7 c1_i32_2709
  let v3818 : BitVec 32 := Scalar.addi c0_i32_2710 v3817
  v3818.toNat
@[reducible] def k0_t2_loop : Scf.Loop 32 :=
  let c0_i32_2729 : BitVec 32 := 0#32
  let c8_i32_2730 : BitVec 32 := 8#32
  let v3841 : BitVec 32 := Scalar.addi c0_i32_2729 c8_i32_2730
  let c1_i32_2731 : BitVec 32 := 1#32
  ⟨c0_i32_2729, v3841, c1_i32_2731⟩
def k0_off64 (k0_t2 : Fin k0_t2_loop.trips) : Fin 3 → Nat :=
  let c0_i32_2729 : BitVec 32 := 0#32
  let c1_i32_2731 : BitVec 32 := 1#32
  let arg17 : BitVec 32 := Scf.iv c0_i32_2729 c1_i32_2731 k0_t2
  let v4715 : Index := Scalar.indexCast arg17
  let c0_3799 : Index := 0#32
  let c0_3800 : Index := 0#32
  ![v4715.toNat, 0, 0]
def k0_off65 (k0_t2 : Fin k0_t2_loop.trips) : Fin 4 → Nat :=
  let c0_3802 : Index := 0#32
  let c0_i32_2729 : BitVec 32 := 0#32
  let c1_i32_2731 : BitVec 32 := 1#32
  let arg17 : BitVec 32 := Scf.iv c0_i32_2729 c1_i32_2731 k0_t2
  let v4720 : Index := Scalar.indexCast arg17
  let c0_3803 : Index := 0#32
  let c0_3804 : Index := 0#32
  ![0, v4720.toNat, 0, 0]
def k0_off66 (k0_t2 : Fin k0_t2_loop.trips) : Fin 3 → Nat :=
  let c0_i32_2729 : BitVec 32 := 0#32
  let c1_i32_2731 : BitVec 32 := 1#32
  let arg17 : BitVec 32 := Scf.iv c0_i32_2729 c1_i32_2731 k0_t2
  let v4736 : Index := Scalar.indexCast arg17
  let c0_3811 : Index := 0#32
  let c0_3812 : Index := 0#32
  ![v4736.toNat, 0, 0]
def k0_off67 (k0_t2 : Fin k0_t2_loop.trips) : Fin 4 → Nat :=
  let c1_3817 : Index := 1#32
  let c0_i32_2729 : BitVec 32 := 0#32
  let c1_i32_2731 : BitVec 32 := 1#32
  let arg17 : BitVec 32 := Scf.iv c0_i32_2729 c1_i32_2731 k0_t2
  let v4746 : Index := Scalar.indexCast arg17
  let c0_3818 : Index := 0#32
  let c0_3819 : Index := 0#32
  ![1, v4746.toNat, 0, 0]
def k0_dev19 (d0 : Dev nD) : Nat :=
  let c0_i32_2766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2765 : BitVec 32 := 1#32
  let v3867 : BitVec 32 := Scalar.muli v7 c1_i32_2765
  let v3868 : BitVec 32 := Scalar.addi c0_i32_2766 v3867
  v3868.toNat
@[reducible] def k0_t3_loop : Scf.Loop 32 :=
  let c0_i32_2785 : BitVec 32 := 0#32
  let c8_i32_2786 : BitVec 32 := 8#32
  let v3891 : BitVec 32 := Scalar.addi c0_i32_2785 c8_i32_2786
  let c1_i32_2787 : BitVec 32 := 1#32
  ⟨c0_i32_2785, v3891, c1_i32_2787⟩
def k0_off68 (k0_t3 : Fin k0_t3_loop.trips) : Fin 3 → Nat :=
  let c0_i32_2785 : BitVec 32 := 0#32
  let c1_i32_2787 : BitVec 32 := 1#32
  let arg17 : BitVec 32 := Scf.iv c0_i32_2785 c1_i32_2787 k0_t3
  let v4715 : Index := Scalar.indexCast arg17
  let c0_3799 : Index := 0#32
  let c0_3800 : Index := 0#32
  ![v4715.toNat, 0, 0]
def k0_off69 (k0_t3 : Fin k0_t3_loop.trips) : Fin 4 → Nat :=
  let c0_3802 : Index := 0#32
  let c0_i32_2785 : BitVec 32 := 0#32
  let c1_i32_2787 : BitVec 32 := 1#32
  let arg17 : BitVec 32 := Scf.iv c0_i32_2785 c1_i32_2787 k0_t3
  let v4720 : Index := Scalar.indexCast arg17
  let c0_3803 : Index := 0#32
  let c0_3804 : Index := 0#32
  ![0, v4720.toNat, 0, 0]
def k0_off70 (k0_t3 : Fin k0_t3_loop.trips) : Fin 3 → Nat :=
  let c0_i32_2785 : BitVec 32 := 0#32
  let c1_i32_2787 : BitVec 32 := 1#32
  let arg17 : BitVec 32 := Scf.iv c0_i32_2785 c1_i32_2787 k0_t3
  let v4736 : Index := Scalar.indexCast arg17
  let c0_3811 : Index := 0#32
  let c0_3812 : Index := 0#32
  ![v4736.toNat, 0, 0]
def k0_off71 (k0_t3 : Fin k0_t3_loop.trips) : Fin 4 → Nat :=
  let c1_3817 : Index := 1#32
  let c0_i32_2785 : BitVec 32 := 0#32
  let c1_i32_2787 : BitVec 32 := 1#32
  let arg17 : BitVec 32 := Scf.iv c0_i32_2785 c1_i32_2787 k0_t3
  let v4746 : Index := Scalar.indexCast arg17
  let c0_3818 : Index := 0#32
  let c0_3819 : Index := 0#32
  ![1, v4746.toNat, 0, 0]
def k0_dev20 (d0 : Dev nD) : Nat :=
  let c0_i32_2833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2832 : BitVec 32 := 1#32
  let v3923 : BitVec 32 := Scalar.muli v7 c1_i32_2832
  let v3924 : BitVec 32 := Scalar.addi c0_i32_2833 v3923
  v3924.toNat
@[reducible] def k0_t4_loop : Scf.Loop 32 :=
  let c0_i32_2852 : BitVec 32 := 0#32
  let c8_i32_2853 : BitVec 32 := 8#32
  let v3947 : BitVec 32 := Scalar.addi c0_i32_2852 c8_i32_2853
  let c1_i32_2854 : BitVec 32 := 1#32
  ⟨c0_i32_2852, v3947, c1_i32_2854⟩
def k0_off72 (k0_t4 : Fin k0_t4_loop.trips) : Fin 3 → Nat :=
  let c0_i32_2852 : BitVec 32 := 0#32
  let c1_i32_2854 : BitVec 32 := 1#32
  let arg17 : BitVec 32 := Scf.iv c0_i32_2852 c1_i32_2854 k0_t4
  let v4715 : Index := Scalar.indexCast arg17
  let c0_3799 : Index := 0#32
  let c0_3800 : Index := 0#32
  ![v4715.toNat, 0, 0]
def k0_off73 (k0_t4 : Fin k0_t4_loop.trips) : Fin 4 → Nat :=
  let c0_3802 : Index := 0#32
  let c0_i32_2852 : BitVec 32 := 0#32
  let c1_i32_2854 : BitVec 32 := 1#32
  let arg17 : BitVec 32 := Scf.iv c0_i32_2852 c1_i32_2854 k0_t4
  let v4720 : Index := Scalar.indexCast arg17
  let c0_3803 : Index := 0#32
  let c0_3804 : Index := 0#32
  ![0, v4720.toNat, 0, 0]
def k0_off74 (k0_t4 : Fin k0_t4_loop.trips) : Fin 3 → Nat :=
  let c0_i32_2852 : BitVec 32 := 0#32
  let c1_i32_2854 : BitVec 32 := 1#32
  let arg17 : BitVec 32 := Scf.iv c0_i32_2852 c1_i32_2854 k0_t4
  let v4736 : Index := Scalar.indexCast arg17
  let c0_3811 : Index := 0#32
  let c0_3812 : Index := 0#32
  ![v4736.toNat, 0, 0]
def k0_off75 (k0_t4 : Fin k0_t4_loop.trips) : Fin 4 → Nat :=
  let c1_3817 : Index := 1#32
  let c0_i32_2852 : BitVec 32 := 0#32
  let c1_i32_2854 : BitVec 32 := 1#32
  let arg17 : BitVec 32 := Scf.iv c0_i32_2852 c1_i32_2854 k0_t4
  let v4746 : Index := Scalar.indexCast arg17
  let c0_3818 : Index := 0#32
  let c0_3819 : Index := 0#32
  ![1, v4746.toNat, 0, 0]
def k0_dev21 (d0 : Dev nD) : Nat :=
  let c0_i32_2900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2899 : BitVec 32 := 1#32
  let v3979 : BitVec 32 := Scalar.muli v7 c1_i32_2899
  let v3980 : BitVec 32 := Scalar.addi c0_i32_2900 v3979
  v3980.toNat
@[reducible] def k0_t5_loop : Scf.Loop 32 :=
  let c0_i32_2919 : BitVec 32 := 0#32
  let c8_i32_2920 : BitVec 32 := 8#32
  let v4003 : BitVec 32 := Scalar.addi c0_i32_2919 c8_i32_2920
  let c1_i32_2921 : BitVec 32 := 1#32
  ⟨c0_i32_2919, v4003, c1_i32_2921⟩
def k0_off76 (k0_t5 : Fin k0_t5_loop.trips) : Fin 3 → Nat :=
  let c0_i32_2919 : BitVec 32 := 0#32
  let c1_i32_2921 : BitVec 32 := 1#32
  let arg17 : BitVec 32 := Scf.iv c0_i32_2919 c1_i32_2921 k0_t5
  let v4715 : Index := Scalar.indexCast arg17
  let c0_3799 : Index := 0#32
  let c0_3800 : Index := 0#32
  ![v4715.toNat, 0, 0]
def k0_off77 (k0_t5 : Fin k0_t5_loop.trips) : Fin 4 → Nat :=
  let c0_3802 : Index := 0#32
  let c0_i32_2919 : BitVec 32 := 0#32
  let c1_i32_2921 : BitVec 32 := 1#32
  let arg17 : BitVec 32 := Scf.iv c0_i32_2919 c1_i32_2921 k0_t5
  let v4720 : Index := Scalar.indexCast arg17
  let c0_3803 : Index := 0#32
  let c0_3804 : Index := 0#32
  ![0, v4720.toNat, 0, 0]
def k0_off78 (k0_t5 : Fin k0_t5_loop.trips) : Fin 3 → Nat :=
  let c0_i32_2919 : BitVec 32 := 0#32
  let c1_i32_2921 : BitVec 32 := 1#32
  let arg17 : BitVec 32 := Scf.iv c0_i32_2919 c1_i32_2921 k0_t5
  let v4736 : Index := Scalar.indexCast arg17
  let c0_3811 : Index := 0#32
  let c0_3812 : Index := 0#32
  ![v4736.toNat, 0, 0]
def k0_off79 (k0_t5 : Fin k0_t5_loop.trips) : Fin 4 → Nat :=
  let c1_3817 : Index := 1#32
  let c0_i32_2919 : BitVec 32 := 0#32
  let c1_i32_2921 : BitVec 32 := 1#32
  let arg17 : BitVec 32 := Scf.iv c0_i32_2919 c1_i32_2921 k0_t5
  let v4746 : Index := Scalar.indexCast arg17
  let c0_3818 : Index := 0#32
  let c0_3819 : Index := 0#32
  ![1, v4746.toNat, 0, 0]
def k0_dev22 (d0 : Dev nD) : Nat :=
  let c0_i32_2967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2966 : BitVec 32 := 1#32
  let v4035 : BitVec 32 := Scalar.muli v7 c1_i32_2966
  let v4036 : BitVec 32 := Scalar.addi c0_i32_2967 v4035
  v4036.toNat
@[reducible] def k0_t6_loop : Scf.Loop 32 :=
  let c0_i32_2986 : BitVec 32 := 0#32
  let c8_i32_2987 : BitVec 32 := 8#32
  let v4059 : BitVec 32 := Scalar.addi c0_i32_2986 c8_i32_2987
  let c1_i32_2988 : BitVec 32 := 1#32
  ⟨c0_i32_2986, v4059, c1_i32_2988⟩
def k0_off80 (k0_t6 : Fin k0_t6_loop.trips) : Fin 3 → Nat :=
  let c0_i32_2986 : BitVec 32 := 0#32
  let c1_i32_2988 : BitVec 32 := 1#32
  let arg17 : BitVec 32 := Scf.iv c0_i32_2986 c1_i32_2988 k0_t6
  let v4715 : Index := Scalar.indexCast arg17
  let c0_3799 : Index := 0#32
  let c0_3800 : Index := 0#32
  ![v4715.toNat, 0, 0]
def k0_off81 (k0_t6 : Fin k0_t6_loop.trips) : Fin 4 → Nat :=
  let c0_3802 : Index := 0#32
  let c0_i32_2986 : BitVec 32 := 0#32
  let c1_i32_2988 : BitVec 32 := 1#32
  let arg17 : BitVec 32 := Scf.iv c0_i32_2986 c1_i32_2988 k0_t6
  let v4720 : Index := Scalar.indexCast arg17
  let c0_3803 : Index := 0#32
  let c0_3804 : Index := 0#32
  ![0, v4720.toNat, 0, 0]
def k0_off82 (k0_t6 : Fin k0_t6_loop.trips) : Fin 3 → Nat :=
  let c0_i32_2986 : BitVec 32 := 0#32
  let c1_i32_2988 : BitVec 32 := 1#32
  let arg17 : BitVec 32 := Scf.iv c0_i32_2986 c1_i32_2988 k0_t6
  let v4736 : Index := Scalar.indexCast arg17
  let c0_3811 : Index := 0#32
  let c0_3812 : Index := 0#32
  ![v4736.toNat, 0, 0]
def k0_off83 (k0_t6 : Fin k0_t6_loop.trips) : Fin 4 → Nat :=
  let c1_3817 : Index := 1#32
  let c0_i32_2986 : BitVec 32 := 0#32
  let c1_i32_2988 : BitVec 32 := 1#32
  let arg17 : BitVec 32 := Scf.iv c0_i32_2986 c1_i32_2988 k0_t6
  let v4746 : Index := Scalar.indexCast arg17
  let c0_3818 : Index := 0#32
  let c0_3819 : Index := 0#32
  ![1, v4746.toNat, 0, 0]
def k0_dev23 (d0 : Dev nD) : Nat :=
  let c0_i32_3034 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3033 : BitVec 32 := 1#32
  let v4091 : BitVec 32 := Scalar.muli v7 c1_i32_3033
  let v4092 : BitVec 32 := Scalar.addi c0_i32_3034 v4091
  v4092.toNat
@[reducible] def k0_t7_loop : Scf.Loop 32 :=
  let c0_i32_3053 : BitVec 32 := 0#32
  let c8_i32_3054 : BitVec 32 := 8#32
  let v4115 : BitVec 32 := Scalar.addi c0_i32_3053 c8_i32_3054
  let c1_i32_3055 : BitVec 32 := 1#32
  ⟨c0_i32_3053, v4115, c1_i32_3055⟩
def k0_off84 (k0_t7 : Fin k0_t7_loop.trips) : Fin 3 → Nat :=
  let c0_i32_3053 : BitVec 32 := 0#32
  let c1_i32_3055 : BitVec 32 := 1#32
  let arg17 : BitVec 32 := Scf.iv c0_i32_3053 c1_i32_3055 k0_t7
  let v4715 : Index := Scalar.indexCast arg17
  let c0_3799 : Index := 0#32
  let c0_3800 : Index := 0#32
  ![v4715.toNat, 0, 0]
def k0_off85 (k0_t7 : Fin k0_t7_loop.trips) : Fin 4 → Nat :=
  let c0_3802 : Index := 0#32
  let c0_i32_3053 : BitVec 32 := 0#32
  let c1_i32_3055 : BitVec 32 := 1#32
  let arg17 : BitVec 32 := Scf.iv c0_i32_3053 c1_i32_3055 k0_t7
  let v4720 : Index := Scalar.indexCast arg17
  let c0_3803 : Index := 0#32
  let c0_3804 : Index := 0#32
  ![0, v4720.toNat, 0, 0]
def k0_off86 (k0_t7 : Fin k0_t7_loop.trips) : Fin 3 → Nat :=
  let c0_i32_3053 : BitVec 32 := 0#32
  let c1_i32_3055 : BitVec 32 := 1#32
  let arg17 : BitVec 32 := Scf.iv c0_i32_3053 c1_i32_3055 k0_t7
  let v4736 : Index := Scalar.indexCast arg17
  let c0_3811 : Index := 0#32
  let c0_3812 : Index := 0#32
  ![v4736.toNat, 0, 0]
def k0_off87 (k0_t7 : Fin k0_t7_loop.trips) : Fin 4 → Nat :=
  let c1_3817 : Index := 1#32
  let c0_i32_3053 : BitVec 32 := 0#32
  let c1_i32_3055 : BitVec 32 := 1#32
  let arg17 : BitVec 32 := Scf.iv c0_i32_3053 c1_i32_3055 k0_t7
  let v4746 : Index := Scalar.indexCast arg17
  let c0_3818 : Index := 0#32
  let c0_3819 : Index := 0#32
  ![1, v4746.toNat, 0, 0]
def k0_dev24 (d0 : Dev nD) : Nat :=
  let c0_i32_3101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3100 : BitVec 32 := 1#32
  let v4147 : BitVec 32 := Scalar.muli v7 c1_i32_3100
  let v4148 : BitVec 32 := Scalar.addi c0_i32_3101 v4147
  v4148.toNat
@[reducible] def k0_t8_loop : Scf.Loop 32 :=
  let c0_i32_3120 : BitVec 32 := 0#32
  let c8_i32_3121 : BitVec 32 := 8#32
  let v4171 : BitVec 32 := Scalar.addi c0_i32_3120 c8_i32_3121
  let c1_i32_3122 : BitVec 32 := 1#32
  ⟨c0_i32_3120, v4171, c1_i32_3122⟩
def k0_off88 (k0_t8 : Fin k0_t8_loop.trips) : Fin 3 → Nat :=
  let c0_i32_3120 : BitVec 32 := 0#32
  let c1_i32_3122 : BitVec 32 := 1#32
  let arg17 : BitVec 32 := Scf.iv c0_i32_3120 c1_i32_3122 k0_t8
  let v4715 : Index := Scalar.indexCast arg17
  let c0_3799 : Index := 0#32
  let c0_3800 : Index := 0#32
  ![v4715.toNat, 0, 0]
def k0_off89 (k0_t8 : Fin k0_t8_loop.trips) : Fin 4 → Nat :=
  let c0_3802 : Index := 0#32
  let c0_i32_3120 : BitVec 32 := 0#32
  let c1_i32_3122 : BitVec 32 := 1#32
  let arg17 : BitVec 32 := Scf.iv c0_i32_3120 c1_i32_3122 k0_t8
  let v4720 : Index := Scalar.indexCast arg17
  let c0_3803 : Index := 0#32
  let c0_3804 : Index := 0#32
  ![0, v4720.toNat, 0, 0]
def k0_off90 (k0_t8 : Fin k0_t8_loop.trips) : Fin 3 → Nat :=
  let c0_i32_3120 : BitVec 32 := 0#32
  let c1_i32_3122 : BitVec 32 := 1#32
  let arg17 : BitVec 32 := Scf.iv c0_i32_3120 c1_i32_3122 k0_t8
  let v4736 : Index := Scalar.indexCast arg17
  let c0_3811 : Index := 0#32
  let c0_3812 : Index := 0#32
  ![v4736.toNat, 0, 0]
def k0_off91 (k0_t8 : Fin k0_t8_loop.trips) : Fin 4 → Nat :=
  let c1_3817 : Index := 1#32
  let c0_i32_3120 : BitVec 32 := 0#32
  let c1_i32_3122 : BitVec 32 := 1#32
  let arg17 : BitVec 32 := Scf.iv c0_i32_3120 c1_i32_3122 k0_t8
  let v4746 : Index := Scalar.indexCast arg17
  let c0_3818 : Index := 0#32
  let c0_3819 : Index := 0#32
  ![1, v4746.toNat, 0, 0]
def k0_dev25 (d0 : Dev nD) : Nat :=
  let c0_i32_3168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3167 : BitVec 32 := 1#32
  let v4203 : BitVec 32 := Scalar.muli v7 c1_i32_3167
  let v4204 : BitVec 32 := Scalar.addi c0_i32_3168 v4203
  v4204.toNat
@[reducible] def k0_t9_loop : Scf.Loop 32 :=
  let c0_i32_3187 : BitVec 32 := 0#32
  let c8_i32_3188 : BitVec 32 := 8#32
  let v4227 : BitVec 32 := Scalar.addi c0_i32_3187 c8_i32_3188
  let c1_i32_3189 : BitVec 32 := 1#32
  ⟨c0_i32_3187, v4227, c1_i32_3189⟩
def k0_off92 (k0_t9 : Fin k0_t9_loop.trips) : Fin 3 → Nat :=
  let c0_i32_3187 : BitVec 32 := 0#32
  let c1_i32_3189 : BitVec 32 := 1#32
  let arg17 : BitVec 32 := Scf.iv c0_i32_3187 c1_i32_3189 k0_t9
  let v4715 : Index := Scalar.indexCast arg17
  let c0_3799 : Index := 0#32
  let c0_3800 : Index := 0#32
  ![v4715.toNat, 0, 0]
def k0_off93 (k0_t9 : Fin k0_t9_loop.trips) : Fin 4 → Nat :=
  let c0_3802 : Index := 0#32
  let c0_i32_3187 : BitVec 32 := 0#32
  let c1_i32_3189 : BitVec 32 := 1#32
  let arg17 : BitVec 32 := Scf.iv c0_i32_3187 c1_i32_3189 k0_t9
  let v4720 : Index := Scalar.indexCast arg17
  let c0_3803 : Index := 0#32
  let c0_3804 : Index := 0#32
  ![0, v4720.toNat, 0, 0]
def k0_off94 (k0_t9 : Fin k0_t9_loop.trips) : Fin 3 → Nat :=
  let c0_i32_3187 : BitVec 32 := 0#32
  let c1_i32_3189 : BitVec 32 := 1#32
  let arg17 : BitVec 32 := Scf.iv c0_i32_3187 c1_i32_3189 k0_t9
  let v4736 : Index := Scalar.indexCast arg17
  let c0_3811 : Index := 0#32
  let c0_3812 : Index := 0#32
  ![v4736.toNat, 0, 0]
def k0_off95 (k0_t9 : Fin k0_t9_loop.trips) : Fin 4 → Nat :=
  let c1_3817 : Index := 1#32
  let c0_i32_3187 : BitVec 32 := 0#32
  let c1_i32_3189 : BitVec 32 := 1#32
  let arg17 : BitVec 32 := Scf.iv c0_i32_3187 c1_i32_3189 k0_t9
  let v4746 : Index := Scalar.indexCast arg17
  let c0_3818 : Index := 0#32
  let c0_3819 : Index := 0#32
  ![1, v4746.toNat, 0, 0]
def k0_dev26 (d0 : Dev nD) : Nat :=
  let c0_i32_3235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3234 : BitVec 32 := 1#32
  let v4259 : BitVec 32 := Scalar.muli v7 c1_i32_3234
  let v4260 : BitVec 32 := Scalar.addi c0_i32_3235 v4259
  v4260.toNat
@[reducible] def k0_t10_loop : Scf.Loop 32 :=
  let c0_i32_3253 : BitVec 32 := 0#32
  let c8_i32_3254 : BitVec 32 := 8#32
  let v4283 : BitVec 32 := Scalar.addi c0_i32_3253 c8_i32_3254
  let c1_i32_3255 : BitVec 32 := 1#32
  ⟨c0_i32_3253, v4283, c1_i32_3255⟩
def k0_off96 (k0_t10 : Fin k0_t10_loop.trips) : Fin 3 → Nat :=
  let c0_i32_3253 : BitVec 32 := 0#32
  let c1_i32_3255 : BitVec 32 := 1#32
  let arg17 : BitVec 32 := Scf.iv c0_i32_3253 c1_i32_3255 k0_t10
  let v4715 : Index := Scalar.indexCast arg17
  let c0_3799 : Index := 0#32
  let c0_3800 : Index := 0#32
  ![v4715.toNat, 0, 0]
def k0_off97 (k0_t10 : Fin k0_t10_loop.trips) : Fin 4 → Nat :=
  let c0_3802 : Index := 0#32
  let c0_i32_3253 : BitVec 32 := 0#32
  let c1_i32_3255 : BitVec 32 := 1#32
  let arg17 : BitVec 32 := Scf.iv c0_i32_3253 c1_i32_3255 k0_t10
  let v4720 : Index := Scalar.indexCast arg17
  let c0_3803 : Index := 0#32
  let c0_3804 : Index := 0#32
  ![0, v4720.toNat, 0, 0]
def k0_off98 (k0_t10 : Fin k0_t10_loop.trips) : Fin 3 → Nat :=
  let c0_i32_3253 : BitVec 32 := 0#32
  let c1_i32_3255 : BitVec 32 := 1#32
  let arg17 : BitVec 32 := Scf.iv c0_i32_3253 c1_i32_3255 k0_t10
  let v4736 : Index := Scalar.indexCast arg17
  let c0_3811 : Index := 0#32
  let c0_3812 : Index := 0#32
  ![v4736.toNat, 0, 0]
def k0_off99 (k0_t10 : Fin k0_t10_loop.trips) : Fin 4 → Nat :=
  let c1_3817 : Index := 1#32
  let c0_i32_3253 : BitVec 32 := 0#32
  let c1_i32_3255 : BitVec 32 := 1#32
  let arg17 : BitVec 32 := Scf.iv c0_i32_3253 c1_i32_3255 k0_t10
  let v4746 : Index := Scalar.indexCast arg17
  let c0_3818 : Index := 0#32
  let c0_3819 : Index := 0#32
  ![1, v4746.toNat, 0, 0]
def k0_dev27 (d0 : Dev nD) : Nat :=
  let c0_i32_3300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3299 : BitVec 32 := 1#32
  let v4315 : BitVec 32 := Scalar.muli v7 c1_i32_3299
  let v4316 : BitVec 32 := Scalar.addi c0_i32_3300 v4315
  v4316.toNat
@[reducible] def k0_t11_loop : Scf.Loop 32 :=
  let c0_i32_3318 : BitVec 32 := 0#32
  let c8_i32_3319 : BitVec 32 := 8#32
  let v4339 : BitVec 32 := Scalar.addi c0_i32_3318 c8_i32_3319
  let c1_i32_3320 : BitVec 32 := 1#32
  ⟨c0_i32_3318, v4339, c1_i32_3320⟩
def k0_off100 (k0_t11 : Fin k0_t11_loop.trips) : Fin 3 → Nat :=
  let c0_i32_3318 : BitVec 32 := 0#32
  let c1_i32_3320 : BitVec 32 := 1#32
  let arg17 : BitVec 32 := Scf.iv c0_i32_3318 c1_i32_3320 k0_t11
  let v4715 : Index := Scalar.indexCast arg17
  let c0_3799 : Index := 0#32
  let c0_3800 : Index := 0#32
  ![v4715.toNat, 0, 0]
def k0_off101 (k0_t11 : Fin k0_t11_loop.trips) : Fin 4 → Nat :=
  let c0_3802 : Index := 0#32
  let c0_i32_3318 : BitVec 32 := 0#32
  let c1_i32_3320 : BitVec 32 := 1#32
  let arg17 : BitVec 32 := Scf.iv c0_i32_3318 c1_i32_3320 k0_t11
  let v4720 : Index := Scalar.indexCast arg17
  let c0_3803 : Index := 0#32
  let c0_3804 : Index := 0#32
  ![0, v4720.toNat, 0, 0]
def k0_off102 (k0_t11 : Fin k0_t11_loop.trips) : Fin 3 → Nat :=
  let c0_i32_3318 : BitVec 32 := 0#32
  let c1_i32_3320 : BitVec 32 := 1#32
  let arg17 : BitVec 32 := Scf.iv c0_i32_3318 c1_i32_3320 k0_t11
  let v4736 : Index := Scalar.indexCast arg17
  let c0_3811 : Index := 0#32
  let c0_3812 : Index := 0#32
  ![v4736.toNat, 0, 0]
def k0_off103 (k0_t11 : Fin k0_t11_loop.trips) : Fin 4 → Nat :=
  let c1_3817 : Index := 1#32
  let c0_i32_3318 : BitVec 32 := 0#32
  let c1_i32_3320 : BitVec 32 := 1#32
  let arg17 : BitVec 32 := Scf.iv c0_i32_3318 c1_i32_3320 k0_t11
  let v4746 : Index := Scalar.indexCast arg17
  let c0_3818 : Index := 0#32
  let c0_3819 : Index := 0#32
  ![1, v4746.toNat, 0, 0]
def k0_dev28 (d0 : Dev nD) : Nat :=
  let c0_i32_3365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3364 : BitVec 32 := 1#32
  let v4371 : BitVec 32 := Scalar.muli v7 c1_i32_3364
  let v4372 : BitVec 32 := Scalar.addi c0_i32_3365 v4371
  v4372.toNat
@[reducible] def k0_t12_loop : Scf.Loop 32 :=
  let c0_i32_3383 : BitVec 32 := 0#32
  let c8_i32_3384 : BitVec 32 := 8#32
  let v4395 : BitVec 32 := Scalar.addi c0_i32_3383 c8_i32_3384
  let c1_i32_3385 : BitVec 32 := 1#32
  ⟨c0_i32_3383, v4395, c1_i32_3385⟩
def k0_off104 (k0_t12 : Fin k0_t12_loop.trips) : Fin 3 → Nat :=
  let c0_i32_3383 : BitVec 32 := 0#32
  let c1_i32_3385 : BitVec 32 := 1#32
  let arg17 : BitVec 32 := Scf.iv c0_i32_3383 c1_i32_3385 k0_t12
  let v4715 : Index := Scalar.indexCast arg17
  let c0_3799 : Index := 0#32
  let c0_3800 : Index := 0#32
  ![v4715.toNat, 0, 0]
def k0_off105 (k0_t12 : Fin k0_t12_loop.trips) : Fin 4 → Nat :=
  let c0_3802 : Index := 0#32
  let c0_i32_3383 : BitVec 32 := 0#32
  let c1_i32_3385 : BitVec 32 := 1#32
  let arg17 : BitVec 32 := Scf.iv c0_i32_3383 c1_i32_3385 k0_t12
  let v4720 : Index := Scalar.indexCast arg17
  let c0_3803 : Index := 0#32
  let c0_3804 : Index := 0#32
  ![0, v4720.toNat, 0, 0]
def k0_off106 (k0_t12 : Fin k0_t12_loop.trips) : Fin 3 → Nat :=
  let c0_i32_3383 : BitVec 32 := 0#32
  let c1_i32_3385 : BitVec 32 := 1#32
  let arg17 : BitVec 32 := Scf.iv c0_i32_3383 c1_i32_3385 k0_t12
  let v4736 : Index := Scalar.indexCast arg17
  let c0_3811 : Index := 0#32
  let c0_3812 : Index := 0#32
  ![v4736.toNat, 0, 0]
def k0_off107 (k0_t12 : Fin k0_t12_loop.trips) : Fin 4 → Nat :=
  let c1_3817 : Index := 1#32
  let c0_i32_3383 : BitVec 32 := 0#32
  let c1_i32_3385 : BitVec 32 := 1#32
  let arg17 : BitVec 32 := Scf.iv c0_i32_3383 c1_i32_3385 k0_t12
  let v4746 : Index := Scalar.indexCast arg17
  let c0_3818 : Index := 0#32
  let c0_3819 : Index := 0#32
  ![1, v4746.toNat, 0, 0]
def k0_dev29 (d0 : Dev nD) : Nat :=
  let c0_i32_3430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3429 : BitVec 32 := 1#32
  let v4427 : BitVec 32 := Scalar.muli v7 c1_i32_3429
  let v4428 : BitVec 32 := Scalar.addi c0_i32_3430 v4427
  v4428.toNat
@[reducible] def k0_t13_loop : Scf.Loop 32 :=
  let c0_i32_3448 : BitVec 32 := 0#32
  let c8_i32_3449 : BitVec 32 := 8#32
  let v4451 : BitVec 32 := Scalar.addi c0_i32_3448 c8_i32_3449
  let c1_i32_3450 : BitVec 32 := 1#32
  ⟨c0_i32_3448, v4451, c1_i32_3450⟩
def k0_off108 (k0_t13 : Fin k0_t13_loop.trips) : Fin 3 → Nat :=
  let c0_i32_3448 : BitVec 32 := 0#32
  let c1_i32_3450 : BitVec 32 := 1#32
  let arg17 : BitVec 32 := Scf.iv c0_i32_3448 c1_i32_3450 k0_t13
  let v4715 : Index := Scalar.indexCast arg17
  let c0_3799 : Index := 0#32
  let c0_3800 : Index := 0#32
  ![v4715.toNat, 0, 0]
def k0_off109 (k0_t13 : Fin k0_t13_loop.trips) : Fin 4 → Nat :=
  let c0_3802 : Index := 0#32
  let c0_i32_3448 : BitVec 32 := 0#32
  let c1_i32_3450 : BitVec 32 := 1#32
  let arg17 : BitVec 32 := Scf.iv c0_i32_3448 c1_i32_3450 k0_t13
  let v4720 : Index := Scalar.indexCast arg17
  let c0_3803 : Index := 0#32
  let c0_3804 : Index := 0#32
  ![0, v4720.toNat, 0, 0]
def k0_off110 (k0_t13 : Fin k0_t13_loop.trips) : Fin 3 → Nat :=
  let c0_i32_3448 : BitVec 32 := 0#32
  let c1_i32_3450 : BitVec 32 := 1#32
  let arg17 : BitVec 32 := Scf.iv c0_i32_3448 c1_i32_3450 k0_t13
  let v4736 : Index := Scalar.indexCast arg17
  let c0_3811 : Index := 0#32
  let c0_3812 : Index := 0#32
  ![v4736.toNat, 0, 0]
def k0_off111 (k0_t13 : Fin k0_t13_loop.trips) : Fin 4 → Nat :=
  let c1_3817 : Index := 1#32
  let c0_i32_3448 : BitVec 32 := 0#32
  let c1_i32_3450 : BitVec 32 := 1#32
  let arg17 : BitVec 32 := Scf.iv c0_i32_3448 c1_i32_3450 k0_t13
  let v4746 : Index := Scalar.indexCast arg17
  let c0_3818 : Index := 0#32
  let c0_3819 : Index := 0#32
  ![1, v4746.toNat, 0, 0]
def k0_dev30 (d0 : Dev nD) : Nat :=
  let c0_i32_3495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3494 : BitVec 32 := 1#32
  let v4483 : BitVec 32 := Scalar.muli v7 c1_i32_3494
  let v4484 : BitVec 32 := Scalar.addi c0_i32_3495 v4483
  v4484.toNat
@[reducible] def k0_t14_loop : Scf.Loop 32 :=
  let c0_i32_3513 : BitVec 32 := 0#32
  let c8_i32_3514 : BitVec 32 := 8#32
  let v4507 : BitVec 32 := Scalar.addi c0_i32_3513 c8_i32_3514
  let c1_i32_3515 : BitVec 32 := 1#32
  ⟨c0_i32_3513, v4507, c1_i32_3515⟩
def k0_off112 (k0_t14 : Fin k0_t14_loop.trips) : Fin 3 → Nat :=
  let c0_i32_3513 : BitVec 32 := 0#32
  let c1_i32_3515 : BitVec 32 := 1#32
  let arg17 : BitVec 32 := Scf.iv c0_i32_3513 c1_i32_3515 k0_t14
  let v4715 : Index := Scalar.indexCast arg17
  let c0_3799 : Index := 0#32
  let c0_3800 : Index := 0#32
  ![v4715.toNat, 0, 0]
def k0_off113 (k0_t14 : Fin k0_t14_loop.trips) : Fin 4 → Nat :=
  let c0_3802 : Index := 0#32
  let c0_i32_3513 : BitVec 32 := 0#32
  let c1_i32_3515 : BitVec 32 := 1#32
  let arg17 : BitVec 32 := Scf.iv c0_i32_3513 c1_i32_3515 k0_t14
  let v4720 : Index := Scalar.indexCast arg17
  let c0_3803 : Index := 0#32
  let c0_3804 : Index := 0#32
  ![0, v4720.toNat, 0, 0]
def k0_off114 (k0_t14 : Fin k0_t14_loop.trips) : Fin 3 → Nat :=
  let c0_i32_3513 : BitVec 32 := 0#32
  let c1_i32_3515 : BitVec 32 := 1#32
  let arg17 : BitVec 32 := Scf.iv c0_i32_3513 c1_i32_3515 k0_t14
  let v4736 : Index := Scalar.indexCast arg17
  let c0_3811 : Index := 0#32
  let c0_3812 : Index := 0#32
  ![v4736.toNat, 0, 0]
def k0_off115 (k0_t14 : Fin k0_t14_loop.trips) : Fin 4 → Nat :=
  let c1_3817 : Index := 1#32
  let c0_i32_3513 : BitVec 32 := 0#32
  let c1_i32_3515 : BitVec 32 := 1#32
  let arg17 : BitVec 32 := Scf.iv c0_i32_3513 c1_i32_3515 k0_t14
  let v4746 : Index := Scalar.indexCast arg17
  let c0_3818 : Index := 0#32
  let c0_3819 : Index := 0#32
  ![1, v4746.toNat, 0, 0]
def k0_dev31 (d0 : Dev nD) : Nat :=
  let c0_i32_3560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3559 : BitVec 32 := 1#32
  let v4539 : BitVec 32 := Scalar.muli v7 c1_i32_3559
  let v4540 : BitVec 32 := Scalar.addi c0_i32_3560 v4539
  v4540.toNat
@[reducible] def k0_t15_loop : Scf.Loop 32 :=
  let c0_i32_3578 : BitVec 32 := 0#32
  let c8_i32_3579 : BitVec 32 := 8#32
  let v4563 : BitVec 32 := Scalar.addi c0_i32_3578 c8_i32_3579
  let c1_i32_3580 : BitVec 32 := 1#32
  ⟨c0_i32_3578, v4563, c1_i32_3580⟩
def k0_off116 (k0_t15 : Fin k0_t15_loop.trips) : Fin 3 → Nat :=
  let c0_i32_3578 : BitVec 32 := 0#32
  let c1_i32_3580 : BitVec 32 := 1#32
  let arg17 : BitVec 32 := Scf.iv c0_i32_3578 c1_i32_3580 k0_t15
  let v4715 : Index := Scalar.indexCast arg17
  let c0_3799 : Index := 0#32
  let c0_3800 : Index := 0#32
  ![v4715.toNat, 0, 0]
def k0_off117 (k0_t15 : Fin k0_t15_loop.trips) : Fin 4 → Nat :=
  let c0_3802 : Index := 0#32
  let c0_i32_3578 : BitVec 32 := 0#32
  let c1_i32_3580 : BitVec 32 := 1#32
  let arg17 : BitVec 32 := Scf.iv c0_i32_3578 c1_i32_3580 k0_t15
  let v4720 : Index := Scalar.indexCast arg17
  let c0_3803 : Index := 0#32
  let c0_3804 : Index := 0#32
  ![0, v4720.toNat, 0, 0]
def k0_off118 (k0_t15 : Fin k0_t15_loop.trips) : Fin 3 → Nat :=
  let c0_i32_3578 : BitVec 32 := 0#32
  let c1_i32_3580 : BitVec 32 := 1#32
  let arg17 : BitVec 32 := Scf.iv c0_i32_3578 c1_i32_3580 k0_t15
  let v4736 : Index := Scalar.indexCast arg17
  let c0_3811 : Index := 0#32
  let c0_3812 : Index := 0#32
  ![v4736.toNat, 0, 0]
def k0_off119 (k0_t15 : Fin k0_t15_loop.trips) : Fin 4 → Nat :=
  let c1_3817 : Index := 1#32
  let c0_i32_3578 : BitVec 32 := 0#32
  let c1_i32_3580 : BitVec 32 := 1#32
  let arg17 : BitVec 32 := Scf.iv c0_i32_3578 c1_i32_3580 k0_t15
  let v4746 : Index := Scalar.indexCast arg17
  let c0_3818 : Index := 0#32
  let c0_3819 : Index := 0#32
  ![1, v4746.toNat, 0, 0]
def k0_dev32 (d0 : Dev nD) : Nat :=
  let c0_i32_3625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3624 : BitVec 32 := 1#32
  let v4595 : BitVec 32 := Scalar.muli v7 c1_i32_3624
  let v4596 : BitVec 32 := Scalar.addi c0_i32_3625 v4595
  v4596.toNat
@[reducible] def k0_t16_loop : Scf.Loop 32 :=
  let c0_i32_3643 : BitVec 32 := 0#32
  let c8_i32_3644 : BitVec 32 := 8#32
  let v4619 : BitVec 32 := Scalar.addi c0_i32_3643 c8_i32_3644
  let c1_i32_3645 : BitVec 32 := 1#32
  ⟨c0_i32_3643, v4619, c1_i32_3645⟩
def k0_off120 (k0_t16 : Fin k0_t16_loop.trips) : Fin 3 → Nat :=
  let c0_i32_3643 : BitVec 32 := 0#32
  let c1_i32_3645 : BitVec 32 := 1#32
  let arg17 : BitVec 32 := Scf.iv c0_i32_3643 c1_i32_3645 k0_t16
  let v4715 : Index := Scalar.indexCast arg17
  let c0_3799 : Index := 0#32
  let c0_3800 : Index := 0#32
  ![v4715.toNat, 0, 0]
def k0_off121 (k0_t16 : Fin k0_t16_loop.trips) : Fin 4 → Nat :=
  let c0_3802 : Index := 0#32
  let c0_i32_3643 : BitVec 32 := 0#32
  let c1_i32_3645 : BitVec 32 := 1#32
  let arg17 : BitVec 32 := Scf.iv c0_i32_3643 c1_i32_3645 k0_t16
  let v4720 : Index := Scalar.indexCast arg17
  let c0_3803 : Index := 0#32
  let c0_3804 : Index := 0#32
  ![0, v4720.toNat, 0, 0]
def k0_off122 (k0_t16 : Fin k0_t16_loop.trips) : Fin 3 → Nat :=
  let c0_i32_3643 : BitVec 32 := 0#32
  let c1_i32_3645 : BitVec 32 := 1#32
  let arg17 : BitVec 32 := Scf.iv c0_i32_3643 c1_i32_3645 k0_t16
  let v4736 : Index := Scalar.indexCast arg17
  let c0_3811 : Index := 0#32
  let c0_3812 : Index := 0#32
  ![v4736.toNat, 0, 0]
def k0_off123 (k0_t16 : Fin k0_t16_loop.trips) : Fin 4 → Nat :=
  let c1_3817 : Index := 1#32
  let c0_i32_3643 : BitVec 32 := 0#32
  let c1_i32_3645 : BitVec 32 := 1#32
  let arg17 : BitVec 32 := Scf.iv c0_i32_3643 c1_i32_3645 k0_t16
  let v4746 : Index := Scalar.indexCast arg17
  let c0_3818 : Index := 0#32
  let c0_3819 : Index := 0#32
  ![1, v4746.toNat, 0, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x2048x512 : Shape := ⟨3, ![2, 2048, 512]⟩
abbrev S512x8192 : Shape := ⟨2, ![512, 8192]⟩
abbrev S8192x512 : Shape := ⟨2, ![8192, 512]⟩
abbrev S2x2048x8192 : Shape := ⟨3, ![2, 2048, 8192]⟩
abbrev S2x2048x128x64 : Shape := ⟨4, ![2, 2048, 128, 64]⟩
abbrev S2x128x2048x2048 : Shape := ⟨4, ![2, 128, 2048, 2048]⟩
abbrev S_ : Shape := ⟨0, ![]⟩
abbrev S2x128x2048 : Shape := ⟨3, ![2, 128, 2048]⟩
abbrev S2x128x2048x1 : Shape := ⟨4, ![2, 128, 2048, 1]⟩
abbrev S2x128x64x2048 : Shape := ⟨4, ![2, 128, 64, 2048]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S512x8192, .f32⟩
  | .hbm, ⟨2, _⟩ => ⟨S512x8192, .f32⟩
  | .hbm, ⟨3, _⟩ => ⟨S512x8192, .f32⟩
  | .hbm, ⟨4, _⟩ => ⟨S8192x512, .f32⟩
  | .hbm, ⟨5, _⟩ => ⟨S2x2048x8192, .f32⟩
  | .hbm, ⟨6, _⟩ => ⟨S2x2048x128x64, .f32⟩
  | .hbm, ⟨7, _⟩ => ⟨S2x2048x8192, .f32⟩
  | .hbm, ⟨8, _⟩ => ⟨S2x2048x128x64, .f32⟩
  | .hbm, ⟨9, _⟩ => ⟨S2x2048x8192, .f32⟩
  | .hbm, ⟨10, _⟩ => ⟨S2x2048x128x64, .f32⟩
  | .hbm, ⟨11, _⟩ => ⟨S2x128x2048x2048, .f32⟩
  | .hbm, ⟨12, _⟩ => ⟨S_, .f32⟩
  | .hbm, ⟨13, _⟩ => ⟨S2x128x2048x2048, .f32⟩
  | .hbm, ⟨14, _⟩ => ⟨S2x128x2048x2048, .f32⟩
  | .hbm, ⟨15, _⟩ => ⟨S_, .f32⟩
  | .hbm, ⟨16, _⟩ => ⟨S2x128x2048, .f32⟩
  | .hbm, ⟨17, _⟩ => ⟨S_, .f32⟩
  | .hbm, ⟨18, _⟩ => ⟨S2x128x2048, .f32⟩
  | .hbm, ⟨19, _⟩ => ⟨S2x128x2048, .f32⟩
  | .hbm, ⟨20, _⟩ => ⟨S2x128x2048x1, .f32⟩
  | .hbm, ⟨21, _⟩ => ⟨S2x128x2048x2048, .f32⟩
  | .hbm, ⟨22, _⟩ => ⟨S2x128x2048x2048, .f32⟩
  | .hbm, ⟨23, _⟩ => ⟨S2x128x2048x2048, .f32⟩
  | .hbm, ⟨24, _⟩ => ⟨S_, .f32⟩
  | .hbm, ⟨25, _⟩ => ⟨S2x128x2048, .f32⟩
  | .hbm, ⟨26, _⟩ => ⟨S2x128x2048x1, .f32⟩
  | .hbm, ⟨27, _⟩ => ⟨S2x128x2048x2048, .f32⟩
  | .hbm, ⟨28, _⟩ => ⟨S2x128x2048x2048, .f32⟩
  | .hbm, ⟨29, _⟩ => ⟨S2x128x64x2048, .f32⟩
  | .hbm, ⟨30, _⟩ => ⟨S2x2048x128x64, .f32⟩
  | .hbm, ⟨31, _⟩ => ⟨S2x2048x8192, .f32⟩
  | .hbm, ⟨32, _⟩ => ⟨S2x2048x512, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Steps.lean ====
/-
# The kernel's body as a program over named steps

The printed body is one long sequence of loads, stores, copies and waits. This module writes the same
sequence as a few named steps (a barrier, a copy started to the right or to the left, a wait, the projection of
one chunk to keys and values, one step of the reduce-scatter), each in continuation form, so that a proof can
treat each step once, at a symbolic device and a symbolic step number. `Same.lean` shows that the two programs
are the same one.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Ring16

open Cert.KernelIdeal Cert.KernelIdeal.Gen
open Idealize.ShloMosaic Idealize.SL.Sem

variable {F : FTy → Type} [FloatOps F]

/-- A core's program. -/
abbrev PR (F : FTy → Type) [FloatOps F] := Prog (TpuEff nD τ sig (Elt F) Λ₀ .tc) PUnit

/-! ## Devices and chunks -/

/-- The chunk (and the device) `k` places behind `d` on the ring. -/
def back (d : Dev nD) (k : ℕ) : Dev nD := ⟨(d.val + 32 - k) % 16, Nat.mod_lt _ (by decide)⟩
/-- The chunk (and the device) `k` places ahead of `d` on the ring. -/
def ahead (d : Dev nD) (k : ℕ) : Dev nD := ⟨(d.val + k) % 16, Nat.mod_lt _ (by decide)⟩

/-! ## The buffers and the semaphores -/

abbrev stX : Memref sig .tc .vmem S2x128x512 .f32 := Memref.whole cc0_stg0_0
abbrev stQ : Memref sig .tc .vmem S8x512x64 .bf16 := Memref.whole cc0_stg1_0
abbrev stO : Memref sig .tc .vmem S8x64x512 .bf16 := Memref.whole cc0_stg2_0
abbrev stK : Memref sig .tc .vmem S512x512 .bf16 := Memref.whole cc0_stg3_0
abbrev stV : Memref sig .tc .vmem S512x512 .bf16 := Memref.whole cc0_stg4_0
abbrev stR : Memref sig .tc .vmem S2x128x512 .f32 := Memref.whole cc0_stg5_0
abbrev bX : Memref sig .tc .vmem S2x2048x512 .bf16 := Memref.whole cc0_scratch0
abbrev bK : Memref sig .tc .vmem S2x8x2048x64 .bf16 := Memref.whole cc0_scratch1
abbrev bV : Memref sig .tc .vmem S2x8x2048x64 .bf16 := Memref.whole cc0_scratch2
abbrev bS : Memref sig .tc .vmem S2x2x128x512 .bf16 := Memref.whole cc0_scratch3
abbrev bR : Memref sig .tc .vmem S15x2x128x512 .bf16 := Memref.whole cc0_scratch4

theorem inb8 (h : Fin 8) : ∀ a, (![h.val] : Fin 1 → ℕ) a + S1.size a ≤ S8.size a := by revert h; decide
theorem inb7 (h : Fin 7) : ∀ a, (![h.val] : Fin 1 → ℕ) a + S1.size a ≤ S7.size a := by revert h; decide
theorem inb15 (h : Fin 15) : ∀ a, (![h.val] : Fin 1 → ℕ) a + S1.size a ≤ S15.size a := by revert h; decide

abbrev agSR (h : Fin 8) : DmaSem sig := ((cc0_scratch5.slice (Rect.unit (s := S8) ![h.val] S1.size (inb8 h))).squeeze S_ squeezes_S1_S_).sem
abbrev agVR (h : Fin 8) : DmaSem sig := ((cc0_scratch6.slice (Rect.unit (s := S8) ![h.val] S1.size (inb8 h))).squeeze S_ squeezes_S1_S_).sem
abbrev agSL (h : Fin 7) : DmaSem sig := ((cc0_scratch7.slice (Rect.unit (s := S7) ![h.val] S1.size (inb7 h))).squeeze S_ squeezes_S1_S_).sem
abbrev agVL (h : Fin 7) : DmaSem sig := ((cc0_scratch8.slice (Rect.unit (s := S7) ![h.val] S1.size (inb7 h))).squeeze S_ squeezes_S1_S_).sem
abbrev rsS (t : Fin 15) : DmaSem sig := ((cc0_scratch9.slice (Rect.unit (s := S15) ![t.val] S1.size (inb15 t))).squeeze S_ squeezes_S1_S_).sem
abbrev rsV (t : Fin 15) : DmaSem sig := ((cc0_scratch10.slice (Rect.unit (s := S15) ![t.val] S1.size (inb15 t))).squeeze S_ squeezes_S1_S_).sem

abbrev barS : Sem sig := (SemArray.scalar (sig.barrier 0 rfl) : Sems sig S_).sem

/-! ## The memrefs the copies move -/

/-- Both batches of one chunk of the gathered array, at a chunk offset. -/
abbrev xSl (off : Fin 3 → ℕ) (inb : ∀ a, off a + S2x128x512.size a ≤ S2x2048x512.size a) :
    Memref sig .tc .vmem S2x128x512 .bf16 :=
  bX.slice (Rect.unit (s := S2x2048x512) off S2x128x512.size inb) (fun _ => rfl)

theorem inbS (j : Fin 2) : ∀ a, (![j.val, 0, 0, 0] : Fin 4 → ℕ) a + S1x2x128x512.size a ≤ S2x2x128x512.size a := by
  revert j; decide
theorem inbR (t : Fin 15) : ∀ a, (![t.val, 0, 0, 0] : Fin 4 → ℕ) a + S1x2x128x512.size a ≤ S15x2x128x512.size a := by
  revert t; decide
theorem wordsS (j : Fin 2) : (Rect.unit (s := S2x2x128x512) ![j.val, 0, 0, 0] S1x2x128x512.size (inbS j)).WholeWords (EltTy.packing .bf16) := by
  revert j; decide +kernel
theorem wordsR (t : Fin 15) : (Rect.unit (s := S15x2x128x512) ![t.val, 0, 0, 0] S1x2x128x512.size (inbR t)).WholeWords (EltTy.packing .bf16) := by
  revert t; decide +kernel

/-- Slot `j` of the two outgoing buffers. -/
abbrev sSl (j : Fin 2) : Memref sig .tc .vmem S2x128x512 .bf16 :=
  (bS.slice (Rect.unit (s := S2x2x128x512) ![j.val, 0, 0, 0] S1x2x128x512.size (inbS j)) (fun _ => rfl)).squeeze
    S2x128x512 squeezes_S1x2x128x512_S2x128x512
/-- Slot `t` of the fifteen incoming buffers. -/
abbrev rSl (t : Fin 15) : Memref sig .tc .vmem S2x128x512 .bf16 :=
  (bR.slice (Rect.unit (s := S15x2x128x512) ![t.val, 0, 0, 0] S1x2x128x512.size (inbR t)) (fun _ => rfl)).squeeze
    S2x128x512 squeezes_S1x2x128x512_S2x128x512

/-- The outgoing slot of step `t`. -/
abbrev slotOf (t : ℕ) : Fin 2 := ⟨t % 2, Nat.mod_lt _ (by decide)⟩

/-! ## The pure values -/

/-- One batch of one chunk through a projection matrix. -/
def proj (x : Vec F S1x128x512 .bf16) (w : Vec F S512x512 .bf16) : FVec F S128x512 .bf16 :=
  truncf .bf16 (matmul dot_S128x512_S512x512_S128x512_1_0_0_1_n_n none
    (shapeCast S128x512 x shapeCasts_S1x128x512_S128x512) (shapeCast S512x512 w shapeCasts_S512x512_S512x512)
    (constant S128x512 .f32 0x00000000#32)) bitsLt_bf16_f32

theorem sliceHd (hd : Fin 8) : S128x512.Slices ![0, 64 * hd.val] S128x64 := by revert hd; decide

/-- The columns of one head. -/
def headOf (hd : Fin 8) (k : FVec F S128x512 .bf16) : FVec F S1x1x128x64 .bf16 :=
  shapeCast S1x1x128x64 (extractStridedSlice S128x64 ![0, 64 * hd.val] k (sliceHd hd)) shapeCasts_S128x64_S1x1x128x64

/-- One head's attention of one batch of one chunk, added to what the heads before it gave. -/
def attn (x : Vec F S1x128x512 .bf16) (acc : FVec F S128x512 .f32) (wq : Vec F S1x512x64 .bf16)
    (k v : Vec F S1x1x2048x64 .bf16) (wo : Vec F S1x64x512 .bf16) : FVec F S128x512 .f32 :=
  k0_pay1 (shapeCast S128x512 x shapeCasts_S1x128x512_S128x512) acc wq k v wo

/-- What the first step sends: the partial sum, rounded. -/
def send0 (acc : FVec F S128x512 .f32) : FVec F S1x1x128x512 .bf16 := k0_pay722 acc
/-- What a later step sends: the partial sum plus what came in, rounded. -/
def sendN (acc : FVec F S128x512 .f32) (r : Vec F S1x1x128x512 .bf16) : FVec F S1x1x128x512 .bf16 := k0_pay728 acc r
/-- What the last step writes. -/
def outN (acc : FVec F S128x512 .f32) (r : Vec F S1x1x128x512 .bf16) : FVec F S1x128x512 .f32 := k0_pay832 acc r

/-! ## The steps -/

/-- Signal both neighbours, wait for both. -/
def barrierC (d : Dev nD) (k : PR F) : PR F :=
  .op (.semSignal (⟨k0_dev1 d, k0_dev1_lt d⟩, .tc) barS (1#32 : BitVec 32).toInt) fun _ =>
  .op (.semSignal (⟨k0_dev2 d, k0_dev2_lt d⟩, .tc) barS (1#32 : BitVec 32).toInt) fun _ =>
  .op (.semWait barS (2#32 : BitVec 32).toInt) fun _ => k

/-- Write the device's own chunk of the gathered array. -/
def ownC (d : Dev nD) (k : PR F) : PR F :=
  .op (.load stX (Rect.unit (s := S2x128x512) ![0, 0, 0] S2x128x512.size inb_S2x128x512_S2x128x512_0_0_0).toLoadRect (View.loadsAt_vmem h_S2x128x512)) fun x =>
  .op (.load bX (Rect.unit (s := S2x2048x512) (k0_off1 d) S2x128x512.size (k0_off1_inb d)).toLoadRect (View.loadsAt_vmem h_S2x128x512)) fun _ =>
  .op (.store bX (Rect.unit (s := S2x2048x512) (k0_off1 d) S2x128x512.size (k0_off1_inb d)) (k0_pay33 x) Finset.univ (View.stores_vmem h_S2x128x512 ((Memref.isWhole_whole _).storeExact_slice rfl _ (k0_off1_packedbf16 d)) (fun _ => rfl)) (.inl rfl)) fun _ => k

/-- The offset of the chunk the `h`-th copy to the right moves. -/
abbrev offR (d : Dev nD) (h : Fin 8) : Fin 3 → ℕ := k0_off2 d (BitVec.ofNat 32 h.val)
/-- The offset of the chunk the `h`-th copy to the left moves. -/
abbrev offL (d : Dev nD) (h : Fin 7) : Fin 3 → ℕ := k0_off3 d (BitVec.ofNat 32 h.val)
abbrev xR (d : Dev nD) (h : Fin 8) := xSl (offR d h) (k0_off2_inb d h)
abbrev xL (d : Dev nD) (h : Fin 7) := xSl (offL d h) (k0_off3_inb d h)
theorem xR_words (d : Dev nD) (h : Fin 8) : (xR d h).view.WordExact := (Memref.isWhole_whole _).wordExact_slice rfl _ (k0_off2_wordsbf16 d h)
theorem xL_words (d : Dev nD) (h : Fin 7) : (xL d h).view.WordExact := (Memref.isWhole_whole _).wordExact_slice rfl _ (k0_off3_wordsbf16 d h)
theorem sSl_words (j : Fin 2) : (sSl j).view.WordExact := ((Memref.isWhole_whole _).wordExact_slice rfl _ (wordsS j)).reshape _ _
theorem rSl_words (t : Fin 15) : (rSl t).view.WordExact := ((Memref.isWhole_whole _).wordExact_slice rfl _ (wordsR t)).reshape _ _

/-- Start the `h`-th copy to the right neighbour. -/
def sendRC (d : Dev nD) (h : Fin 8) (k : PR F) : PR F :=
  .op (.enqueueDma (xR d h) (.remote (Dev.tc (⟨k0_dev3 d, k0_dev3_lt d⟩ : Dev nD)) (xR d h) (.dma (agSR h))) (.dma (agVR h)) (xR_words d h) (xR_words d h) ⟨⟨rfl, Or.inl rfl⟩, trivial⟩) fun _ => k
/-- Start the `h`-th copy to the left neighbour. -/
def sendLC (d : Dev nD) (h : Fin 7) (k : PR F) : PR F :=
  .op (.enqueueDma (xL d h) (.remote (Dev.tc (⟨k0_dev4 d, k0_dev4_lt d⟩ : Dev nD)) (xL d h) (.dma (agSL h))) (.dma (agVL h)) (xL_words d h) (xL_words d h) ⟨⟨rfl, Or.inl rfl⟩, trivial⟩) fun _ => k

/-- Wait on one of the gather's semaphores for the `h`-th copy to the right (landed here, or left here). -/
def waitRC (d : Dev nD) (h : Fin 8) (s : DmaSem sig) (k : PR F) : PR F :=
  .op (.waitDma2 s (xR d h) (xR d h) (xR_words d h) (xR_words d h)) fun _ => k
def waitLC (d : Dev nD) (h : Fin 7) (s : DmaSem sig) (k : PR F) : PR F :=
  .op (.waitDma2 s (xL d h) (xL d h) (xL_words d h) (xL_words d h)) fun _ => k

/-! ### Keys and values of one chunk -/

theorem inbXc (b : Fin 2) (c : Dev nD) : ∀ a, (![b.val, 128 * c.val, 0] : Fin 3 → ℕ) a + S1x128x512.size a ≤ S2x2048x512.size a := by
  revert b c; decide +kernel
theorem inbKc (b : Fin 2) (hd : Fin 8) (c : Dev nD) : ∀ a, (![b.val, hd.val, 128 * c.val, 0] : Fin 4 → ℕ) a + S1x1x128x64.size a ≤ S2x8x2048x64.size a := by
  revert b hd c; decide +kernel
theorem packedKc (b : Fin 2) (hd : Fin 8) (c : Dev nD) :
    (Rect.unit (s := S2x8x2048x64) ![b.val, hd.val, 128 * c.val, 0] S1x1x128x64.size (inbKc b hd c)).PackedRows (EltTy.packing .bf16) := by
  revert b hd c; decide +kernel

/-- The offsets one projection step uses, as the kernel computes them, with their closed forms. -/
structure KvOff where
  ch : Dev nD
  x : Fin 2 → Fin 3 → ℕ
  h : Fin 2 → Fin 8 → Fin 4 → ℕ
  x_eq : ∀ b, x b = ![b.val, 128 * ch.val, 0]
  h_eq : ∀ b hd, h b hd = ![b.val, hd.val, 128 * ch.val, 0]

namespace KvOff
theorem x_inb (o : KvOff) (b : Fin 2) : ∀ a, o.x b a + S1x128x512.size a ≤ S2x2048x512.size a := by
  rw [o.x_eq]; exact inbXc b o.ch
theorem h_inb (o : KvOff) (b : Fin 2) (hd : Fin 8) : ∀ a, o.h b hd a + S1x1x128x64.size a ≤ S2x8x2048x64.size a := by
  rw [o.h_eq]; exact inbKc b hd o.ch
theorem h_packed (o : KvOff) (b : Fin 2) (hd : Fin 8) :
    (Rect.unit (s := S2x8x2048x64) (o.h b hd) S1x1x128x64.size (o.h_inb b hd)).PackedRows (EltTy.packing .bf16) := by
  have key : ∀ (f : Fin 4 → ℕ) (hi : ∀ a, f a + S1x1x128x64.size a ≤ S2x8x2048x64.size a), f = ![b.val, hd.val, 128 * o.ch.val, 0] →
      (Rect.unit (s := S2x8x2048x64) f S1x1x128x64.size hi).PackedRows (EltTy.packing .bf16) := by
    intro f hi e; subst e; exact packedKc b hd o.ch
  exact key _ _ (o.h_eq b hd)
end KvOff

/-- The device's own chunk. -/
def kvOwn (d : Dev nD) : KvOff where
  ch := d
  x := fun b => match b with | 0 => k0_off4 d | 1 => k0_off13 d
  h := fun b hd => match b, hd with
    | 0, 0 => k0_off5 d | 0, 1 => k0_off6 d | 0, 2 => k0_off7 d | 0, 3 => k0_off8 d
    | 0, 4 => k0_off9 d | 0, 5 => k0_off10 d | 0, 6 => k0_off11 d | 0, 7 => k0_off12 d
    | 1, 0 => k0_off14 d | 1, 1 => k0_off15 d | 1, 2 => k0_off16 d | 1, 3 => k0_off17 d
    | 1, 4 => k0_off18 d | 1, 5 => k0_off19 d | 1, 6 => k0_off20 d | 1, 7 => k0_off21 d
  x_eq := fun b => match b with | 0 => k0_off4_eq d | 1 => k0_off13_eq d
  h_eq := fun b hd => match b, hd with
    | 0, 0 => k0_off5_eq d | 0, 1 => k0_off6_eq d | 0, 2 => k0_off7_eq d | 0, 3 => k0_off8_eq d
    | 0, 4 => k0_off9_eq d | 0, 5 => k0_off10_eq d | 0, 6 => k0_off11_eq d | 0, 7 => k0_off12_eq d
    | 1, 0 => k0_off14_eq d | 1, 1 => k0_off15_eq d | 1, 2 => k0_off16_eq d | 1, 3 => k0_off17_eq d
    | 1, 4 => k0_off18_eq d | 1, 5 => k0_off19_eq d | 1, 6 => k0_off20_eq d | 1, 7 => k0_off21_eq d

theorem back_succ (d : Dev nD) (r : Fin 8) : (back d (1 + r.val)).val = (d.val + 31 - r.val) % 16 := by
  show (d.val + 32 - (1 + r.val)) % 16 = _; congr 1; omega
theorem ahead_succ (d : Dev nD) (r : Fin 7) : (ahead d (1 + r.val)).val = (d.val + r.val + 1) % 16 := by
  show (d.val + (1 + r.val)) % 16 = _; congr 1; omega

/-- The chunk `1 + r` places behind, which the copies to the right bring. -/
def kvRight (d : Dev nD) (r : Fin 8) : KvOff where
  ch := back d (1 + r.val)
  x := fun b => match b with | 0 => k0_off22 d (BitVec.ofNat 32 (1 + r.val)) | 1 => k0_off31 d (BitVec.ofNat 32 (1 + r.val))
  h := fun b hd => match b, hd with
    | 0, 0 => k0_off23 d (BitVec.ofNat 32 (1 + r.val)) | 0, 1 => k0_off24 d (BitVec.ofNat 32 (1 + r.val))
    | 0, 2 => k0_off25 d (BitVec.ofNat 32 (1 + r.val)) | 0, 3 => k0_off26 d (BitVec.ofNat 32 (1 + r.val))
    | 0, 4 => k0_off27 d (BitVec.ofNat 32 (1 + r.val)) | 0, 5 => k0_off28 d (BitVec.ofNat 32 (1 + r.val))
    | 0, 6 => k0_off29 d (BitVec.ofNat 32 (1 + r.val)) | 0, 7 => k0_off30 d (BitVec.ofNat 32 (1 + r.val))
    | 1, 0 => k0_off32 d (BitVec.ofNat 32 (1 + r.val)) | 1, 1 => k0_off33 d (BitVec.ofNat 32 (1 + r.val))
    | 1, 2 => k0_off34 d (BitVec.ofNat 32 (1 + r.val)) | 1, 3 => k0_off35 d (BitVec.ofNat 32 (1 + r.val))
    | 1, 4 => k0_off36 d (BitVec.ofNat 32 (1 + r.val)) | 1, 5 => k0_off37 d (BitVec.ofNat 32 (1 + r.val))
    | 1, 6 => k0_off38 d (BitVec.ofNat 32 (1 + r.val)) | 1, 7 => k0_off39 d (BitVec.ofNat 32 (1 + r.val))
  x_eq := by rw [back_succ]; exact fun b => match b with | 0 => k0_off22_eq d r | 1 => k0_off31_eq d r
  h_eq := by
    rw [back_succ]
    exact fun b hd => match b, hd with
      | 0, 0 => k0_off23_eq d r | 0, 1 => k0_off24_eq d r | 0, 2 => k0_off25_eq d r | 0, 3 => k0_off26_eq d r
      | 0, 4 => k0_off27_eq d r | 0, 5 => k0_off28_eq d r | 0, 6 => k0_off29_eq d r | 0, 7 => k0_off30_eq d r
      | 1, 0 => k0_off32_eq d r | 1, 1 => k0_off33_eq d r | 1, 2 => k0_off34_eq d r | 1, 3 => k0_off35_eq d r
      | 1, 4 => k0_off36_eq d r | 1, 5 => k0_off37_eq d r | 1, 6 => k0_off38_eq d r | 1, 7 => k0_off39_eq d r

/-- The chunk `1 + r` places ahead, which the copies to the left bring. -/
def kvLeft (d : Dev nD) (r : Fin 7) : KvOff where
  ch := ahead d (1 + r.val)
  x := fun b => match b with | 0 => k0_off40 d (BitVec.ofNat 32 (1 + r.val)) | 1 => k0_off49 d (BitVec.ofNat 32 (1 + r.val))
  h := fun b hd => match b, hd with
    | 0, 0 => k0_off41 d (BitVec.ofNat 32 (1 + r.val)) | 0, 1 => k0_off42 d (BitVec.ofNat 32 (1 + r.val))
    | 0, 2 => k0_off43 d (BitVec.ofNat 32 (1 + r.val)) | 0, 3 => k0_off44 d (BitVec.ofNat 32 (1 + r.val))
    | 0, 4 => k0_off45 d (BitVec.ofNat 32 (1 + r.val)) | 0, 5 => k0_off46 d (BitVec.ofNat 32 (1 + r.val))
    | 0, 6 => k0_off47 d (BitVec.ofNat 32 (1 + r.val)) | 0, 7 => k0_off48 d (BitVec.ofNat 32 (1 + r.val))
    | 1, 0 => k0_off50 d (BitVec.ofNat 32 (1 + r.val)) | 1, 1 => k0_off51 d (BitVec.ofNat 32 (1 + r.val))
    | 1, 2 => k0_off52 d (BitVec.ofNat 32 (1 + r.val)) | 1, 3 => k0_off53 d (BitVec.ofNat 32 (1 + r.val))
    | 1, 4 => k0_off54 d (BitVec.ofNat 32 (1 + r.val)) | 1, 5 => k0_off55 d (BitVec.ofNat 32 (1 + r.val))
    | 1, 6 => k0_off56 d (BitVec.ofNat 32 (1 + r.val)) | 1, 7 => k0_off57 d (BitVec.ofNat 32 (1 + r.val))
  x_eq := by rw [ahead_succ]; exact fun b => match b with | 0 => k0_off40_eq d r | 1 => k0_off49_eq d r
  h_eq := by
    rw [ahead_succ]
    exact fun b hd => match b, hd with
      | 0, 0 => k0_off41_eq d r | 0, 1 => k0_off42_eq d r | 0, 2 => k0_off43_eq d r | 0, 3 => k0_off44_eq d r
      | 0, 4 => k0_off45_eq d r | 0, 5 => k0_off46_eq d r | 0, 6 => k0_off47_eq d r | 0, 7 => k0_off48_eq d r
      | 1, 0 => k0_off50_eq d r | 1, 1 => k0_off51_eq d r | 1, 2 => k0_off52_eq d r | 1, 3 => k0_off53_eq d r
      | 1, 4 => k0_off54_eq d r | 1, 5 => k0_off55_eq d r | 1, 6 => k0_off56_eq d r | 1, 7 => k0_off57_eq d r

/-- Store one head's rectangle of the keys and of the values. -/
def headC (o : KvOff) (b : Fin 2) (hd : Fin 8) (kf vf : FVec F S128x512 .bf16) (k : PR F) : PR F :=
  .op (.load bK (Rect.unit (s := S2x8x2048x64) (o.h b hd) S1x1x128x64.size (o.h_inb b hd)).toLoadRect (View.loadsAt_vmem h_S1x1x128x64)) fun _ =>
  .op (.store bK (Rect.unit (s := S2x8x2048x64) (o.h b hd) S1x1x128x64.size (o.h_inb b hd)) (headOf hd kf) Finset.univ (View.stores_vmem h_S1x1x128x64 ((Memref.isWhole_whole _).storeExact_slice rfl _ (o.h_packed b hd)) (fun _ => rfl)) (.inl rfl)) fun _ =>
  .op (.load bV (Rect.unit (s := S2x8x2048x64) (o.h b hd) S1x1x128x64.size (o.h_inb b hd)).toLoadRect (View.loadsAt_vmem h_S1x1x128x64)) fun _ =>
  .op (.store bV (Rect.unit (s := S2x8x2048x64) (o.h b hd) S1x1x128x64.size (o.h_inb b hd)) (headOf hd vf) Finset.univ (View.stores_vmem h_S1x1x128x64 ((Memref.isWhole_whole _).storeExact_slice rfl _ (o.h_packed b hd)) (fun _ => rfl)) (.inl rfl)) fun _ => k

/-- One batch of one chunk: project to keys and to values, store the eight heads. -/
def batchC (o : KvOff) (b : Fin 2) (k : PR F) : PR F :=
  .op (.load bX (Rect.unit (s := S2x2048x512) (o.x b) S1x128x512.size (o.x_inb b)).toLoadRect (View.loadsAt_vmem h_S1x128x512)) fun x =>
  .op (.load stK (Rect.unit (s := S512x512) ![0, 0] S512x512.size inb_S512x512_S512x512_0_0).toLoadRect (View.loadsAt_vmem h_S512x512)) fun wk =>
  .op (.load stV (Rect.unit (s := S512x512) ![0, 0] S512x512.size inb_S512x512_S512x512_0_0).toLoadRect (View.loadsAt_vmem h_S512x512)) fun wv =>
  headC o b 0 (proj x wk) (proj x wv) <| headC o b 1 (proj x wk) (proj x wv) <|
  headC o b 2 (proj x wk) (proj x wv) <| headC o b 3 (proj x wk) (proj x wv) <|
  headC o b 4 (proj x wk) (proj x wv) <| headC o b 5 (proj x wk) (proj x wv) <|
  headC o b 6 (proj x wk) (proj x wv) <| headC o b 7 (proj x wk) (proj x wv) k

/-- Keys and values of one chunk. -/
def kvC (o : KvOff) (k : PR F) : PR F := batchC o 0 (batchC o 1 k)

/-! ### One step of the reduce-scatter -/

/-- One head of the loop over the heads. -/
def headBody (x0 x1 : Vec F S1x128x512 .bf16) (i : Fin k0_t1_loop.trips) (acc : FVec F S128x512 .f32 × FVec F S128x512 .f32) :
    Prog (TpuEff nD τ sig (Elt F) Λ₀ .tc) (FVec F S128x512 .f32 × FVec F S128x512 .f32) :=
  .op (.load stQ (Rect.unit (s := S8x512x64) (k0_off60 i) S1x512x64.size (k0_off60_inb i)).toLoadRect (View.loadsAt_vmem h_S1x512x64)) fun wq =>
  .op (.load bK (Rect.unit (s := S2x8x2048x64) (k0_off61 i) S1x1x2048x64.size (k0_off61_inb i)).toLoadRect (View.loadsAt_vmem h_S1x1x2048x64)) fun k0 =>
  .op (.load bV (Rect.unit (s := S2x8x2048x64) (k0_off61 i) S1x1x2048x64.size (k0_off61_inb i)).toLoadRect (View.loadsAt_vmem h_S1x1x2048x64)) fun v0 =>
  .op (.load stO (Rect.unit (s := S8x64x512) (k0_off62 i) S1x64x512.size (k0_off62_inb i)).toLoadRect (View.loadsAt_vmem h_S1x64x512)) fun wo =>
  .op (.load stQ (Rect.unit (s := S8x512x64) (k0_off60 i) S1x512x64.size (k0_off60_inb i)).toLoadRect (View.loadsAt_vmem h_S1x512x64)) fun wq1 =>
  .op (.load bK (Rect.unit (s := S2x8x2048x64) (k0_off63 i) S1x1x2048x64.size (k0_off63_inb i)).toLoadRect (View.loadsAt_vmem h_S1x1x2048x64)) fun k1 =>
  .op (.load bV (Rect.unit (s := S2x8x2048x64) (k0_off63 i) S1x1x2048x64.size (k0_off63_inb i)).toLoadRect (View.loadsAt_vmem h_S1x1x2048x64)) fun v1 =>
  .op (.load stO (Rect.unit (s := S8x64x512) (k0_off62 i) S1x64x512.size (k0_off62_inb i)).toLoadRect (View.loadsAt_vmem h_S1x64x512)) fun wo1 =>
  .ret (attn x0 acc.1 wq k0 v0 wo, attn x1 acc.2 wq1 k1 v1 wo1)

/-- The two batches' partial sums of the chunk the step works on. -/
def contribC (d : Dev nD) (t : Fin 16) (k : FVec F S128x512 .f32 → FVec F S128x512 .f32 → PR F) : PR F :=
  .op (.load bX (Rect.unit (s := S2x2048x512) (k0_off58 d (BitVec.ofNat 32 t.val)) S1x128x512.size (k0_off58_inb d t)).toLoadRect (View.loadsAt_vmem h_S1x128x512)) fun x0 =>
  .op (.load bX (Rect.unit (s := S2x2048x512) (k0_off59 d (BitVec.ofNat 32 t.val)) S1x128x512.size (k0_off59_inb d t)).toLoadRect (View.loadsAt_vmem h_S1x128x512)) fun x1 =>
  (Scf.Loop.for k0_t1_loop k0_t1_ok (k0_pay717 (F := F), k0_pay717 (F := F)) (headBody x0 x1)).bind fun s => k s.1 s.2

theorem inbSb (j b : Fin 2) : ∀ a, (![j.val, b.val, 0, 0] : Fin 4 → ℕ) a + S1x1x128x512.size a ≤ S2x2x128x512.size a := by
  revert j b; decide
theorem packedSb (j b : Fin 2) : (Rect.unit (s := S2x2x128x512) ![j.val, b.val, 0, 0] S1x1x128x512.size (inbSb j b)).PackedRows (EltTy.packing .bf16) := by
  revert j b; decide +kernel
theorem inbRb (t : Fin 15) (b : Fin 2) : ∀ a, (![t.val, b.val, 0, 0] : Fin 4 → ℕ) a + S1x1x128x512.size a ≤ S15x2x128x512.size a := by
  revert t b; decide +kernel

/-- Store one batch of the outgoing slot. -/
def putC (j b : Fin 2) (v : FVec F S1x1x128x512 .bf16) (k : PR F) : PR F :=
  .op (.load bS (Rect.unit (s := S2x2x128x512) ![j.val, b.val, 0, 0] S1x1x128x512.size (inbSb j b)).toLoadRect (View.loadsAt_vmem h_S1x1x128x512)) fun _ =>
  .op (.store bS (Rect.unit (s := S2x2x128x512) ![j.val, b.val, 0, 0] S1x1x128x512.size (inbSb j b)) v Finset.univ (View.stores_vmem h_S1x1x128x512 ((Memref.isWhole_whole _).storeExact_slice rfl _ (packedSb j b)) (fun _ => rfl)) (.inl rfl)) fun _ => k

/-- Load one batch of incoming slot `t`. -/
def getC (t : Fin 15) (b : Fin 2) (k : Vec F S1x1x128x512 .bf16 → PR F) : PR F :=
  .op (.load bR (Rect.unit (s := S15x2x128x512) ![t.val, b.val, 0, 0] S1x1x128x512.size (inbRb t b)).toLoadRect (View.loadsAt_vmem h_S1x1x128x512)) k

/-- Start the copy of the outgoing slot to the right neighbour's slot `t`. -/
def pushC (d : Dev nD) (t : Fin 15) (k : PR F) : PR F :=
  .op (.enqueueDma (sSl (slotOf t.val)) (.remote (Dev.tc (⟨k0_dev3 d, k0_dev3_lt d⟩ : Dev nD)) (rSl t) (.dma (rsS t))) (.dma (rsV t)) (sSl_words _) (rSl_words t) ⟨⟨rfl, Or.inl rfl⟩, trivial⟩) fun _ => k

/-- Wait until step `t`'s outgoing slot is free again. -/
def sentC (t : Fin 15) (k : PR F) : PR F :=
  .op (.waitDma2 (rsS t) (rSl t) (sSl (slotOf t.val)) (rSl_words t) (sSl_words _)) fun _ => k
/-- Wait until step `t`'s block has come in. -/
def gotC (t : Fin 15) (k : PR F) : PR F :=
  .op (.waitDma2 (rsV t) (sSl (slotOf t.val)) (rSl t) (sSl_words _) (rSl_words t)) fun _ => k

/-- Step 0: nothing has come in yet. -/
def step0C (d : Dev nD) (k : PR F) : PR F :=
  contribC d 0 fun a0 a1 => putC 0 0 (send0 a0) <| putC 0 1 (send0 a1) <| pushC d 0 k

/-- Add what came in at step `t`, and send the sum on at step `t + 1`. -/
def passC (d : Dev nD) (t t' : Fin 15) (a0 a1 : FVec F S128x512 .f32) (k : PR F) : PR F :=
  gotC t <| getC t 0 fun r0 => putC (slotOf t'.val) 0 (sendN a0 r0) <|
    getC t 1 fun r1 => putC (slotOf t'.val) 1 (sendN a1 r1) <| pushC d t' k

/-- Step 1. -/
def step1C (d : Dev nD) (k : PR F) : PR F := contribC d 1 fun a0 a1 => passC d 0 1 a0 a1 k

/-- Step `t + 2`, for `t + 2 < 15`: the outgoing slot is the one step `t` used. -/
def stepC (d : Dev nD) (t : Fin 13) (k : PR F) : PR F :=
  contribC d ⟨t.val + 2, by omega⟩ fun a0 a1 =>
    sentC ⟨t.val, by omega⟩ <| passC d ⟨t.val + 1, by omega⟩ ⟨t.val + 2, by omega⟩ a0 a1 k

/-- Add what came in and write the result. -/
def endC (a0 a1 : FVec F S128x512 .f32) (k : PR F) : PR F :=
  gotC 14 <| getC 14 0 fun r0 =>
  .op (.load stR (Rect.unit (s := S2x128x512) ![0, 0, 0] S1x128x512.size inb_S2x128x512_S1x128x512_0_0_0).toLoadRect (View.loadsAt_vmem h_S1x128x512)) fun _ =>
  .op (.store stR (Rect.unit (s := S2x128x512) ![0, 0, 0] S1x128x512.size inb_S2x128x512_S1x128x512_0_0_0) (outN a0 r0) Finset.univ (View.stores_vmem_bits_univ h_S1x128x512 rfl) (.inl rfl)) fun _ =>
  getC 14 1 fun r1 =>
  .op (.load stR (Rect.unit (s := S2x128x512) ![1, 0, 0] S1x128x512.size inb_S2x128x512_S1x128x512_1_0_0).toLoadRect (View.loadsAt_vmem h_S1x128x512)) fun _ =>
  .op (.store stR (Rect.unit (s := S2x128x512) ![1, 0, 0] S1x128x512.size inb_S2x128x512_S1x128x512_1_0_0) (outN a1 r1) Finset.univ (View.stores_vmem_bits_univ h_S1x128x512 rfl) (.inl rfl)) fun _ => k

/-- The last step. -/
def lastC (d : Dev nD) (k : PR F) : PR F := contribC d 15 fun a0 a1 => endC a0 a1 k

/-! ## The whole body -/

/-- One round of the gather, `1 ≤ h < 7`: what the round before brought goes on, both ways, and its two chunks
are projected. -/
def roundC (d : Dev nD) (h : Fin 6) (k : PR F) : PR F :=
  waitRC d ⟨h.val, by omega⟩ (agVR ⟨h.val, by omega⟩) <| sendRC d ⟨h.val + 1, by omega⟩ <|
  waitLC d ⟨h.val, by omega⟩ (agVL ⟨h.val, by omega⟩) <| sendLC d ⟨h.val + 1, by omega⟩ <|
  kvC (kvRight d ⟨h.val, by omega⟩) <| kvC (kvLeft d ⟨h.val, by omega⟩) k

/-- The gather, from the own chunk to the last round. -/
def gatherC (d : Dev nD) (k : PR F) : PR F :=
  sendRC d 0 <| sendLC d 0 <| kvC (kvOwn d) <|
  roundC d 0 <| roundC d 1 <| roundC d 2 <| roundC d 3 <| roundC d 4 <| roundC d 5 <|
  waitRC d 6 (agVR 6) <| sendRC d 7 <| waitLC d 6 (agVL 6) <| kvC (kvRight d 6) <| kvC (kvLeft d 6) <|
  waitRC d 7 (agVR 7) <| kvC (kvRight d 7) k

/-- The reduce-scatter. -/
def scatterC (d : Dev nD) (k : PR F) : PR F :=
  step0C d <| step1C d <| stepC d 0 <| stepC d 1 <| stepC d 2 <| stepC d 3 <| stepC d 4 <| stepC d 5 <| stepC d 6 <|
  stepC d 7 <| stepC d 8 <| stepC d 9 <| stepC d 10 <| stepC d 11 <| stepC d 12 <| lastC d k

/-- Wait for every copy still under way to have left. -/
def drainC (d : Dev nD) (k : PR F) : PR F :=
  waitRC d 0 (agSR 0) <| waitRC d 1 (agSR 1) <| waitRC d 2 (agSR 2) <| waitRC d 3 (agSR 3) <|
  waitRC d 4 (agSR 4) <| waitRC d 5 (agSR 5) <| waitRC d 6 (agSR 6) <| waitRC d 7 (agSR 7) <|
  waitLC d 0 (agSL 0) <| waitLC d 1 (agSL 1) <| waitLC d 2 (agSL 2) <| waitLC d 3 (agSL 3) <|
  waitLC d 4 (agSL 4) <| waitLC d 5 (agSL 5) <| waitLC d 6 (agSL 6) <|
  sentC 13 <| sentC 14 k

/-- The body. -/
def bodyC : PR F :=
  .op .deviceId fun d => barrierC d <| ownC d <| gatherC d <| scatterC d <| drainC d <| .ret ⟨⟩

end Cert.Ring16
end
-- ==== Proof.Protocol.lean ====
/-
# The protocol of the ring

Every semaphore the devices use is waited on once, for everything that is ever paid into it, so each cell has one
round. A device's barrier cell is paid by its two neighbours, each of whom hands over the part of its own buffers
that this device's copies will write: the right neighbour the chunks of the gathered array that come from the left
and all fifteen incoming slots, the left neighbour the chunks that come from the right. A copy pays two cells: the
sender's, with the share of the source it read, and the receiver's, with the piece it wrote, now with the contents
that every device agrees on.
-/
module

public import proofs.«01_k».proof.Proof.Steps
public import Idealize.ShloMosaic.Lib.Pipeline.Launch
public import Idealize.ShloMosaic.Lib.Pipeline.Kit
public import Idealize.ShloMosaic.Lib.Tactic
public import Idealize.ShloMosaic.Lib.Pointwise.Index
public import Mathlib.Algebra.BigOperators.Intervals
public import Mathlib.Tactic.Abel

@[expose] public section

noncomputable section

namespace Cert.Ring16

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## The ring -/

abbrev nxt (c : Dev nD) : Dev nD := ahead c 1
abbrev prv (c : Dev nD) : Dev nD := back c 1

theorem back_zero (c : Dev nD) : back c 0 = c := by revert c; decide
theorem ahead_zero (c : Dev nD) : ahead c 0 = c := by revert c; decide
theorem nxt_prv (c : Dev nD) : nxt (prv c) = c := by revert c; decide
theorem prv_nxt (c : Dev nD) : prv (nxt c) = c := by revert c; decide
theorem back_prv (c : Dev nD) (h : ℕ) (hh : h < 30) : back (prv c) h = back c (h + 1) := by
  apply Fin.ext; simp only [back]; omega
theorem ahead_nxt (c : Dev nD) (h : ℕ) : ahead (nxt c) h = ahead c (h + 1) := by
  apply Fin.ext; simp only [ahead]; omega
theorem dev1_eq (c : Dev nD) : (⟨k0_dev1 c, k0_dev1_lt c⟩ : Dev nD) = prv c :=
  Fin.ext ((k0_dev1_eq c).trans (by simp only [back]; omega))
theorem dev2_eq (c : Dev nD) : (⟨k0_dev2 c, k0_dev2_lt c⟩ : Dev nD) = nxt c :=
  Fin.ext ((k0_dev2_eq c).trans (by simp only [ahead]))
theorem dev3_eq (c : Dev nD) : (⟨k0_dev3 c, k0_dev3_lt c⟩ : Dev nD) = nxt c :=
  Fin.ext ((k0_dev3_eq c).trans (by simp only [ahead]))
theorem dev4_eq (c : Dev nD) : (⟨k0_dev4 c, k0_dev4_lt c⟩ : Dev nD) = prv c :=
  Fin.ext ((k0_dev4_eq c).trans (by simp only [back]; omega))

/-! ## The cells -/

/-- The kernel's DMA semaphores by number: 6–13 and 22–28 the gather's copies leaving, 14–21 and 29–35 landing,
36–50 the reduce-scatter's leaving, 51–65 landing. -/
def dq (n : ℕ) : DmaSem sig := ⟨n % 66, Nat.mod_lt _ (by decide)⟩

theorem agSR_eq (h : Fin 8) : agSR h = dq (6 + h.val) := by revert h; decide
theorem agVR_eq (h : Fin 8) : agVR h = dq (14 + h.val) := by revert h; decide
theorem agSL_eq (h : Fin 7) : agSL h = dq (22 + h.val) := by revert h; decide
theorem agVL_eq (h : Fin 7) : agVL h = dq (29 + h.val) := by revert h; decide
theorem rsS_eq (t : Fin 15) : rsS t = dq (36 + t.val) := by revert t; decide
theorem rsV_eq (t : Fin 15) : rsV t = dq (51 + t.val) := by revert t; decide

abbrev dcell (c : Dev nD) (n : ℕ) : GSem nD τ sig := ((c : Thread nD τ), .dma (dq n))
abbrev bcell (c : Dev nD) : GSem nD τ sig := ((c : Thread nD τ), .reg barS)

/-- What one copy pays. -/
abbrev N : ℕ := (rSl 0).view.dmaCredit
theorem N_pos : 0 < N := View.dmaCredit_pos _ (by decide)
theorem N_x (off) (inb) : (xSl off inb).view.dmaCredit = N := rfl
theorem N_r (t : Fin 15) : (rSl t).view.dmaCredit = N := rfl
theorem N_s (j : Fin 2) : (sSl j).view.dmaCredit = N := rfl

/-! ## The pieces of the buffers -/

theorem inbX (k : Dev nD) : ∀ a, (![0, 128 * k.val, 0] : Fin 3 → ℕ) a + S2x128x512.size a ≤ S2x2048x512.size a := by
  revert k; decide

/-- The elements of chunk `k` of the gathered array. -/
abbrev xSet (k : Dev nD) : Finset S2x2048x512.Idx := (xSl ![0, 128 * k.val, 0] (inbX k)).view.set
abbrev rSet (t : Fin 15) : Finset S15x2x128x512.Idx := (rSl t).view.set
abbrev sSet (j : Fin 2) : Finset S2x2x128x512.Idx := (sSl j).view.set

theorem xSl_congr {off off' : Fin 3 → ℕ} (e : off = off') (inb) (inb') : xSl off inb = xSl off' inb' := by subst e; rfl

theorem offR_eq (d : Dev nD) (h : Fin 8) : offR d h = ![0, 128 * (back d h.val).val, 0] := k0_off2_eq d h
theorem offL_eq (d : Dev nD) (h : Fin 7) : offL d h = ![0, 128 * (ahead d h.val).val, 0] := k0_off3_eq d h
theorem xR_eq (d : Dev nD) (h : Fin 8) : xR d h = xSl ![0, 128 * (back d h.val).val, 0] (inbX _) := xSl_congr (offR_eq d h) _ _
theorem xL_eq (d : Dev nD) (h : Fin 7) : xL d h = xSl ![0, 128 * (ahead d h.val).val, 0] (inbX _) := xSl_congr (offL_eq d h) _ _

theorem mem_xSet (k : Dev nD) (i : S2x2048x512.Idx) : i ∈ xSet k ↔ (i 1).val / 128 = k.val := by
  have h0 : (i 0).val < 2 := (i 0).isLt
  have h1 : (i 1).val < 2048 := (i 1).isLt
  have h2 : (i 2).val < 512 := (i 2).isLt
  rw [show xSet k = (Rect.unit (s := S2x2048x512) ![0, 128 * k.val, 0] S2x128x512.size (inbX k)).set from View.set_slice_whole _ _,
    Rect.mem_set_unit]
  constructor
  · intro h; have := h 1; simp only [S2x128x512, Matrix.cons_val_one, Matrix.cons_val_zero] at this; omega
  · intro h a
    fin_cases a <;> simp [S2x128x512, S2x2048x512] <;> omega
theorem mem_rSet (t : Fin 15) (i : S15x2x128x512.Idx) : i ∈ rSet t ↔ (i 0).val = t.val := by
  have h1 : (i 1).val < 2 := (i 1).isLt
  have h2 : (i 2).val < 128 := (i 2).isLt
  have h3 : (i 3).val < 512 := (i 3).isLt
  rw [show rSet t = (Rect.unit (s := S15x2x128x512) ![t.val, 0, 0, 0] S1x2x128x512.size (inbR t)).set from
    (View.set_reshape _ _).trans (View.set_slice_whole _ _), Rect.mem_set_unit]
  constructor
  · intro h; have := h 0; simp only [S1x2x128x512, Matrix.cons_val_zero] at this; omega
  · intro h a
    fin_cases a <;> simp [S1x2x128x512, S15x2x128x512, S2x2x128x512] <;> omega
theorem mem_sSet (j : Fin 2) (i : S2x2x128x512.Idx) : i ∈ sSet j ↔ (i 0).val = j.val := by
  have h1 : (i 1).val < 2 := (i 1).isLt
  have h2 : (i 2).val < 128 := (i 2).isLt
  have h3 : (i 3).val < 512 := (i 3).isLt
  rw [show sSet j = (Rect.unit (s := S2x2x128x512) ![j.val, 0, 0, 0] S1x2x128x512.size (inbS j)).set from
    (View.set_reshape _ _).trans (View.set_slice_whole _ _), Rect.mem_set_unit]
  constructor
  · intro h; have := h 0; simp only [S1x2x128x512, Matrix.cons_val_zero] at this; omega
  · intro h a
    fin_cases a <;> simp [S1x2x128x512, S15x2x128x512, S2x2x128x512] <;> omega

theorem xSet_disj (k k' : Dev nD) (h : k ≠ k') : Disjoint (xSet k) (xSet k') :=
  Finset.disjoint_left.mpr fun i hi hi' => h (Fin.ext (((mem_xSet k i).mp hi).symm.trans ((mem_xSet k' i).mp hi')))
theorem rSet_disj (k k' : Fin 15) (h : k ≠ k') : Disjoint (rSet k) (rSet k') :=
  Finset.disjoint_left.mpr fun i hi hi' => h (Fin.ext (((mem_rSet k i).mp hi).symm.trans ((mem_rSet k' i).mp hi')))
theorem sSet_disj (k k' : Fin 2) (h : k ≠ k') : Disjoint (sSet k) (sSet k') :=
  Finset.disjoint_left.mpr fun i hi hi' => h (Fin.ext (((mem_sSet k i).mp hi).symm.trans ((mem_sSet k' i).mp hi')))
theorem xSet_cover : (Finset.univ : Finset (Dev nD)).biUnion xSet = Finset.univ := by
  refine Finset.eq_univ_iff_forall.mpr fun i => Finset.mem_biUnion.mpr ⟨⟨(i 1).val / 128, ?_⟩, Finset.mem_univ _, (mem_xSet _ _).mpr rfl⟩
  have : (i 1).val < 2048 := (i 1).isLt
  show (i 1).val / 128 < 16
  omega
theorem rSet_cover : (Finset.univ : Finset (Fin 15)).biUnion rSet = Finset.univ :=
  Finset.eq_univ_iff_forall.mpr fun i => Finset.mem_biUnion.mpr ⟨i 0, Finset.mem_univ _, (mem_rSet _ _).mpr rfl⟩
theorem sSet_cover : (Finset.univ : Finset (Fin 2)).biUnion sSet = Finset.univ :=
  Finset.eq_univ_iff_forall.mpr fun i => Finset.mem_biUnion.mpr ⟨i 0, Finset.mem_univ _, (mem_sSet _ _).mpr rfl⟩

/-! ## What the buffers hold -/

/-- One device's staged inputs. -/
structure In (F : FTy → Type) [FloatOps F] where
  x : Vec F S2x128x512 .f32
  wq : Vec F S8x512x64 .bf16
  wo : Vec F S8x64x512 .bf16
  wk : Vec F S512x512 .bf16
  wv : Vec F S512x512 .bf16

variable (I : Dev nD → In F)

abbrev chunkOf (n : Fin 2048) : Dev nD := ⟨n.val / 128, by have := n.isLt; show n.val / 128 < 16; omega⟩
abbrev rowOf (n : Fin 2048) : Fin 128 := ⟨n.val % 128, Nat.mod_lt _ (by decide)⟩
abbrev posOf (k : Dev nD) (r : Fin 128) : Fin 2048 := ⟨128 * k.val + r.val, by have h1 := k.isLt; have h2 := r.isLt; change k.val < 16 at h1; omega⟩

/-- The gathered array: every device's chunk, rounded. -/
def XF : Vec F S2x2048x512 .bf16 := fun i => k0_pay33 (I (chunkOf (i 1))).x (ix3 (i 0) (rowOf (i 1)) (i 2))
/-- One batch of one chunk of it. -/
def xblk (b : Fin 2) (k : Dev nD) : Vec F S1x128x512 .bf16 := fun y => XF I (ix3 b (posOf k (y 1)) (y 2))
/-- A device's keys and its values, of its own eight heads. -/
def KC (c : Dev nD) : Vec F S2x8x2048x64 .bf16 := fun i =>
  headOf (i 1) (proj (xblk I (i 0) (chunkOf (i 2))) (I c).wk) (ix4 0 0 (rowOf (i 2)) (i 3))
def VC (c : Dev nD) : Vec F S2x8x2048x64 .bf16 := fun i =>
  headOf (i 1) (proj (xblk I (i 0) (chunkOf (i 2))) (I c).wv) (ix4 0 0 (rowOf (i 2)) (i 3))
def kOf (c : Dev nD) (b : Fin 2) (hd : Fin 8) : Vec F S1x1x2048x64 .bf16 := fun y => KC I c (ix4 b hd (y 2) (y 3))
def vOf (c : Dev nD) (b : Fin 2) (hd : Fin 8) : Vec F S1x1x2048x64 .bf16 := fun y => VC I c (ix4 b hd (y 2) (y 3))
def wqOf (c : Dev nD) (hd : Fin 8) : Vec F S1x512x64 .bf16 := fun y => (I c).wq (ix3 hd (y 1) (y 2))
def woOf (c : Dev nD) (hd : Fin 8) : Vec F S1x64x512 .bf16 := fun y => (I c).wo (ix3 hd (y 1) (y 2))
abbrev fin8 (n : ℕ) : Fin 8 := ⟨n % 8, Nat.mod_lt _ (by decide)⟩
/-- The sum over the first `n` of a device's heads, of one batch of one chunk. -/
def headSum (c : Dev nD) (b : Fin 2) (k : Dev nD) : ℕ → FVec F S128x512 .f32
  | 0 => k0_pay717
  | n + 1 => attn (xblk I b k) (headSum c b k n) (wqOf I c (fin8 n)) (kOf I c b (fin8 n)) (vOf I c b (fin8 n)) (woOf I c (fin8 n))
/-- A device's share of the result of one batch of one chunk. -/
def contrib (c : Dev nD) (b : Fin 2) (k : Dev nD) : FVec F S128x512 .f32 := headSum I c b k 8
/-- What device `c` sends at step `t`. -/
def sent : ℕ → Dev nD → Fin 2 → FVec F S1x1x128x512 .bf16
  | 0, c, b => send0 (contrib I c b (back c 1))
  | t + 1, c, b => sendN (contrib I c b (back c (t + 2))) (sent t (prv c) b)
/-- The incoming slots of device `c`. -/
def RSC (c : Dev nD) : Vec F S15x2x128x512 .bf16 := fun i => sent I (i 0).val (prv c) (i 1) (ix4 0 0 (i 2) (i 3))
/-- The result block of device `c`. -/
def outV (c : Dev nD) : Vec F S2x128x512 .f32 := fun i => outN (contrib I c (i 0) c) (sent I 14 (prv c) (i 0)) (ix3 0 (i 1) (i 2))

/-! ## Shares of the buffers -/

/-- The share of a chunk a copy to the right reads, the one a copy to the left reads, and the one the loads read. -/
abbrev qR : PosShare TreeShare := fullShare.left
abbrev qL : PosShare TreeShare := fullShare.right.left
abbrev qK : PosShare TreeShare := fullShare.right.right

def xC (q : PosShare TreeShare) (c k : Dev nD) : sProp 𝕄 := bX.view.loc (c : Thread nD τ) ↦[xSet k]{q} XF I
def xA (c k : Dev nD) : sProp 𝕄 := iprop(∃ f : Buf (Elt F) (bX.view.loc (c : Thread nD τ)), bX.view.loc (c : Thread nD τ) ↦[xSet k]{fullShare} f)
def fin15 (n : ℕ) : Fin 15 := ⟨n % 15, Nat.mod_lt _ (by decide)⟩
def rA (c : Dev nD) (t : ℕ) : sProp 𝕄 := iprop(∃ f : Buf (Elt F) (bR.view.loc (c : Thread nD τ)), bR.view.loc (c : Thread nD τ) ↦[rSet (fin15 t)]{fullShare} f)
def rC (c : Dev nD) (t : ℕ) : sProp 𝕄 := bR.view.loc (c : Thread nD τ) ↦[rSet (fin15 t)]{fullShare} RSC I c
def sA (c : Dev nD) (j : Fin 2) : sProp 𝕄 := iprop(∃ f : Buf (Elt F) (bS.view.loc (c : Thread nD τ)), bS.view.loc (c : Thread nD τ) ↦[sSet j]{fullShare} f)

instance xC_storable (q) (c k : Dev nD) : BI.Storable (upEmb : UEmb _ 𝕄) (xC I q c k) := by unfold xC; infer_instance
instance xA_storable (c k : Dev nD) : BI.Storable (upEmb : UEmb _ 𝕄) (xA (F := F) c k) := by unfold xA; infer_instance
instance rA_storable (c : Dev nD) (t : ℕ) : BI.Storable (upEmb : UEmb _ 𝕄) (rA (F := F) c t) := by unfold rA; infer_instance
instance rC_storable (c : Dev nD) (t : ℕ) : BI.Storable (upEmb : UEmb _ 𝕄) (rC I c t) := by unfold rC; infer_instance
instance sA_storable (c : Dev nD) (j : Fin 2) : BI.Storable (upEmb : UEmb _ 𝕄) (sA (F := F) c j) := by unfold sA; infer_instance

/-! ## The schedule -/

/-- Every DMA cell of device `c` is in its first round. -/
def near (c : Dev nD) : sProp 𝕄 := bigSep (Finset.range 60) fun i => reached ER (dcell c (6 + i)) 0
instance near_persistent (c : Dev nD) : BI.Persistent (near (F := F) c) := by unfold near; infer_instance
instance near_storable (c : Dev nD) : BI.Storable (upEmb : UEmb _ 𝕄) (near (F := F) c) := by unfold near; infer_instance

/-- What device `c`'s right neighbour hands over at the barrier. -/
def barT (c : Dev nD) : sProp 𝕄 :=
  iprop(near (nxt c) ∗ (bigSep (Finset.range 8) fun h => xA (nxt c) (back c h)) ∗ bigSep (Finset.range 15) fun t => rA (nxt c) t)
/-- What its left neighbour hands over. -/
def barF (c : Dev nD) : sProp 𝕄 := iprop(near (prv c) ∗ bigSep (Finset.range 7) fun h => xA (prv c) (ahead c h))

/-- What a copy pays into DMA cell `n` of device `c`. -/
def dmaPay (c : Dev nD) (n : ℕ) : sProp 𝕄 :=
  if n < 14 then xC I qR c (back c (n - 6))
  else if n < 22 then xC I fullShare c (back c (n - 14 + 1))
  else if n < 29 then xC I qL c (ahead c (n - 22))
  else if n < 36 then xC I fullShare c (ahead c (n - 29 + 1))
  else if n < 51 then sA c (slotOf (n - 36))
  else rC I c (n - 51)

instance dmaPay_storable (c : Dev nD) (n : ℕ) : BI.Storable (upEmb : UEmb _ 𝕄) (dmaPay I c n) := by
  unfold dmaPay; (repeat' split) <;> infer_instance

def Rd : Rounds.Schedule (GSem nD τ sig) Bool 𝕄 where
  duties g r := if r = 0 ∧ g.1.2 = .tc then (match g.2 with
    | .reg s => if s = barS then Finset.univ else ∅
    | .dma q => if 6 ≤ q.val then {false} else ∅) else ∅
  unitless _ := False
  amount g _ _ := match g.2 with | .reg _ => 1 | .dma _ => N
  payload g _ d := match g.2 with
    | .reg _ => if d then barT g.1.1 else barF g.1.1
    | .dma q => dmaPay I g.1.1 q.val
  amount_pos g _ _ _ := by
    match g.2 with
    | .reg _ => exact Nat.one_pos
    | .dma _ => exact N_pos

instance Rd_payload_storable (g : GSem nD τ sig) (r : ℕ) (d : Bool) :
    BI.Storable (upEmb : UEmb _ 𝕄) ((Rd I).payload g r d) := by
  obtain ⟨t, s⟩ := g
  cases s with
  | reg s =>
    show BI.Storable upEmb (if d then barT t.1 else barF t.1)
    unfold barT barF
    split <;> infer_instance
  | dma q => show BI.Storable upEmb (dmaPay I t.1 q.val); infer_instance

section Sched
variable (c : Dev nD)

theorem dq_val {n : ℕ} (h : n < 66) : (dq n).val = n := Nat.mod_eq_of_lt h

theorem duties_bar : (Rd I).duties (bcell c) 0 = Finset.univ := by
  dsimp only [Rd]
  rw [if_pos ⟨rfl, rfl⟩]; exact if_pos rfl
theorem duties_dma {n : ℕ} (h : 6 ≤ n) (h' : n < 66) : (Rd I).duties (dcell c n) 0 = {false} := by
  dsimp only [Rd]
  rw [if_pos ⟨rfl, rfl⟩]; exact if_pos (by rw [dq_val h']; exact h)
theorem duties_later (g : GSem nD τ sig) : ∀ r, 1 ≤ r → (Rd I).duties g r = ∅ :=
  fun r hr => if_neg fun h => by omega
theorem amount_bar (d : Bool) : (Rd I).amount (bcell c) 0 d = 1 := rfl
theorem amount_dma (n : ℕ) (d : Bool) : (Rd I).amount (dcell c n) 0 d = N := rfl
theorem expect_bar : (Rd I).expect (bcell c) 0 = 2 := by
  unfold Schedule.expect Schedule.amountOf
  rw [duties_bar, Finset.sum_congr rfl fun d _ => amount_bar I c d, Finset.sum_const, Finset.card_univ, Fintype.card_bool, smul_eq_mul]
theorem expect_dma {n : ℕ} (h : 6 ≤ n) (h' : n < 66) : (Rd I).expect (dcell c n) 0 = N := by
  unfold Schedule.expect Schedule.amountOf; rw [duties_dma I c h h', Finset.sum_singleton, amount_dma]
theorem payload_dma {n : ℕ} (h : n < 66) (d : Bool) : (Rd I).payload (dcell c n) 0 d = dmaPay I c n := by
  show dmaPay I c (dq n).val = _; rw [dq_val h]
theorem payload_barT : (Rd I).payload (bcell c) 0 true = barT c := rfl
theorem payload_barF : (Rd I).payload (bcell c) 0 false = barF c := rfl
theorem rest_bar : bigSep ((Rd I).duties (bcell c) 0 \ ∅) (fun d => (Rd I).payload (bcell c) 0 d) = iprop(barF c ∗ barT c) := by
  rw [Finset.sdiff_empty, duties_bar, bigSep_univ_eq_bigSepL [false, true] (by decide) (by decide), bigSepL_cons_cons, bigSepL_singleton,
    payload_barF, payload_barT]
  rfl
theorem rest_dma {n : ℕ} (h : 6 ≤ n) (h' : n < 66) :
    bigSep ((Rd I).duties (dcell c n) 0 \ ∅) (fun d => (Rd I).payload (dcell c n) 0 d) = dmaPay I c n := by
  rw [Finset.sdiff_empty, duties_dma I c h h', bigSep_singleton, payload_dma I c h']

theorem pay_SR {h : ℕ} (hh : h < 8) : dmaPay I c (6 + h) = xC I qR c (back c h) := by
  unfold dmaPay; rw [if_pos (by omega)]; congr 2; omega
theorem pay_VR {h : ℕ} (hh : h < 8) : dmaPay I c (14 + h) = xC I fullShare c (back c (h + 1)) := by
  unfold dmaPay; rw [if_neg (by omega), if_pos (by omega)]; congr 2; omega
theorem pay_SL {h : ℕ} (hh : h < 7) : dmaPay I c (22 + h) = xC I qL c (ahead c h) := by
  unfold dmaPay; rw [if_neg (by omega), if_neg (by omega), if_pos (by omega)]; congr 2; omega
theorem pay_VL {h : ℕ} (hh : h < 7) : dmaPay I c (29 + h) = xC I fullShare c (ahead c (h + 1)) := by
  unfold dmaPay; rw [if_neg (by omega), if_neg (by omega), if_neg (by omega), if_pos (by omega)]; congr 2; omega
theorem pay_sS {t : ℕ} (ht : t < 15) : dmaPay I c (36 + t) = sA c (slotOf t) := by
  unfold dmaPay; rw [if_neg (by omega), if_neg (by omega), if_neg (by omega), if_neg (by omega), if_pos (by omega)]
  rw [Nat.add_sub_cancel_left]
theorem pay_sV {t : ℕ} (ht : t < 15) : dmaPay I c (51 + t) = rC I c t := by
  unfold dmaPay; rw [if_neg (by omega), if_neg (by omega), if_neg (by omega), if_neg (by omega), if_neg (by omega)]
  rw [Nat.add_sub_cancel_left]

end Sched

/-! ## What each core owes; the levels -/

/-- What device `c` still owes once it has started its first `h` copies to the right, its first `h'` to the left
and its first `t` of the reduce-scatter. -/
def owe (c : Dev nD) (h h' t : ℕ) : CellTallies nD τ sig Unit :=
  (∑ i ∈ Finset.Ico h 8, tallyAt (dcell (nxt c) (14 + i)) () N) + (∑ i ∈ Finset.Ico h' 7, tallyAt (dcell (prv c) (29 + i)) () N)
    + ∑ i ∈ Finset.Ico t 15, tallyAt (dcell (nxt c) (51 + i)) () N
def owe₁ (c : Dev nD) : CellTallies nD τ sig Unit := owe c 0 0 0 + tallyAt (bcell (nxt c)) () 1
def owe₀ (c : Dev nD) : CellTallies nD τ sig Unit := owe₁ c + tallyAt (bcell (prv c)) () 1

theorem owe_right (c : Dev nD) {h : ℕ} (h' t : ℕ) (hh : h < 8) : owe c h h' t = owe c (h + 1) h' t + tallyAt (dcell (nxt c) (14 + h)) () N := by
  unfold owe; rw [Finset.sum_eq_sum_Ico_succ_bot hh]; abel
theorem owe_left (c : Dev nD) (h : ℕ) {h' : ℕ} (t : ℕ) (hh : h' < 7) : owe c h h' t = owe c h (h' + 1) t + tallyAt (dcell (prv c) (29 + h')) () N := by
  unfold owe; rw [Finset.sum_eq_sum_Ico_succ_bot hh]; abel
theorem owe_step (c : Dev nD) (h h' : ℕ) {t : ℕ} (hh : t < 15) : owe c h h' t = owe c h h' (t + 1) + tallyAt (dcell (nxt c) (51 + t)) () N := by
  unfold owe; rw [Finset.sum_eq_sum_Ico_succ_bot hh]; abel
theorem owe_done (c : Dev nD) : owe c 8 7 15 = 0 := by unfold owe; simp

def L (g : GSem nD τ sig) : Finset Unit := if g.1.2 = .tc then {()} else ∅
def dmaLv (n : ℕ) : ℕ := if n < 14 then 0 else if n < 22 then n - 12 else if n < 29 then 0 else if n < 36 then n - 27 else if n < 51 then 0 else n - 31
def lv (g : GSem nD τ sig) (_ : Unit) : ℕ := match g.2 with | .reg _ => 1 | .dma q => dmaLv q.val

theorem L_of_ne (g : GSem nD τ sig) (h : g.1.2 ≠ .tc) : L g = ∅ := if_neg h
theorem L_tc (c : Dev nD) (sm : SemLoc sig) : L ((c : Thread nD τ), sm) = {()} := if_pos rfl

theorem sum_tally_pos {S : Finset ℕ} {cell : ℕ → GSem nD τ sig} {n : ℕ} {g : GSem nD τ sig} {u : Unit}
    (h : 0 < (∑ i ∈ S, tallyAt (cell i) () n : CellTallies nD τ sig Unit) g u) : ∃ i ∈ S, g = cell i := by
  by_contra hn
  have : ∀ i ∈ S, (tallyAt (cell i) () n : CellTallies nD τ sig Unit) g u = 0 := fun i hi => by
    rw [tallyAt_apply]; exact if_neg fun h' => hn ⟨i, hi, h'.1⟩
  rw [Finset.sum_apply, Finsupp.finset_sum_apply, Finset.sum_eq_zero this] at h
  exact Nat.lt_irrefl 0 h

theorem owe_pos {c : Dev nD} {h h' t : ℕ} {g : GSem nD τ sig} {u : Unit} (hp : 0 < owe c h h' t g u) :
    (∃ i, (h ≤ i ∧ i < 8) ∧ g = dcell (nxt c) (14 + i)) ∨ (∃ i, (h' ≤ i ∧ i < 7) ∧ g = dcell (prv c) (29 + i))
      ∨ ∃ i, (t ≤ i ∧ i < 15) ∧ g = dcell (nxt c) (51 + i) := by
  unfold owe at hp
  rw [Pi.add_apply, Finsupp.add_apply, Pi.add_apply, Finsupp.add_apply] at hp
  have hs : 0 < (∑ i ∈ Finset.Ico t 15, tallyAt (dcell (nxt c) (51 + i)) () N : CellTallies nD τ sig Unit) g u ∨
      0 < (∑ i ∈ Finset.Ico h' 7, tallyAt (dcell (prv c) (29 + i)) () N : CellTallies nD τ sig Unit) g u ∨
      0 < (∑ i ∈ Finset.Ico h 8, tallyAt (dcell (nxt c) (14 + i)) () N : CellTallies nD τ sig Unit) g u := by omega
  rcases hs with h | h | h
  · obtain ⟨i, hi, e⟩ := sum_tally_pos h; exact .inr (.inr ⟨i, Finset.mem_Ico.mp hi, e⟩)
  · obtain ⟨i, hi, e⟩ := sum_tally_pos h; exact .inr (.inl ⟨i, Finset.mem_Ico.mp hi, e⟩)
  · obtain ⟨i, hi, e⟩ := sum_tally_pos h; exact .inl ⟨i, Finset.mem_Ico.mp hi, e⟩

theorem lv_dma (c : Dev nD) {n : ℕ} (h : n < 66) (u : Unit) : lv (dcell c n) u = dmaLv n := by
  show dmaLv (dq n).val = _; rw [dq_val h]

/-- A wait at level `b` is allowed while everything still owed is at higher levels. -/
theorem mayWait (c : Dev nD) (sm : SemLoc sig) (h h' t b : ℕ) (hsm : lv ((c : Thread nD τ), sm) () ≤ b)
    (h1 : ∀ i, h ≤ i → i < 8 → b < 2 + i) (h2 : ∀ i, h' ≤ i → i < 7 → b < 2 + i) (h3 : ∀ i, t ≤ i → i < 15 → b < 20 + i) :
    (levAts L lv : sProp 𝕄) ⊢ MayWait (c : Thread nD τ) sm () (owe c h h' t) :=
  MayOwe.of_cut (L := L) (lev := lv) b (fun p hp => by rw [Finset.mem_singleton.mp hp, L_tc]; exact Finset.mem_singleton_self _)
    (fun g u hg => by rcases owe_pos hg with ⟨i, _, rfl⟩ | ⟨i, _, rfl⟩ | ⟨i, _, rfl⟩ <;> exact Finset.mem_singleton_self _)
    (fun p hp => by rw [Finset.mem_singleton.mp hp]; exact hsm)
    (fun g u hg => by
      rcases owe_pos hg with ⟨i, hi, rfl⟩ | ⟨i, hi, rfl⟩ | ⟨i, hi, rfl⟩
      · rw [lv_dma _ (by omega), dmaLv, if_neg (by omega), if_pos (by omega)]; have := h1 i hi.1 hi.2; omega
      · rw [lv_dma _ (by omega), dmaLv, if_neg (by omega), if_neg (by omega), if_neg (by omega), if_pos (by omega)]; have := h2 i hi.1 hi.2; omega
      · rw [lv_dma _ (by omega), dmaLv, if_neg (by omega), if_neg (by omega), if_neg (by omega), if_neg (by omega), if_neg (by omega)]
        have := h3 i hi.1 hi.2; omega)

theorem lv_bar (c : Dev nD) (u : Unit) : lv (bcell c) u = 1 := rfl

theorem owe₀_pos {c : Dev nD} {g : GSem nD τ sig} {u : Unit} (hg : 0 < owe₀ c g u) :
    g = bcell (prv c) ∨ g = bcell (nxt c) ∨ 0 < owe c 0 0 0 g u := by
  unfold owe₀ owe₁ at hg
  rw [Pi.add_apply, Finsupp.add_apply, Pi.add_apply, Finsupp.add_apply, tallyAt_apply, tallyAt_apply] at hg
  by_cases e1 : g = bcell (prv c)
  · exact .inl e1
  · by_cases e2 : g = bcell (nxt c)
    · exact .inr (.inl e2)
    · rw [if_neg (fun h' => e2 h'.1), if_neg (fun h' => e1 h'.1), Nat.add_zero] at hg
      exact .inr (.inr hg)

/-- At launch a device owes only cells above the staging semaphores. -/
theorem mayWait_stage (c : Dev nD) (q : DmaSem sig) (hq : dmaLv q.val = 0) : (levAts L lv : sProp 𝕄) ⊢ MayWait (c : Thread nD τ) (.dma q) () (owe₀ c) := by
  refine MayOwe.of_cut (L := L) (lev := lv) 0 (fun p hp => by rw [Finset.mem_singleton.mp hp, L_tc]; exact Finset.mem_singleton_self _)
    (fun g u hg => ?_) (fun p hp => by rw [Finset.mem_singleton.mp hp]; show dmaLv q.val ≤ 0; rw [hq]) (fun g u hg => ?_)
  · rcases owe₀_pos hg with rfl | rfl | hg
    · exact Finset.mem_singleton_self _
    · exact Finset.mem_singleton_self _
    · rcases owe_pos hg with ⟨i, _, rfl⟩ | ⟨i, _, rfl⟩ | ⟨i, _, rfl⟩ <;> exact Finset.mem_singleton_self _
  · rcases owe₀_pos hg with rfl | rfl | hg
    · rw [lv_bar]; exact Nat.one_pos
    · rw [lv_bar]; exact Nat.one_pos
    · rcases owe_pos hg with ⟨i, hi, rfl⟩ | ⟨i, hi, rfl⟩ | ⟨i, hi, rfl⟩
      · rw [lv_dma _ (by omega), dmaLv, if_neg (by omega), if_pos (by omega)]; omega
      · rw [lv_dma _ (by omega), dmaLv, if_neg (by omega), if_neg (by omega), if_neg (by omega), if_pos (by omega)]; omega
      · rw [lv_dma _ (by omega), dmaLv, if_neg (by omega), if_neg (by omega), if_neg (by omega), if_neg (by omega), if_neg (by omega)]; omega

/-! ## The record of every cell -/

def cellRec (g : GSem nD τ sig) : sProp 𝕄 := iprop((∃ κ, cellInv ER (Rd I) κ g) ∗ reached ER g 0)
instance cellRec_persistent (g : GSem nD τ sig) : BI.Persistent (cellRec I g) := by unfold cellRec; infer_instance
/-- Every cell of every device is under the schedule; the barrier cells are in their first round. -/
def invs : sProp 𝕄 := bigSep Finset.univ fun c : Dev nD =>
  iprop((bigSep (Finset.range 60) fun i => iprop(∃ κ, cellInv ER (Rd I) κ (dcell c (6 + i)))) ∗ cellRec I (bcell c))
instance invs_persistent : BI.Persistent (invs I) := by unfold invs; infer_instance
/-- What device `c` knows of the cells it uses, its own and those of its two neighbours. -/
def records (c : Dev nD) : sProp 𝕄 := iprop(invs I ∗ near c ∗ near (nxt c) ∗ near (prv c))
instance records_persistent (c : Dev nD) : BI.Persistent (records I c) := by unfold records; infer_instance

theorem rec_dev (c : Dev nD) :
    invs I ⊢ iprop((bigSep (Finset.range 60) fun i => iprop(∃ κ, cellInv ER (Rd I) κ (dcell c (6 + i)))) ∗ cellRec I (bcell c)) :=
  bigSep_elim (Finset.mem_univ c)
theorem rec_bar (c : Dev nD) : invs I ⊢ cellRec I (bcell c) :=
  (rec_dev I c).trans sep_elim_right
theorem inv_dma (c : Dev nD) {n : ℕ} (h : 6 ≤ n) (h' : n < 66) : invs I ⊢ iprop(∃ κ, cellInv ER (Rd I) κ (dcell c n)) := by
  refine ((rec_dev I c).trans sep_elim_left).trans ?_
  have e : iprop(∃ κ, cellInv ER (Rd I) κ (dcell c (6 + (n - 6)))) = iprop(∃ κ, cellInv ER (Rd I) κ (dcell c n)) := by
    rw [show 6 + (n - 6) = n by omega]
  exact e ▸ bigSep_elim (Φ := fun i => iprop(∃ κ, cellInv ER (Rd I) κ (dcell c (6 + i)))) (Finset.mem_range.mpr (by omega : n - 6 < 60))
theorem near_dma (c : Dev nD) {n : ℕ} (h : 6 ≤ n) (h' : n < 66) : near c ⊢ (reached ER (dcell c n) 0 : sProp 𝕄) := by
  unfold near
  have e : (reached ER (dcell c (6 + (n - 6))) 0 : sProp 𝕄) = reached ER (dcell c n) 0 := by rw [show 6 + (n - 6) = n by omega]
  exact e ▸ bigSep_elim (Φ := fun i => (reached ER (dcell c (6 + i)) 0 : sProp 𝕄)) (Finset.mem_range.mpr (by omega : n - 6 < 60))
/-- Device `n` is `c` or one of its neighbours. -/
def Close (c n : Dev nD) : Prop := n = c ∨ n = nxt c ∨ n = prv c
theorem close_self (c : Dev nD) : Close c c := .inl rfl
theorem close_nxt (c : Dev nD) : Close c (nxt c) := .inr (.inl rfl)
theorem close_prv (c : Dev nD) : Close c (prv c) := .inr (.inr rfl)
theorem rec_dma (c m : Dev nD) (hm : Close c m) {n : ℕ} (h : 6 ≤ n) (h' : n < 66) : records I c ⊢ cellRec I (dcell m n) := by
  have hn : records I c ⊢ near m := by
    unfold records
    rcases hm with rfl | rfl | rfl
    · iintro ⟨-, H, -, -⟩; iexact H
    · iintro ⟨-, -, H, -⟩; iexact H
    · iintro ⟨-, -, -, H⟩; iexact H
  have hi : records I c ⊢ invs I := sep_elim_left
  unfold cellRec
  iintro #H
  isplitr
  · iapply (inv_dma I m h h'); iapply hi; iexact H
  · iapply (near_dma m h h'); iapply hn; iexact H

end Cert.Ring16
end
-- ==== Proof.Moves.lean ====
/-
# The signals, the copies and the waits

One rule for each kind of communication step, at a symbolic device and a symbolic step number: what it takes from
the device and what it gives back.
-/
module

public import proofs.«01_k».proof.Proof.Protocol

@[expose] public section

noncomputable section

namespace Cert.Ring16

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F)

/-- What a device still owes, whatever it has waited on. -/
def own (c : Dev nD) (O : CellTallies nD τ sig Unit) : sProp 𝕄 := iprop(∃ W, owes (c : Thread nD τ) O W)

/-- A device's program reaches `Q`. -/
abbrev run (c : Dev nD) (k : PR F) (Q : PUnit → sProp 𝕄) : sProp 𝕄 :=
  wp frame (wpE (defs₀ (F := F)) 𝒱₀ (c : Thread nD τ) none) Set.univ k Q

/-- The right to wait on a cell. -/
abbrev posn (c : Dev nD) (n : ℕ) : sProp 𝕄 := atPos ER (dcell c n) 0 ∅ 0
abbrev crd (c : Dev nD) (n : ℕ) : sProp 𝕄 := cred (tallyAt (dcell c n) () N)
abbrev tok (c : Dev nD) (n : ℕ) : sProp 𝕄 := dutyTok ER (dcell c n) 0 false
abbrev zero (c : Dev nD) (n : ℕ) : sProp 𝕄 := semVal (dcell c n) 0

/-! ## Reading and writing one rectangle of a whole buffer -/

section Whole
variable {b : Ref sig .tc} {off size : Fin b.ty.shape.rank → ℕ} {inb : ∀ a, off a + size a ≤ b.ty.shape.size a}

theorem emb_at (y : (Rect.unit off size inb).shape.Idx) (i : b.ty.shape.Idx) (h : ∀ a, (i a).val = off a + (y a).val) :
    (Rect.unit off size inb).emb y = i :=
  funext fun a => Fin.ext (by
    show off a + 1 * (y a).val = (i a).val
    rw [h a, Nat.one_mul])

theorem get_at (f : b.ty.Contents (Elt F)) (y : (Rect.unit off size inb).shape.Idx) (i : b.ty.shape.Idx)
    (h : ∀ a, (i a).val = off a + (y a).val) :
    (Memref.whole b : Memref sig .tc _ _ _).view.readAt (Elt F) (Rect.unit off size inb).toLoadRect f y = f i := by
  rw [← emb_at y i h]; rfl

theorem put_at (f : b.ty.Contents (Elt F)) (w : (Rect.unit off size inb).shape.Idx → Elt F b.ty.elt)
    (y : (Rect.unit off size inb).shape.Idx) (i : b.ty.shape.Idx) (h : ∀ a, (i a).val = off a + (y a).val) :
    ((Memref.whole b : Memref sig .tc _ _ _).access (Rect.unit off size inb)).write (Elt F) f w Finset.univ i = w y := by
  rw [← emb_at y i h]
  exact View.write_emb_of_mem (v := (View.whole b).slice (Rect.unit off size inb)) f w (Finset.mem_univ y)

theorem put_off (f : b.ty.Contents (Elt F)) (w : (Rect.unit off size inb).shape.Idx → Elt F b.ty.elt)
    (i : b.ty.shape.Idx) (a : Fin b.ty.shape.rank) (h : (i a).val < off a ∨ off a + size a ≤ (i a).val) :
    ((Memref.whole b : Memref sig .tc _ _ _).access (Rect.unit off size inb)).write (Elt F) f w Finset.univ i = f i := by
  refine View.write_of_not_mem (v := (View.whole b).slice (Rect.unit off size inb)) f w _ fun hi => ?_
  have hi' : i ∈ ((View.whole b).slice (Rect.unit off size inb)).set := by
    rw [View.setOn_univ] at hi; exact hi
  rw [View.set_slice_whole, Rect.mem_set_unit] at hi'
  have := hi' a
  omega
end Whole

/-- Writing what a view reads leaves what was read. -/
theorem write_read {sp : Space} {s : Shape} {e : EltTy} (v : View sig .tc sp s e) (fd fs : v.ty.Contents (Elt F)) :
    ∀ i ∈ v.set, v.write (Elt F) fd (v.read (Elt F) fs) Finset.univ i = fs i := by
  intro i hi
  obtain ⟨x, -, hx⟩ := Finset.mem_map.mp hi
  subst hx
  rw [View.write_emb_of_mem _ _ (Finset.mem_univ x), View.read_apply]
  simp

/-! ## Waits -/

/-- A wait on DMA cell `n`, whose level is below what is still owed: the cell's payload comes back, and the cell is
at zero for good. -/
theorem wp_wait (c : Dev nD) {n : ℕ} (h6 : 6 ≤ n ∧ n < 66) {q : DmaSem sig} (hq : q = dq n) {P : sProp 𝕄} (hP : dmaPay I c n = P)
    (r r' t b : ℕ) (hlv : dmaLv n ≤ b)
    (h1 : ∀ i, r ≤ i → i < 8 → b < 2 + i) (h2 : ∀ i, r' ≤ i → i < 7 → b < 2 + i) (h3 : ∀ i, t ≤ i → i < 15 → b < 20 + i)
    {src dst : Memref sig .tc .vmem S2x128x512 .bf16} {hsrc : src.view.WordExact} {hdst : dst.view.WordExact}
    (hN : dst.view.dmaCredit = N) (k : PR F) (Q : PUnit → sProp 𝕄) :
    iprop(records I c ∗ levAts L lv ∗ own c (owe c r r' t) ∗ crd c n ∗ posn c n)
      ⊢ iprop(((own c (owe c r r' t) ∗ zero c n ∗ P) -∗ run c k Q)
          -∗ run c (.op (.waitDma2 q src dst hsrc hdst) fun _ => k) Q) := by
  subst hq hP
  unfold own
  iintro ⟨#HR, #HL, ⟨%W, HO⟩, Hc, Hat⟩ Hk
  ihave #Hrec := (rec_dma I c c (close_self c) h6.1 h6.2) $$ HR
  unfold cellRec
  icases Hrec with ⟨⟨%κ, #HI⟩, -⟩
  iapply (Rounds.wp_wait_rest_token 𝒱₀ ER (Rd I) (c : Thread nD τ) none (κ := κ)
      (wpE_waitDma2_eq 𝒱₀ (c : Thread nD τ) none Set.univ) (Set.mem_univ _) () (O := owe c r r' t) (W := W) (R := 0) (m := 0) (T := ∅)
      (by rw [Nat.zero_add, hN, expect_dma I c h6.1 h6.2])) $$ [Hc HO Hat]
  · isplitr; · iexact HI
    isplitl [Hc]; · iexact Hc
    isplitl [HO]; · iexact HO
    isplitr
    · iapply (mayWait c (.dma (dq n)) r r' t b (by rw [lv_dma c h6.2]; exact hlv) h1 h2 h3); iexact HL
    iexact Hat
  iintro ⟨HO, Hat, -, Hpay⟩
  imod (Rounds.cell_close ER (Rd I) (Set.mem_univ κ) (fun h => h) (R := 0 + 1) (duties_later I (dcell c n))) $$ [Hat] with Hz
  · isplitr; · iexact HI
    iexact Hat
  iapply Hk
  isplitl [HO]; · iexists _; iexact HO
  isplitl [Hz]; · iexact Hz
  iapply (Entails.of_eq (rest_dma I c h6.1 h6.2)); iexact Hpay

theorem lv_SR {h : ℕ} (hh : h < 8) : dmaLv (6 + h) = 0 := by unfold dmaLv; rw [if_pos (by omega)]
theorem lv_VR {h : ℕ} (hh : h < 8) : dmaLv (14 + h) = 2 + h := by
  unfold dmaLv; rw [if_neg (by omega), if_pos (by omega)]; omega
theorem lv_SL {h : ℕ} (hh : h < 7) : dmaLv (22 + h) = 0 := by
  unfold dmaLv; rw [if_neg (by omega), if_neg (by omega), if_pos (by omega)]
theorem lv_VL {h : ℕ} (hh : h < 7) : dmaLv (29 + h) = 2 + h := by
  unfold dmaLv; rw [if_neg (by omega), if_neg (by omega), if_neg (by omega), if_pos (by omega)]; omega
theorem lv_sS {t : ℕ} (ht : t < 15) : dmaLv (36 + t) = 0 := by
  unfold dmaLv; rw [if_neg (by omega), if_neg (by omega), if_neg (by omega), if_neg (by omega), if_pos (by omega)]
theorem lv_sV {t : ℕ} (ht : t < 15) : dmaLv (51 + t) = 20 + t := by
  unfold dmaLv; rw [if_neg (by omega), if_neg (by omega), if_neg (by omega), if_neg (by omega), if_neg (by omega)]; omega

/-! ## The gather's copies -/

set_option maxHeartbeats 1000000 in
/-- Start a copy of chunk `k` from device `c` to device `n`, owing the landing. -/
theorem wp_sendX (c n k : Dev nD) (q : PosShare TreeShare) {off : Fin 3 → ℕ} {inb} (hoff : off = ![0, 128 * k.val, 0])
    {dev : Dev nD} (hn : Close c n) (hdev : dev = n) {qS qV : DmaSem sig} {a b : ℕ} (ha : 6 ≤ a ∧ a < 66) (hb : 6 ≤ b ∧ b < 66) (hS : qS = dq a) (hV : qV = dq b)
    (hpay : dmaPay I c a = xC I q c k) (hpay' : dmaPay I n b = xC I fullShare n k)
    (O O' : CellTallies nD τ sig Unit) (hO : O = O' + tallyAt (dcell n b) () N)
    {hsc : (xSl off inb).view.ref.isScScratch = false} {hsrc : (xSl off inb).view.WordExact} {hdst : (xSl off inb).view.WordExact}
    {hsem : DmaTarget.Typed .vmem (.dma qV) (.remote (Dev.tc dev : Thread nD τ) (xSl off inb) (.dma qS) hsc)}
    (kk : PR F) (Q : PUnit → sProp 𝕄) :
    iprop(records I c ∗ own c O ∗ xC I q c k ∗ xA n k ∗ tok c a ∗ tok n b)
      ⊢ iprop(((own c O' ∗ crd c a) -∗ run c kk Q)
          -∗ run c (.op (.enqueueDma (xSl off inb) (.remote (Dev.tc dev : Thread nD τ) (xSl off inb) (.dma qS) hsc) (.dma qV) hsrc hdst hsem) fun _ => kk) Q) := by
  subst hS hV hdev hoff
  unfold own xA
  iintro ⟨#HR, ⟨%W, HO⟩, Hx, ⟨%fd, Hd⟩, Ht, Ht'⟩ Hk
  ihave #Hrec := (rec_dma I c c (close_self c) ha.1 ha.2) $$ HR
  ihave #Hrec' := (rec_dma I c dev hn hb.1 hb.2) $$ HR
  unfold cellRec
  icases Hrec with ⟨⟨%κ, #HI⟩, #Hr⟩
  icases Hrec' with ⟨⟨%κ', #HI'⟩, #Hr'⟩
  iapply (Rounds.wp_send_pointsTo 𝒱₀ ER (Rd I) (c : Thread nD τ) none (c' := (Dev.tc dev : Thread nD τ)) (src := xSl ![0, 128 * k.val, 0] inb) (dst := xSl ![0, 128 * k.val, 0] inb) (κ₁ := κ) (κ₂ := κ')
    (r₁ := 0) (r₂ := 0) (d₁ := false) (d₂ := false) (fd := fd) (q := q) (fs := XF I)
    (by rw [duties_dma I c ha.1 ha.2]; exact Finset.mem_singleton_self _) (by rw [duties_dma I dev hb.1 hb.2]; exact Finset.mem_singleton_self _)
    () () N rfl (amount_dma I c a false) (amount_dma I dev b false) O' hO (W := W)
    (by rw [payload_dma I c ha.2, hpay]; unfold xC; exact BI.Entails.refl _)
    (by
      rw [payload_dma I dev hb.2, hpay']; unfold xC
      rw [pointsTo_congr (write_read (F := F) (xSl _ inb).view fd (XF I))])) $$ [HO Hx Hd Ht Ht']
  · isplitr; · iexact HI
    isplitr; · iexact HI'
    isplitl [Hx]; · unfold xC; iexact Hx
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists _; iexact HO
  iexact Hc

theorem wp_sendR (c : Dev nD) (h : Fin 8) (h' t : ℕ) (k : PR F) (Q : PUnit → sProp 𝕄) :
    iprop(records I c ∗ own c (owe c h.val h' t) ∗ xC I qR c (back c h.val) ∗ xA (nxt c) (back c h.val) ∗ tok c (6 + h.val) ∗ tok (nxt c) (14 + h.val))
      ⊢ iprop(((own c (owe c (h.val + 1) h' t) ∗ crd c (6 + h.val)) -∗ run c k Q) -∗ run c (sendRC c h k) Q) :=
  wp_sendX I c (nxt c) (back c h.val) qR (offR_eq c h) (close_nxt c) (dev3_eq c) (by omega) (by omega) (agSR_eq h) (agVR_eq h)
    (pay_SR I c h.isLt) ((pay_VR I (nxt c) h.isLt).trans (by rw [← back_prv (nxt c) h.val (by omega), prv_nxt])) _ _ (owe_right c h' t h.isLt) k Q

theorem wp_sendL (c : Dev nD) (r : ℕ) (h : Fin 7) (t : ℕ) (k : PR F) (Q : PUnit → sProp 𝕄) :
    iprop(records I c ∗ own c (owe c r h.val t) ∗ xC I qL c (ahead c h.val) ∗ xA (prv c) (ahead c h.val) ∗ tok c (22 + h.val) ∗ tok (prv c) (29 + h.val))
      ⊢ iprop(((own c (owe c r (h.val + 1) t) ∗ crd c (22 + h.val)) -∗ run c k Q) -∗ run c (sendLC c h k) Q) :=
  wp_sendX I c (prv c) (ahead c h.val) qL (offL_eq c h) (close_prv c) (dev4_eq c) (by omega) (by omega) (agSL_eq h) (agVL_eq h)
    (pay_SL I c h.isLt) ((pay_VL I (prv c) h.isLt).trans (by rw [← ahead_nxt (prv c) h.val, nxt_prv])) _ _ (owe_left c r t h.isLt) k Q

/-! ## The gather's waits -/

theorem wp_gotR (c : Dev nD) (h : Fin 8) (r r' t : ℕ) (hr : h.val < r) (hr' : h.val < r' ∨ 7 ≤ r') (k : PR F) (Q : PUnit → sProp 𝕄) :
    iprop(records I c ∗ levAts L lv ∗ own c (owe c r r' t) ∗ crd c (14 + h.val) ∗ posn c (14 + h.val))
      ⊢ iprop(((own c (owe c r r' t) ∗ zero c (14 + h.val) ∗ xC I fullShare c (back c (h.val + 1))) -∗ run c k Q)
          -∗ run c (waitRC c h (agVR h) k) Q) :=
  wp_wait I c (by omega) (agVR_eq h) (pay_VR I c h.isLt) r r' t (2 + h.val) (le_of_eq (lv_VR h.isLt)) (by omega) (by omega) (by omega)
    (src := xR c h) (dst := xR c h) rfl k Q

theorem wp_gotL (c : Dev nD) (h : Fin 7) (r r' t : ℕ) (hr : h.val < r) (hr' : h.val < r') (k : PR F) (Q : PUnit → sProp 𝕄) :
    iprop(records I c ∗ levAts L lv ∗ own c (owe c r r' t) ∗ crd c (29 + h.val) ∗ posn c (29 + h.val))
      ⊢ iprop(((own c (owe c r r' t) ∗ zero c (29 + h.val) ∗ xC I fullShare c (ahead c (h.val + 1))) -∗ run c k Q)
          -∗ run c (waitLC c h (agVL h) k) Q) :=
  wp_wait I c (by omega) (agVL_eq h) (pay_VL I c h.isLt) r r' t (2 + h.val) (le_of_eq (lv_VL h.isLt)) (by omega) (by omega) (by omega)
    (src := xL c h) (dst := xL c h) rfl k Q

theorem wp_leftR (c : Dev nD) (h : Fin 8) (r r' t : ℕ) (k : PR F) (Q : PUnit → sProp 𝕄) :
    iprop(records I c ∗ levAts L lv ∗ own c (owe c r r' t) ∗ crd c (6 + h.val) ∗ posn c (6 + h.val))
      ⊢ iprop(((own c (owe c r r' t) ∗ zero c (6 + h.val) ∗ xC I qR c (back c h.val)) -∗ run c k Q)
          -∗ run c (waitRC c h (agSR h) k) Q) :=
  wp_wait I c (by omega) (agSR_eq h) (pay_SR I c h.isLt) r r' t 0 (le_of_eq (lv_SR h.isLt)) (by omega) (by omega) (by omega)
    (src := xR c h) (dst := xR c h) rfl k Q

theorem wp_leftL (c : Dev nD) (h : Fin 7) (r r' t : ℕ) (k : PR F) (Q : PUnit → sProp 𝕄) :
    iprop(records I c ∗ levAts L lv ∗ own c (owe c r r' t) ∗ crd c (22 + h.val) ∗ posn c (22 + h.val))
      ⊢ iprop(((own c (owe c r r' t) ∗ zero c (22 + h.val) ∗ xC I qL c (ahead c h.val)) -∗ run c k Q)
          -∗ run c (waitLC c h (agSL h) k) Q) :=
  wp_wait I c (by omega) (agSL_eq h) (pay_SL I c h.isLt) r r' t 0 (le_of_eq (lv_SL h.isLt)) (by omega) (by omega) (by omega)
    (src := xL c h) (dst := xL c h) rfl k Q

/-! ## The reduce-scatter's copies and waits -/

theorem wp_sent (c : Dev nD) (j : Fin 15) (r r' t : ℕ) (k : PR F) (Q : PUnit → sProp 𝕄) :
    iprop(records I c ∗ levAts L lv ∗ own c (owe c r r' t) ∗ crd c (36 + j.val) ∗ posn c (36 + j.val))
      ⊢ iprop(((own c (owe c r r' t) ∗ zero c (36 + j.val) ∗ sA c (slotOf j.val)) -∗ run c k Q)
          -∗ run c (sentC j k) Q) :=
  wp_wait I c (by omega) (rsS_eq j) (pay_sS I c j.isLt) r r' t 0 (le_of_eq (lv_sS j.isLt)) (by omega) (by omega) (by omega)
    (src := rSl j) (dst := sSl (slotOf j.val)) rfl k Q

theorem wp_got (c : Dev nD) (j : Fin 15) (t : ℕ) (ht : j.val < t) (k : PR F) (Q : PUnit → sProp 𝕄) :
    iprop(records I c ∗ levAts L lv ∗ own c (owe c 8 7 t) ∗ crd c (51 + j.val) ∗ posn c (51 + j.val))
      ⊢ iprop(((own c (owe c 8 7 t) ∗ zero c (51 + j.val) ∗ rC I c j.val) -∗ run c k Q)
          -∗ run c (gotC j k) Q) :=
  wp_wait I c (by omega) (rsV_eq j) (pay_sV I c j.isLt) 8 7 t (20 + j.val) (le_of_eq (lv_sV j.isLt)) (by omega) (by omega) (by omega)
    (src := sSl (slotOf j.val)) (dst := rSl j) rfl k Q

/-- An outgoing slot copied to an incoming one. -/
theorem copy_slot (t : Fin 15) (j : Fin 2) (fd : Vec F S15x2x128x512 .bf16) (fs : Vec F S2x2x128x512 .bf16) :
    ∀ i ∈ rSet t, (rSl t).view.write (Elt F) fd ((sSl j).view.read (Elt F) fs) Finset.univ i = fs (ix4 j (i 1) (i 2) (i 3)) := by
  intro i hi
  obtain ⟨x, -, hx⟩ := Finset.mem_map.mp hi
  subst hx
  rw [View.write_emb_of_mem _ _ (Finset.mem_univ x)]
  have hy : ((Shape.reshapeEquiv squeezes_S1x2x128x512_S2x128x512.numel_eq x) 0).val = 0 := by
    have := ((Shape.reshapeEquiv squeezes_S1x2x128x512_S2x128x512.numel_eq x) 0).isLt
    change _ < 1 at this
    omega
  have e : (sSl j).view.emb x = ix4 j ((rSl t).view.emb x 1) ((rSl t).view.emb x 2) ((rSl t).view.emb x 3) := by
    refine funext fun a => Fin.ext ?_
    match a with
    | ⟨0, _⟩ =>
      show j.val + 1 * ((Shape.reshapeEquiv squeezes_S1x2x128x512_S2x128x512.numel_eq x) 0).val = j.val
      rw [hy]; omega
    | ⟨1, _⟩ => rfl
    | ⟨2, _⟩ => rfl
    | ⟨3, _⟩ => rfl
  show fs ((sSl j).view.emb x) = _
  rw [e]
  rfl

set_option maxHeartbeats 1000000 in
/-- Start a copy of outgoing slot `j` to device `n`'s incoming slot `t`. -/
theorem wp_sendS (c n : Dev nD) (t : Fin 15) (j : Fin 2) {dev : Dev nD} (hn : Close c n) (hdev : dev = n) {qS qV : DmaSem sig} {a b : ℕ}
    (ha : 6 ≤ a ∧ a < 66) (hb : 6 ≤ b ∧ b < 66) (hS : qS = dq a) (hV : qV = dq b)
    (hpay : dmaPay I c a = sA c j) (hpay' : dmaPay I n b = rC I n t.val) (fs : Vec F S2x2x128x512 .bf16)
    (hfs : ∀ i : S15x2x128x512.Idx, i ∈ rSet t → fs (ix4 j (i 1) (i 2) (i 3)) = RSC I n i)
    (O O' : CellTallies nD τ sig Unit) (hO : O = O' + tallyAt (dcell n b) () N)
    {hsc : (rSl t).view.ref.isScScratch = false} {hsrc : (sSl j).view.WordExact} {hdst : (rSl t).view.WordExact}
    {hsem : DmaTarget.Typed .vmem (.dma qV) (.remote (Dev.tc dev : Thread nD τ) (rSl t) (.dma qS) hsc)}
    (kk : PR F) (Q : PUnit → sProp 𝕄) :
    iprop(records I c ∗ own c O ∗ (bS.view.loc (c : Thread nD τ) ↦[sSet j]{fullShare} fs) ∗ rA n t.val ∗ tok c a ∗ tok n b)
      ⊢ iprop(((own c O' ∗ crd c a) -∗ run c kk Q)
          -∗ run c (.op (.enqueueDma (sSl j) (.remote (Dev.tc dev : Thread nD τ) (rSl t) (.dma qS) hsc) (.dma qV) hsrc hdst hsem) fun _ => kk) Q) := by
  have hf : fin15 t.val = t := Fin.ext (Nat.mod_eq_of_lt t.isLt)
  subst hS hV hdev
  unfold own rA
  rw [hf]
  iintro ⟨#HR, ⟨%W, HO⟩, Hx, ⟨%fd, Hd⟩, Ht, Ht'⟩ Hk
  ihave #Hrec := (rec_dma I c c (close_self c) ha.1 ha.2) $$ HR
  ihave #Hrec' := (rec_dma I c dev hn hb.1 hb.2) $$ HR
  unfold cellRec
  icases Hrec with ⟨⟨%κ, #HI⟩, #Hr⟩
  icases Hrec' with ⟨⟨%κ', #HI'⟩, #Hr'⟩
  iapply (Rounds.wp_send_pointsTo 𝒱₀ ER (Rd I) (c : Thread nD τ) none (c' := (Dev.tc dev : Thread nD τ)) (src := sSl j) (dst := rSl t) (κ₁ := κ) (κ₂ := κ')
    (r₁ := 0) (r₂ := 0) (d₁ := false) (d₂ := false) (fd := fd) (q := fullShare) (fs := fs)
    (by rw [duties_dma I c ha.1 ha.2]; exact Finset.mem_singleton_self _) (by rw [duties_dma I dev hb.1 hb.2]; exact Finset.mem_singleton_self _)
    () () N rfl (amount_dma I c a false) (amount_dma I dev b false) O' hO (W := W)
    (by
      rw [payload_dma I c ha.2, hpay]; unfold sA
      iintro H; iexists fs; iexact H)
    (by
      rw [payload_dma I dev hb.2, hpay']; unfold rC
      rw [hf]
      exact Entails.of_eq (pointsTo_congr (fun i hi => (copy_slot t j fd fs i hi).trans (hfs i hi))))) $$ [HO Hx Hd Ht Ht']
  · isplitr; · iexact HI
    isplitr; · iexact HI'
    isplitl [Hx]; · iexact Hx
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists _; iexact HO
  iexact Hc

/-- Send the sum of step `t` on. -/
theorem wp_push (c : Dev nD) (r r' : ℕ) (t : Fin 15) (fs : Vec F S2x2x128x512 .bf16)
    (hfs : ∀ b r e, fs (ix4 (slotOf t.val) b r e) = sent I t.val c b (ix4 0 0 r e)) (k : PR F) (Q : PUnit → sProp 𝕄) :
    iprop(records I c ∗ own c (owe c r r' t.val) ∗ (bS.view.loc (c : Thread nD τ) ↦[sSet (slotOf t.val)]{fullShare} fs) ∗ rA (nxt c) t.val
        ∗ tok c (36 + t.val) ∗ tok (nxt c) (51 + t.val))
      ⊢ iprop(((own c (owe c r r' (t.val + 1)) ∗ crd c (36 + t.val)) -∗ run c k Q) -∗ run c (pushC c t k) Q) :=
  wp_sendS I c (nxt c) t (slotOf t.val) (close_nxt c) (dev3_eq c) (by omega) (by omega) (rsS_eq t) (rsV_eq t) (pay_sS I c t.isLt) (pay_sV I (nxt c) t.isLt) fs
    (fun i hi => (hfs _ _ _).trans (by
      have := (mem_rSet t i).mp hi
      unfold RSC
      rw [prv_nxt, this])) _ _ (owe_step c r r' t.isLt) k Q

/-! ## The barrier -/

/-- What device `c` hands its left neighbour, and what it hands its right one. -/
def giveT (c : Dev nD) : sProp 𝕄 := iprop((bigSep (Finset.range 8) fun h => xA c (back c (h + 1))) ∗ bigSep (Finset.range 15) fun t => rA c t)
def giveF (c : Dev nD) : sProp 𝕄 := bigSep (Finset.range 7) fun h => xA c (ahead c (h + 1))

theorem giveT_eq (c : Dev nD) : iprop(near c ∗ giveT c : sProp 𝕄) = barT (prv c) := by
  have e : ∀ h ∈ Finset.range 8, (xA c (back c (h + 1)) : sProp 𝕄) = xA c (back (prv c) h) := fun h hh => by
    rw [back_prv c h (by have := Finset.mem_range.mp hh; omega)]
  unfold giveT barT
  rw [nxt_prv, bigSep_congr e]
theorem giveF_eq (c : Dev nD) : iprop(near c ∗ giveF c : sProp 𝕄) = barF (nxt c) := by
  have e : ∀ h ∈ Finset.range 7, (xA c (ahead c (h + 1)) : sProp 𝕄) = xA c (ahead (nxt c) h) := fun h _ => by
    rw [ahead_nxt c h]
  unfold giveF barF
  rw [prv_nxt, bigSep_congr e]

set_option maxHeartbeats 1000000 in
theorem wp_barrier (c : Dev nD) (k : PR F) (Q : PUnit → sProp 𝕄) :
    iprop(invs I ∗ near c ∗ levAts L lv ∗ own c (owe₀ c) ∗ giveT c ∗ giveF c ∗ dutyTok ER (bcell (prv c)) 0 true ∗ dutyTok ER (bcell (nxt c)) 0 false
        ∗ cred (tallyAt (bcell c) () 2) ∗ atPos ER (bcell c) 0 ∅ 0)
      ⊢ iprop(((own c (owe c 0 0 0) ∗ barF c ∗ barT c ∗ semVal (bcell c) 0) -∗ run c k Q) -∗ run c (barrierC c k) Q) := by
  unfold own barrierC
  simp only [dev1_eq, dev2_eq]
  iintro ⟨#HR, #Hn, #HL, ⟨%W, HO⟩, HT, HF, HtP, HtN, Hc, Hat⟩ Hk
  ihave #HrecP := (rec_bar I (prv c)) $$ HR
  ihave #HrecN := (rec_bar I (nxt c)) $$ HR
  ihave #Hrec := (rec_bar I c) $$ HR
  unfold cellRec
  icases HrecP with ⟨⟨%κP, #HIP⟩, #HrP⟩
  icases HrecN with ⟨⟨%κN, #HIN⟩, #HrN⟩
  icases Hrec with ⟨⟨%κ, #HI⟩, #Hr⟩
  iapply (Rounds.wp_signal 𝒱₀ ER (Rd I) (c : Thread nD τ) none (dst := (prv c : Thread nD τ)) (κ := κP)
      (d := true) (by rw [duties_bar]; exact Finset.mem_univ _) ((amount_bar I (prv c) true).trans (by decide)) () (owe₁ c) rfl) $$ [HO HtP HT]
  · isplitr; · iexact HIP
    isplitl [HO]; · iexact HO
    isplitl [HtP]; · iexact HtP
    isplitl [HT]
    · rw [payload_barT, ← giveT_eq]
      isplitr; · iexact Hn
      iexact HT
    iexact HrP
  iintro HO
  iapply (Rounds.wp_signal 𝒱₀ ER (Rd I) (c : Thread nD τ) none (dst := (nxt c : Thread nD τ)) (κ := κN)
      (d := false) (by rw [duties_bar]; exact Finset.mem_univ _) ((amount_bar I (nxt c) false).trans (by decide)) () (owe c 0 0 0) rfl) $$ [HO HtN HF]
  · isplitr; · iexact HIN
    isplitl [HO]; · iexact HO
    isplitl [HtN]; · iexact HtN
    isplitl [HF]
    · rw [payload_barF, ← giveF_eq]
      isplitr; · iexact Hn
      iexact HF
    iexact HrN
  iintro HO
  iapply (Rounds.wp_wait_rest_token 𝒱₀ ER (Rd I) (c : Thread nD τ) none (κ := κ)
      (wpE_semWait_eq 𝒱₀ (c : Thread nD τ) none Set.univ) (Set.mem_univ _) () (O := owe c 0 0 0) (W := W) (R := 0) (m := 0) (T := ∅)
      (by rw [expect_bar]; decide)) $$ [Hc HO Hat]
  · isplitr; · iexact HI
    isplitl [Hc]; · iexact Hc
    isplitl [HO]; · iexact HO
    isplitr
    · iapply (mayWait c (.reg barS) 0 0 0 1 (by rw [lv_bar]) (by omega) (by omega) (by omega)); iexact HL
    iexact Hat
  iintro ⟨HO, Hat, -, Hpay⟩
  imod (Rounds.cell_close ER (Rd I) (Set.mem_univ κ) (fun h => h) (R := 0 + 1) (duties_later I (bcell c))) $$ [Hat] with Hz
  · isplitr; · iexact HI
    iexact Hat
  ihave Hpay := (Entails.of_eq (rest_bar I c)) $$ Hpay
  icases Hpay with ⟨HF, HT⟩
  iapply Hk
  isplitl [HO]; · iexists _; iexact HO
  isplitl [HF]; · iexact HF
  isplitl [HT]; · iexact HT
  iexact Hz

end Cert.Ring16
end
-- ==== Proof.Local.lean ====
/-
# The steps that stay on the device

The device's own chunk written to the gathered array, one chunk projected to keys and values, the loop over the
heads, and the reads and writes of the outgoing and incoming slots and of the result. None of these talks to another
device; each is stated as what the buffers hold before and after.
-/
module

public import proofs.«01_k».proof.Proof.Moves
public import Idealize.ShloMosaic.Lib.Scf

@[expose] public section

noncomputable section

namespace Cert.Ring16

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F)

/-- A whole buffer of the device, at a share. -/
abbrev wh {sp : Space} {s : Shape} {e : EltTy} (m : Memref sig .tc sp s e) (c : Dev nD) (q : PosShare TreeShare)
    (f : Buf (Elt F) (m.view.loc (c : Thread nD τ))) : sProp 𝕄 :=
  m.view.loc (c : Thread nD τ) ↦[Finset.univ]{q} f

theorem forall4 {P : Fin 4 → Prop} (h0 : P 0) (h1 : P 1) (h2 : P 2) (h3 : P 3) : ∀ a, P a := by
  intro a; fin_cases a <;> assumption
theorem forall3 {P : Fin 3 → Prop} (h0 : P 0) (h1 : P 1) (h2 : P 2) : ∀ a, P a := by
  intro a; fin_cases a <;> assumption
theorem forall2 {P : Fin 2 → Prop} (h0 : P 0) (h1 : P 1) : ∀ a, P a := by
  intro a; fin_cases a <;> assumption

theorem pick8 {P A B : Prop} {x : Fin 8} (h : P ∨ (A ∧ B)) :
    (((((((P ∨ (A ∧ B ∧ x = 0)) ∨ (A ∧ B ∧ x = 1)) ∨ (A ∧ B ∧ x = 2)) ∨ (A ∧ B ∧ x = 3)) ∨ (A ∧ B ∧ x = 4)) ∨ (A ∧ B ∧ x = 5))
      ∨ (A ∧ B ∧ x = 6)) ∨ (A ∧ B ∧ x = 7) := by
  rcases h with h | ⟨h, h'⟩
  · simp [h]
  · fin_cases x <;> simp [h, h']
theorem pick2 {P B : Prop} {x : Fin 2} (h : P ∨ B) : (P ∨ (x = 0 ∧ B)) ∨ (x = 1 ∧ B) := by
  rcases h with h | h
  · simp [h]
  · fin_cases x <;> simp [h]

/-! ## Keys and values -/

/-- The keys' and the values' buffers, right at the elements of `P`. -/
def kvP (c : Dev nD) (P : S2x8x2048x64.Idx → Prop) : sProp 𝕄 :=
  iprop(∃ (f g : Vec F S2x8x2048x64 .bf16), ⌜∀ i, P i → f i = KC I c i ∧ g i = VC I c i⌝ ∗ wh bK c fullShare f ∗ wh bV c fullShare g)

theorem kvP_mono (c : Dev nD) {P P' : S2x8x2048x64.Idx → Prop} (h : ∀ i, P' i → P i) : kvP I c P ⊢ kvP I c P' := by
  unfold kvP
  iintro ⟨%f, %g, %hf, Hk, Hv⟩
  iexists f; iexists g
  isplitr
  · ipureintro; exact fun i hi => hf i (h i hi)
  isplitl [Hk] <;> iassumption

/-- One head's rectangle written: right there, and as before elsewhere. -/
theorem head_content (o : KvOff) (b : Fin 2) (hd : Fin 8) (x : FVec F S128x512 .bf16) (f t : Vec F S2x8x2048x64 .bf16)
    (P : S2x8x2048x64.Idx → Prop) (hf : ∀ i, P i → f i = t i)
    (ht : ∀ i : S2x8x2048x64.Idx, i 0 = b → i 1 = hd → chunkOf (i 2) = o.ch → t i = headOf hd x (ix4 0 0 (rowOf (i 2)) (i 3)))
    (i : S2x8x2048x64.Idx) (hi : P i ∨ (i 0 = b ∧ chunkOf (i 2) = o.ch ∧ i 1 = hd)) :
    (bK.access (Rect.unit (s := S2x8x2048x64) (o.h b hd) S1x1x128x64.size (o.h_inb b hd))).write (Elt F) f (headOf hd x) Finset.univ i = t i := by
  have e := o.h_eq b hd
  have e0 : o.h b hd 0 = b.val := by rw [e]; rfl
  have e1 : o.h b hd 1 = hd.val := by rw [e]; rfl
  have e2 : o.h b hd 2 = 128 * o.ch.val := by rw [e]; rfl
  have e3 : o.h b hd 3 = 0 := by rw [e]; rfl
  by_cases h0 : i 0 = b
  · by_cases h1 : i 1 = hd
    · by_cases h2 : chunkOf (i 2) = o.ch
      · have h2' : (i 2).val / 128 = o.ch.val := congrArg Fin.val h2
        rw [ht i h0 h1 h2]
        refine put_at (b := cc0_scratch1) (off := o.h b hd) (size := S1x1x128x64.size) (inb := o.h_inb b hd) f (headOf hd x) (ix4 0 0 (rowOf (i 2)) (i 3)) i ?_
        refine forall4 ?_ ?_ ?_ ?_
        · show (i 0).val = o.h b hd 0 + 0; rw [e0, h0]; rfl
        · show (i 1).val = o.h b hd 1 + 0; rw [e1, h1]; rfl
        · show (i 2).val = o.h b hd 2 + (i 2).val % 128; rw [e2]; omega
        · show (i 3).val = o.h b hd 3 + (i 3).val; rw [e3]; omega
      · have h2' : (i 2).val / 128 ≠ o.ch.val := fun h => h2 (Fin.ext h)
        exact (put_off (b := cc0_scratch1) (off := o.h b hd) (size := S1x1x128x64.size) (inb := o.h_inb b hd) f (headOf hd x) i 2 (by show (i 2).val < o.h b hd 2 ∨ o.h b hd 2 + 128 ≤ (i 2).val; rw [e2]; omega)).trans
          (hf i (hi.resolve_right fun h => h2 h.2.1))
    · have h1' : (i 1).val ≠ hd.val := fun h => h1 (Fin.ext h)
      exact (put_off (b := cc0_scratch1) (off := o.h b hd) (size := S1x1x128x64.size) (inb := o.h_inb b hd) f (headOf hd x) i 1 (by show (i 1).val < o.h b hd 1 ∨ o.h b hd 1 + 1 ≤ (i 1).val; rw [e1]; omega)).trans
          (hf i (hi.resolve_right fun h => h1 h.2.2))
  · have h0' : (i 0).val ≠ b.val := fun h => h0 (Fin.ext h)
    exact (put_off (b := cc0_scratch1) (off := o.h b hd) (size := S1x1x128x64.size) (inb := o.h_inb b hd) f (headOf hd x) i 0 (by show (i 0).val < o.h b hd 0 ∨ o.h b hd 0 + 1 ≤ (i 0).val; rw [e0]; omega)).trans
          (hf i (hi.resolve_right fun h => h0 h.1))

theorem wp_head (c : Dev nD) (o : KvOff) (b : Fin 2) (hd : Fin 8) (P : S2x8x2048x64.Idx → Prop) (k : PR F) (Q : PUnit → sProp 𝕄) :
    kvP I c P ⊢ iprop((kvP I c (fun i => P i ∨ (i 0 = b ∧ chunkOf (i 2) = o.ch ∧ i 1 = hd)) -∗ run c k Q)
      -∗ run c (headC o b hd (proj (xblk I b o.ch) (I c).wk) (proj (xblk I b o.ch) (I c).wv) k) Q) := by
  unfold kvP headC
  iintro ⟨%f, %g, %hf, Hk, Hv⟩ Hc
  iapply (wp_load 𝒱₀ (c : Thread nD τ) none Set.univ (m := bK) (Finset.subset_univ _)) $$ Hk; iintro Hk
  iapply (wp_store 𝒱₀ (c : Thread nD τ) none Set.univ (m := bK) (r := Rect.unit (s := S2x8x2048x64) (o.h b hd) S1x1x128x64.size (o.h_inb b hd)) (Mk := Finset.univ) (Finset.subset_univ _)) $$ Hk; iintro Hk
  iapply (wp_load 𝒱₀ (c : Thread nD τ) none Set.univ (m := bV) (Finset.subset_univ _)) $$ Hv; iintro Hv
  iapply (wp_store 𝒱₀ (c : Thread nD τ) none Set.univ (m := bV) (r := Rect.unit (s := S2x8x2048x64) (o.h b hd) S1x1x128x64.size (o.h_inb b hd)) (Mk := Finset.univ) (Finset.subset_univ _)) $$ Hv; iintro Hv
  iapply Hc
  iexists _; iexists _
  isplitr
  · ipureintro
    intro i hi
    exact ⟨head_content o b hd _ f (KC I c) P (fun j hj => (hf j hj).1) (fun j h0 h1 h2 => by unfold KC; rw [h0, h1, h2]) i hi,
      head_content o b hd _ g (VC I c) P (fun j hj => (hf j hj).2) (fun j h0 h1 h2 => by unfold VC; rw [h0, h1, h2]) i hi⟩
  isplitl [Hk]; · iexact Hk
  iexact Hv

/-- The loads' share of a chunk. -/
theorem x_inside (o : KvOff) (b : Fin 2) :
    (bX.access (Rect.unit (s := S2x2048x512) (o.x b) S1x128x512.size (o.x_inb b))).set ⊆ xSet o.ch := by
  intro i hi
  have hi' : i ∈ ((View.whole cc0_scratch0).slice (Rect.unit (s := S2x2048x512) (o.x b) S1x128x512.size (o.x_inb b))).set := hi
  rw [View.set_slice_whole, Rect.mem_set_unit] at hi'
  have h1 : o.x b 1 ≤ (i 1).val ∧ (i 1).val < o.x b 1 + 128 := hi' 1
  have e1 : o.x b 1 = 128 * o.ch.val := congrFun (o.x_eq b) 1
  rw [mem_xSet]; omega

theorem xw_read (b : Fin 2) (k : Dev nD) {off : Fin 3 → ℕ} (e : off = ![b.val, 128 * k.val, 0])
    (inb : ∀ a, off a + S1x128x512.size a ≤ S2x2048x512.size a) :
    bX.view.readAt (Elt F) (Rect.unit (s := S2x2048x512) off S1x128x512.size inb).toLoadRect (XF I) = xblk I b k := by
  subst e
  funext y
  have h0 : (y 0).val < 1 := (y 0).isLt
  refine get_at (b := cc0_scratch0) (XF I) y (ix3 b (posOf k (y 1)) (y 2)) (forall3 ?_ ?_ ?_)
  · show b.val = b.val + (y 0).val; omega
  · show 128 * k.val + (y 1).val = 128 * k.val + (y 1).val; rfl
  · show (y 2).val = 0 + (y 2).val; omega

theorem x_read (o : KvOff) (b : Fin 2) :
    (bX.access (Rect.unit (s := S2x2048x512) (o.x b) S1x128x512.size (o.x_inb b))).read (Elt F) (XF I) = xblk I b o.ch :=
  xw_read I b o.ch (o.x_eq b) (o.x_inb b)

theorem wk_read (w : Vec F S512x512 .bf16) :
    stK.view.readAt (Elt F) (Rect.unit (s := S512x512) ![0, 0] S512x512.size inb_S512x512_S512x512_0_0).toLoadRect w = w := by
  funext y
  refine get_at (b := cc0_stg3_0) w y y (forall2 ?_ ?_)
  · show (y 0).val = 0 + (y 0).val; omega
  · show (y 1).val = 0 + (y 1).val; omega
theorem wv_read (w : Vec F S512x512 .bf16) :
    stV.view.readAt (Elt F) (Rect.unit (s := S512x512) ![0, 0] S512x512.size inb_S512x512_S512x512_0_0).toLoadRect w = w := by
  funext y
  refine get_at (b := cc0_stg4_0) w y y (forall2 ?_ ?_)
  · show (y 0).val = 0 + (y 0).val; omega
  · show (y 1).val = 0 + (y 1).val; omega

set_option maxHeartbeats 1000000 in
theorem wp_batch (c : Dev nD) (o : KvOff) (b : Fin 2) (P : S2x8x2048x64.Idx → Prop) (k : PR F) (Q : PUnit → sProp 𝕄) :
    iprop(kvP I c P ∗ xC I qK c o.ch ∗ wh stK c fullShare (I c).wk ∗ wh stV c fullShare (I c).wv)
      ⊢ iprop(((kvP I c (fun i => P i ∨ (i 0 = b ∧ chunkOf (i 2) = o.ch)) ∗ xC I qK c o.ch ∗ wh stK c fullShare (I c).wk ∗ wh stV c fullShare (I c).wv) -∗ run c k Q)
      -∗ run c (batchC o b k) Q) := by
  unfold batchC xC
  iintro ⟨Hkv, Hx, Hwk, Hwv⟩ Hc
  iapply (wp_load_rect 𝒱₀ (c : Thread nD τ) none Set.univ (m := bX) (x_inside o b)) $$ Hx; iintro Hx
  rw [x_read]
  iapply (wp_load 𝒱₀ (c : Thread nD τ) none Set.univ (m := stK) (Finset.subset_univ _)) $$ Hwk; iintro Hwk
  rw [wk_read]
  iapply (wp_load 𝒱₀ (c : Thread nD τ) none Set.univ (m := stV) (Finset.subset_univ _)) $$ Hwv; iintro Hwv
  rw [wv_read]
  iapply (wp_head I c o b 0) $$ Hkv; iintro Hkv
  iapply (wp_head I c o b 1) $$ Hkv; iintro Hkv
  iapply (wp_head I c o b 2) $$ Hkv; iintro Hkv
  iapply (wp_head I c o b 3) $$ Hkv; iintro Hkv
  iapply (wp_head I c o b 4) $$ Hkv; iintro Hkv
  iapply (wp_head I c o b 5) $$ Hkv; iintro Hkv
  iapply (wp_head I c o b 6) $$ Hkv; iintro Hkv
  iapply (wp_head I c o b 7) $$ Hkv; iintro Hkv
  iapply Hc
  isplitl [Hkv]
  · iapply (kvP_mono I c (P := _) (P' := _) ?_) $$ Hkv
    exact fun i h => pick8 h
  isplitl [Hx]; · iexact Hx
  isplitl [Hwk] <;> iassumption

/-- Keys and values right at every chunk of `D`. -/
abbrev kvD (c : Dev nD) (D : Finset (Dev nD)) : sProp 𝕄 := kvP I c fun i => chunkOf (i 2) ∈ D

theorem wp_kv (c : Dev nD) (o : KvOff) {ch : Dev nD} (ho : o.ch = ch) (D : Finset (Dev nD)) (k : PR F) (Q : PUnit → sProp 𝕄) :
    iprop(kvD I c D ∗ xC I qK c ch ∗ wh stK c fullShare (I c).wk ∗ wh stV c fullShare (I c).wv)
      ⊢ iprop(((kvD I c (insert ch D) ∗ xC I qK c ch ∗ wh stK c fullShare (I c).wk ∗ wh stV c fullShare (I c).wv) -∗ run c k Q)
      -∗ run c (kvC o k) Q) := by
  subst ho
  unfold kvC
  iintro H Hc
  iapply (wp_batch I c o 0) $$ H; iintro H
  iapply (wp_batch I c o 1) $$ H; iintro ⟨Hkv, H⟩
  iapply Hc
  isplitl [Hkv]
  · iapply (kvP_mono I c (P := _) (P' := _) ?_) $$ Hkv
    exact fun i h => pick2 (Finset.mem_insert.mp h).symm
  iexact H

/-! ## The own chunk -/

theorem own_inside (c : Dev nD) :
    (bX.access (Rect.unit (s := S2x2048x512) (k0_off1 c) S2x128x512.size (k0_off1_inb c))).set ⊆ xSet c := by
  intro i hi
  have hi' : i ∈ ((View.whole cc0_scratch0).slice (Rect.unit (s := S2x2048x512) (k0_off1 c) S2x128x512.size (k0_off1_inb c))).set := hi
  rw [View.set_slice_whole, Rect.mem_set_unit] at hi'
  have h1 : k0_off1 c 1 ≤ (i 1).val ∧ (i 1).val < k0_off1 c 1 + 128 := hi' 1
  have e1 : k0_off1 c 1 = 128 * c.val := congrFun (k0_off1_eq c) 1
  rw [mem_xSet]; omega

theorem stX_read (x : Vec F S2x128x512 .f32) :
    stX.view.readAt (Elt F) (Rect.unit (s := S2x128x512) ![0, 0, 0] S2x128x512.size inb_S2x128x512_S2x128x512_0_0_0).toLoadRect x = x := by
  funext y
  refine get_at (b := cc0_stg0_0) x y y (forall3 ?_ ?_ ?_)
  · show (y 0).val = 0 + (y 0).val; omega
  · show (y 1).val = 0 + (y 1).val; omega
  · show (y 2).val = 0 + (y 2).val; omega

theorem own_write (c : Dev nD) (f : Vec F S2x2048x512 .bf16) (i : S2x2048x512.Idx) (hi : i ∈ xSet c) :
    (bX.access (Rect.unit (s := S2x2048x512) (k0_off1 c) S2x128x512.size (k0_off1_inb c))).write (Elt F) f (k0_pay33 (I c).x) Finset.univ i = XF I i := by
  have e := k0_off1_eq c
  rw [mem_xSet] at hi
  have hc : chunkOf (i 1) = c := Fin.ext hi
  unfold XF
  rw [hc]
  refine put_at (b := cc0_scratch0) (off := k0_off1 c) (size := S2x128x512.size) (inb := k0_off1_inb c) f (k0_pay33 (I c).x) (ix3 (i 0) (rowOf (i 1)) (i 2)) i (forall3 ?_ ?_ ?_)
  · show (i 0).val = k0_off1 c 0 + (i 0).val; rw [e]; show (i 0).val = 0 + (i 0).val; omega
  · show (i 1).val = k0_off1 c 1 + (i 1).val % 128; rw [e]; show (i 1).val = 128 * c.val + (i 1).val % 128; omega
  · show (i 2).val = k0_off1 c 2 + (i 2).val; rw [e]; show (i 2).val = 0 + (i 2).val; omega

theorem wp_own (c : Dev nD) (k : PR F) (Q : PUnit → sProp 𝕄) :
    iprop(wh stX c fullShare (I c).x ∗ xA c c)
      ⊢ iprop(((wh stX c fullShare (I c).x ∗ xC I fullShare c c) -∗ run c k Q) -∗ run c (ownC c k) Q) := by
  unfold ownC xA xC
  iintro ⟨Hs, %f, Hx⟩ Hc
  iapply (wp_load 𝒱₀ (c : Thread nD τ) none Set.univ (m := stX) (Finset.subset_univ _)) $$ Hs; iintro Hs
  rw [stX_read]
  iapply (wp_load_rect 𝒱₀ (c : Thread nD τ) none Set.univ (m := bX) (own_inside c)) $$ Hx; iintro Hx
  iapply (wp_store 𝒱₀ (c : Thread nD τ) none Set.univ (m := bX) (r := Rect.unit (s := S2x2048x512) (k0_off1 c) S2x128x512.size (k0_off1_inb c)) (Mk := Finset.univ) (S := xSet c) (by rw [View.setOn_univ]; exact own_inside c)) $$ Hx; iintro Hx
  iapply Hc
  isplitl [Hs]; · iexact Hs
  iapply (Entails.of_eq (pointsTo_congr (own_write I c f))) $$ Hx

/-! ## The loop over the heads -/

/-- What the loop reads. -/
def tabs (c : Dev nD) : sProp 𝕄 :=
  iprop(wh stQ c fullShare (I c).wq ∗ wh stO c fullShare (I c).wo ∗ wh bK c fullShare (KC I c) ∗ wh bV c fullShare (VC I c))

theorem trips_eq : k0_t1_loop.trips = 8 := by decide +kernel

theorem wq_read (c : Dev nD) (n : ℕ) {off : Fin 3 → ℕ} (e : off = ![n, 0, 0]) (hn : n < 8) (inb : ∀ a, off a + S1x512x64.size a ≤ S8x512x64.size a) :
    stQ.view.readAt (Elt F) (Rect.unit (s := S8x512x64) off S1x512x64.size inb).toLoadRect (I c).wq = wqOf I c (fin8 n) := by
  have hi : n % 8 = n := Nat.mod_eq_of_lt hn
  subst e
  funext y
  have h0 : (y 0).val < 1 := (y 0).isLt
  refine get_at (b := cc0_stg1_0) (I c).wq y (ix3 (fin8 n) (y 1) (y 2)) (forall3 ?_ ?_ ?_)
  · show n % 8 = n + (y 0).val; omega
  · show (y 1).val = 0 + (y 1).val; omega
  · show (y 2).val = 0 + (y 2).val; omega
theorem wo_read (c : Dev nD) (n : ℕ) {off : Fin 3 → ℕ} (e : off = ![n, 0, 0]) (hn : n < 8) (inb : ∀ a, off a + S1x64x512.size a ≤ S8x64x512.size a) :
    stO.view.readAt (Elt F) (Rect.unit (s := S8x64x512) off S1x64x512.size inb).toLoadRect (I c).wo = woOf I c (fin8 n) := by
  have hi : n % 8 = n := Nat.mod_eq_of_lt hn
  subst e
  funext y
  have h0 : (y 0).val < 1 := (y 0).isLt
  refine get_at (b := cc0_stg2_0) (I c).wo y (ix3 (fin8 n) (y 1) (y 2)) (forall3 ?_ ?_ ?_)
  · show n % 8 = n + (y 0).val; omega
  · show (y 1).val = 0 + (y 1).val; omega
  · show (y 2).val = 0 + (y 2).val; omega

/-- One head of one batch of the keys' (or the values') buffer. -/
theorem kv_read (b : Fin 2) (n : ℕ) {off : Fin 4 → ℕ} (e : off = ![b.val, n, 0, 0]) (hn : n < 8)
    (inb : ∀ a, off a + S1x1x2048x64.size a ≤ S2x8x2048x64.size a) (f : Vec F S2x8x2048x64 .bf16) :
    bK.view.readAt (Elt F) (Rect.unit (s := S2x8x2048x64) off S1x1x2048x64.size inb).toLoadRect f
      = fun y => f (ix4 b (fin8 n) (y 2) (y 3)) := by
  have hi : n % 8 = n := Nat.mod_eq_of_lt hn
  subst e
  funext y
  have h0 : (y 0).val < 1 := (y 0).isLt
  have h1 : (y 1).val < 1 := (y 1).isLt
  refine get_at (b := cc0_scratch1) f y (ix4 b (fin8 n) (y 2) (y 3)) (forall4 ?_ ?_ ?_ ?_)
  · show b.val = b.val + (y 0).val; omega
  · show n % 8 = n + (y 1).val; omega
  · show (y 2).val = 0 + (y 2).val; omega
  · show (y 3).val = 0 + (y 3).val; omega

theorem kv_readV (b : Fin 2) (n : ℕ) {off : Fin 4 → ℕ} (e : off = ![b.val, n, 0, 0]) (hn : n < 8)
    (inb : ∀ a, off a + S1x1x2048x64.size a ≤ S2x8x2048x64.size a) (f : Vec F S2x8x2048x64 .bf16) :
    bV.view.readAt (Elt F) (Rect.unit (s := S2x8x2048x64) off S1x1x2048x64.size inb).toLoadRect f
      = fun y => f (ix4 b (fin8 n) (y 2) (y 3)) := kv_read b n e hn inb f

set_option maxHeartbeats 1000000 in
theorem wp_headBody (c k : Dev nD) (i : Fin k0_t1_loop.trips) (acc : FVec F S128x512 .f32 × FVec F S128x512 .f32) :
    iprop(⌜acc = (headSum I c 0 k i.val, headSum I c 1 k i.val)⌝ ∗ tabs I c)
      ⊢ wp frame (wpE (defs₀ (F := F)) 𝒱₀ (c : Thread nD τ) none) Set.univ (headBody (xblk I 0 k) (xblk I 1 k) i acc)
          (fun acc' => iprop(⌜acc' = (headSum I c 0 k (i.val + 1), headSum I c 1 k (i.val + 1))⌝ ∗ tabs I c)) := by
  have hi : i.val < 8 := trips_eq ▸ i.isLt
  unfold headBody tabs
  iintro ⟨%ha, Hq, Ho, Hk, Hv⟩
  subst ha
  iapply (wp_load 𝒱₀ (c : Thread nD τ) none Set.univ (m := stQ) (Finset.subset_univ _)) $$ Hq; iintro Hq
  iapply (wp_load 𝒱₀ (c : Thread nD τ) none Set.univ (m := bK) (Finset.subset_univ _)) $$ Hk; iintro Hk
  iapply (wp_load 𝒱₀ (c : Thread nD τ) none Set.univ (m := bV) (Finset.subset_univ _)) $$ Hv; iintro Hv
  iapply (wp_load 𝒱₀ (c : Thread nD τ) none Set.univ (m := stO) (Finset.subset_univ _)) $$ Ho; iintro Ho
  iapply (wp_load 𝒱₀ (c : Thread nD τ) none Set.univ (m := stQ) (Finset.subset_univ _)) $$ Hq; iintro Hq
  iapply (wp_load 𝒱₀ (c : Thread nD τ) none Set.univ (m := bK) (Finset.subset_univ _)) $$ Hk; iintro Hk
  iapply (wp_load 𝒱₀ (c : Thread nD τ) none Set.univ (m := bV) (Finset.subset_univ _)) $$ Hv; iintro Hv
  iapply (wp_load 𝒱₀ (c : Thread nD τ) none Set.univ (m := stO) (Finset.subset_univ _)) $$ Ho; iintro Ho
  rw [wp_ret]; imodintro
  isplitr
  · ipureintro
    have e1 := kv_read 0 i.val (k0_off61_eq i) hi (k0_off61_inb i) (KC I c)
    have e2 := kv_readV 0 i.val (k0_off61_eq i) hi (k0_off61_inb i) (VC I c)
    have e3 := kv_read 1 i.val (k0_off63_eq i) hi (k0_off63_inb i) (KC I c)
    have e4 := kv_readV 1 i.val (k0_off63_eq i) hi (k0_off63_inb i) (VC I c)
    have e5 := wq_read I c i.val (k0_off60_eq i) hi (k0_off60_inb i)
    have e6 := wo_read I c i.val (k0_off62_eq i) hi (k0_off62_inb i)
    have h1 := congr (congr (congr (congrArg (attn (xblk I 0 k) (headSum I c 0 k i.val)) e5) e1) e2) e6
    have h2 := congr (congr (congr (congrArg (attn (xblk I 1 k) (headSum I c 1 k i.val)) e5) e3) e4) e6
    exact congrArg₂ Prod.mk h1 h2
  isplitl [Hq]; · iexact Hq
  isplitl [Ho]; · iexact Ho
  isplitl [Hk] <;> iassumption

theorem back_val (c : Dev nD) (t : Fin 16) : 128 * ((c.val + 31 - t.val) % 16) = 128 * (back c (t.val + 1)).val := by
  show _ = 128 * ((c.val + 32 - (t.val + 1)) % 16); congr 2; omega

set_option maxHeartbeats 1000000 in
theorem wp_contrib (c : Dev nD) (t : Fin 16) (q : PosShare TreeShare) (k : FVec F S128x512 .f32 → FVec F S128x512 .f32 → PR F) (Q : PUnit → sProp 𝕄) :
    iprop(wh bX c q (XF I) ∗ tabs I c)
      ⊢ iprop(((wh bX c q (XF I) ∗ tabs I c) -∗ run c (k (contrib I c 0 (back c (t.val + 1))) (contrib I c 1 (back c (t.val + 1)))) Q)
        -∗ run c (contribC c t k) Q) := by
  unfold contribC
  iintro ⟨Hx, Ht⟩ Hc
  iapply (wp_load 𝒱₀ (c : Thread nD τ) none Set.univ (m := bX) (Finset.subset_univ _)) $$ Hx; iintro Hx
  rw [xw_read I 0 (back c (t.val + 1)) ((k0_off58_eq c t).trans (by rw [back_val]; rfl))]
  iapply (wp_load 𝒱₀ (c : Thread nD τ) none Set.univ (m := bX) (Finset.subset_univ _)) $$ Hx; iintro Hx
  rw [xw_read I 1 (back c (t.val + 1)) ((k0_off59_eq c t).trans (by rw [back_val]; rfl))]
  iapply (Scf.wp_for_bind frame (wpE (defs₀ (F := F)) 𝒱₀ (c : Thread nD τ) none) Set.univ k0_t1_loop.lb k0_t1_loop.ub k0_t1_loop.st k0_t1_ok
      (k0_pay717 (F := F), k0_pay717 (F := F)) (headBody (xblk I 0 (back c (t.val + 1))) (xblk I 1 (back c (t.val + 1))))
      (fun n acc => iprop(⌜acc = (headSum I c 0 (back c (t.val + 1)) n, headSum I c 1 (back c (t.val + 1)) n)⌝ ∗ tabs I c))
      (fun i acc => wp_headBody I c _ i acc)) $$ [Ht]
  · isplitr; · ipureintro; rfl
    iexact Ht
  iintro %acc ⟨%ha, Ht⟩
  have ht : Scf.trips k0_t1_loop.lb k0_t1_loop.ub k0_t1_loop.st = 8 := trips_eq
  rw [ht] at ha
  subst ha
  iapply Hc
  isplitl [Hx] <;> iassumption

/-! ## The outgoing slots -/

theorem s_inside (j b : Fin 2) :
    (bS.access (Rect.unit (s := S2x2x128x512) ![j.val, b.val, 0, 0] S1x1x128x512.size (inbSb j b))).set ⊆ sSet j := by
  intro i hi
  have hi' : i ∈ ((View.whole cc0_scratch3).slice (Rect.unit (s := S2x2x128x512) ![j.val, b.val, 0, 0] S1x1x128x512.size (inbSb j b))).set := hi
  rw [View.set_slice_whole, Rect.mem_set_unit] at hi'
  have h0 : j.val ≤ (i 0).val ∧ (i 0).val < j.val + 1 := hi' 0
  rw [mem_sSet]; omega

/-- One batch of an outgoing slot written. -/
def putS (j b : Fin 2) (f : Vec F S2x2x128x512 .bf16) (v : FVec F S1x1x128x512 .bf16) : Vec F S2x2x128x512 .bf16 :=
  (bS.access (Rect.unit (s := S2x2x128x512) ![j.val, b.val, 0, 0] S1x1x128x512.size (inbSb j b))).write (Elt F) f v Finset.univ

theorem putS_at (j b : Fin 2) (f : Vec F S2x2x128x512 .bf16) (v : FVec F S1x1x128x512 .bf16) (r : Fin 128) (e : Fin 512) :
    putS j b f v (ix4 j b r e) = v (ix4 0 0 r e) := by
  refine put_at (b := cc0_scratch3) (off := ![j.val, b.val, 0, 0]) (size := S1x1x128x512.size) (inb := inbSb j b) f v (ix4 0 0 r e) (ix4 j b r e)
    (forall4 ?_ ?_ ?_ ?_)
  · show j.val = j.val + 0; omega
  · show b.val = b.val + 0; omega
  · show r.val = 0 + r.val; omega
  · show e.val = 0 + e.val; omega
theorem putS_off (j b b' : Fin 2) (hb : b' ≠ b) (f : Vec F S2x2x128x512 .bf16) (v : FVec F S1x1x128x512 .bf16) (r : Fin 128) (e : Fin 512) :
    putS j b f v (ix4 j b' r e) = f (ix4 j b' r e) := by
  have h : b'.val ≠ b.val := fun h => hb (Fin.ext h)
  exact put_off (b := cc0_scratch3) (off := ![j.val, b.val, 0, 0]) (size := S1x1x128x512.size) (inb := inbSb j b) f v (ix4 j b' r e) 1
    (by show b'.val < b.val ∨ b.val + 1 ≤ b'.val; omega)

theorem wp_put (c : Dev nD) (j b : Fin 2) (f : Vec F S2x2x128x512 .bf16) (v : FVec F S1x1x128x512 .bf16) (k : PR F) (Q : PUnit → sProp 𝕄) :
    (bS.view.loc (c : Thread nD τ) ↦[sSet j]{fullShare} f)
      ⊢ iprop(((bS.view.loc (c : Thread nD τ) ↦[sSet j]{fullShare} putS j b f v) -∗ run c k Q) -∗ run c (putC j b v k) Q) := by
  unfold putC
  iintro Hs Hc
  iapply (wp_load_rect 𝒱₀ (c : Thread nD τ) none Set.univ (m := bS) (s_inside j b)) $$ Hs; iintro Hs
  iapply (wp_store 𝒱₀ (c : Thread nD τ) none Set.univ (m := bS) (r := Rect.unit (s := S2x2x128x512) ![j.val, b.val, 0, 0] S1x1x128x512.size (inbSb j b))
    (Mk := Finset.univ) (S := sSet j) (by rw [View.setOn_univ]; exact s_inside j b)) $$ Hs; iintro Hs
  iapply Hc; iexact Hs

/-! ## The incoming slots -/

theorem r_inside (t : Fin 15) (b : Fin 2) :
    (bR.access (Rect.unit (s := S15x2x128x512) ![t.val, b.val, 0, 0] S1x1x128x512.size (inbRb t b))).set ⊆ rSet t := by
  intro i hi
  have hi' : i ∈ ((View.whole cc0_scratch4).slice (Rect.unit (s := S15x2x128x512) ![t.val, b.val, 0, 0] S1x1x128x512.size (inbRb t b))).set := hi
  rw [View.set_slice_whole, Rect.mem_set_unit] at hi'
  have h0 : t.val ≤ (i 0).val ∧ (i 0).val < t.val + 1 := hi' 0
  rw [mem_rSet]; omega

theorem r_read (c : Dev nD) (t : Fin 15) (b : Fin 2) :
    (bR.access (Rect.unit (s := S15x2x128x512) ![t.val, b.val, 0, 0] S1x1x128x512.size (inbRb t b))).read (Elt F) (RSC I c) = sent I t.val (prv c) b := by
  funext y
  have h0 : (y 0).val < 1 := (y 0).isLt
  have h1 : (y 1).val < 1 := (y 1).isLt
  refine (get_at (b := cc0_scratch4) (off := ![t.val, b.val, 0, 0]) (size := S1x1x128x512.size) (inb := inbRb t b) (RSC I c) y (ix4 t b (y 2) (y 3))
    (forall4 ?_ ?_ ?_ ?_)).trans ?_
  · show t.val = t.val + (y 0).val; omega
  · show b.val = b.val + (y 1).val; omega
  · show (y 2).val = 0 + (y 2).val; omega
  · show (y 3).val = 0 + (y 3).val; omega
  show sent I t.val (prv c) b (ix4 0 0 (y 2) (y 3)) = _
  congr 1
  refine funext (forall4 ?_ ?_ ?_ ?_)
  · exact Fin.ext (by show 0 = (y 0).val; omega)
  · exact Fin.ext (by show 0 = (y 1).val; omega)
  · rfl
  · rfl

theorem wp_get (c : Dev nD) (t : Fin 15) (b : Fin 2) (k : Vec F S1x1x128x512 .bf16 → PR F) (Q : PUnit → sProp 𝕄) :
    rC I c t.val ⊢ iprop((rC I c t.val -∗ run c (k (sent I t.val (prv c) b)) Q) -∗ run c (getC t b k) Q) := by
  have hf : fin15 t.val = t := Fin.ext (Nat.mod_eq_of_lt t.isLt)
  unfold getC rC
  rw [hf]
  iintro Hr Hc
  iapply (wp_load_rect 𝒱₀ (c : Thread nD τ) none Set.univ (m := bR) (r_inside t b)) $$ Hr; iintro Hr
  rw [r_read]
  iapply Hc; iexact Hr

/-! ## The result -/

theorem inbO (b : Fin 2) : ∀ a, (![b.val, 0, 0] : Fin 3 → ℕ) a + S1x128x512.size a ≤ S2x128x512.size a := by revert b; decide

/-- One batch of the result written. -/
def putO (b : Fin 2) (f : Vec F S2x128x512 .f32) (v : FVec F S1x128x512 .f32) : Vec F S2x128x512 .f32 :=
  (stR.access (Rect.unit (s := S2x128x512) ![b.val, 0, 0] S1x128x512.size (inbO b))).write (Elt F) f v Finset.univ

theorem putO_at (b : Fin 2) (f : Vec F S2x128x512 .f32) (v : FVec F S1x128x512 .f32) (i : S2x128x512.Idx) (hi : i 0 = b) :
    putO b f v i = v (ix3 0 (i 1) (i 2)) := by
  subst hi
  refine put_at (b := cc0_stg5_0) (off := ![(i 0).val, 0, 0]) (size := S1x128x512.size) (inb := inbO (i 0)) f v (ix3 0 (i 1) (i 2)) i (forall3 ?_ ?_ ?_)
  · show (i 0).val = (i 0).val + 0; omega
  · show (i 1).val = 0 + (i 1).val; omega
  · show (i 2).val = 0 + (i 2).val; omega
theorem putO_off (b : Fin 2) (f : Vec F S2x128x512 .f32) (v : FVec F S1x128x512 .f32) (i : S2x128x512.Idx) (hi : i 0 ≠ b) :
    putO b f v i = f i := by
  have h : (i 0).val ≠ b.val := fun h => hi (Fin.ext h)
  exact put_off (b := cc0_stg5_0) (off := ![b.val, 0, 0]) (size := S1x128x512.size) (inb := inbO b) f v i 0
    (by show (i 0).val < b.val ∨ b.val + 1 ≤ (i 0).val; omega)

theorem out_eq (c : Dev nD) (f : Vec F S2x128x512 .f32) :
    putO 1 (putO 0 f (outN (contrib I c 0 c) (sent I 14 (prv c) 0))) (outN (contrib I c 1 c) (sent I 14 (prv c) 1)) = outV I c := by
  funext i
  have h : ∀ x : Fin 2, x = 0 ∨ x = 1 := by decide
  unfold outV
  rcases h (i 0) with h0 | h1
  · rw [putO_off _ _ _ i (by rw [h0]; exact (by decide : (0 : Fin 2) ≠ 1)), putO_at _ _ _ i h0, h0]
  · rw [putO_at _ _ _ i h1, h1]

end Cert.Ring16
end
-- ==== Proof.Gather.lean ====
/-
# The gather

After round `n` a device has started its first `n + 1` copies each way, has had the first `n` come in from each
side, and has projected the chunks it holds. One round takes the state at `n` to the state at `n + 1`.
-/
module

public import proofs.«01_k».proof.Proof.Local
public import Idealize.SL.BI.BigOpNat
public import Idealize.SL.ProofMode.BigOp

@[expose] public section

noncomputable section

namespace Cert.Ring16

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F)

/-! ## Chunks by distance -/

/-- A device's chunk, the eight behind it and the seven ahead of it are all the chunks. -/
theorem bigSep_around (c : Dev nD) (Φ : Dev nD → sProp 𝕄) :
    bigSep Finset.univ Φ = iprop(Φ c ∗ (bigSep (Finset.range 8) fun h => Φ (back c (h + 1))) ∗ bigSep (Finset.range 7) fun h => Φ (ahead c (h + 1))) := by
  have i8 : Set.InjOn (fun h => back c (h + 1)) (Finset.range 8) := by
    intro a ha b hb e
    have ha' := Finset.mem_range.mp (Finset.mem_coe.mp ha)
    have hb' := Finset.mem_range.mp (Finset.mem_coe.mp hb)
    have e' : (c.val + 32 - (a + 1)) % 16 = (c.val + 32 - (b + 1)) % 16 := congrArg Fin.val e
    omega
  have i7 : Set.InjOn (fun h => ahead c (h + 1)) (Finset.range 7) := by
    intro a ha b hb e
    have ha' := Finset.mem_range.mp (Finset.mem_coe.mp ha)
    have hb' := Finset.mem_range.mp (Finset.mem_coe.mp hb)
    have e' : (c.val + (a + 1)) % 16 = (c.val + (b + 1)) % 16 := congrArg Fin.val e
    omega
  have h8 : (Finset.range 8).image (fun h => back c (h + 1)) ⊆ Finset.univ.erase c := by revert c; decide +kernel
  have h7 : (Finset.univ.erase c) \ (Finset.range 8).image (fun h => back c (h + 1)) = (Finset.range 7).image (fun h => ahead c (h + 1)) := by
    revert c; decide +kernel
  have e1 : bigSep Finset.univ Φ = iprop(Φ c ∗ bigSep (Finset.univ.erase c) Φ) := bigSep_erase (Finset.mem_univ c)
  have e2 : bigSep (Finset.univ.erase c) Φ = iprop(bigSep ((Finset.range 8).image fun h => back c (h + 1)) Φ
    ∗ bigSep ((Finset.univ.erase c) \ (Finset.range 8).image fun h => back c (h + 1)) Φ) := bigSep_sdiff_split h8
  rw [e1, e2, h7, bigSep_image_of_injOn i8, bigSep_image_of_injOn i7]

/-- A whole array at a share is its chunks at that share. -/
theorem x_chunks (c : Dev nD) (q : PosShare TreeShare) : wh bX c q (XF I) = bigSep Finset.univ fun k => xC I q c k := by
  unfold xC
  have h := pointsTo_biUnion (Ix := Unit) (Name := ℕ) (U := UU) (Lvl := ℕ) (ℓ := bX.view.loc (c : Thread nD τ)) (q := q) (f := XF I) Finset.univ xSet (fun a _ b _ h => xSet_disj a b h)
  exact (congrArg (fun S => (bX.view.loc (c : Thread nD τ) ↦[S]{q} XF I : sProp 𝕄)) xSet_cover.symm).trans h

/-- A chunk's whole share is the three shares the two copies and the loads use. -/
theorem x_thirds (c k : Dev nD) : xC I fullShare c k ⊣⊢ iprop(xC I qR c k ∗ xC I qL c k ∗ xC I qK c k) := by
  unfold xC
  constructor
  · iintro H
    ihave H := (pointsTo_share (PosShare.mem_left_op_right fullShare)).1 $$ H
    icases H with ⟨H, H'⟩
    isplitl [H]; · iexact H
    iapply (pointsTo_share (PosShare.mem_left_op_right fullShare.right)).1
    iexact H'
  · iintro ⟨H1, H2, H3⟩
    iapply (pointsTo_share (PosShare.mem_left_op_right fullShare)).2
    isplitl [H1]; · iexact H1
    iapply (pointsTo_share (PosShare.mem_left_op_right fullShare.right)).2
    isplitl [H2] <;> iassumption

/-! ## The state after a round -/

/-- The chunks projected after `n` rounds. -/
def doneCh (c : Dev nD) : ℕ → Finset (Dev nD)
  | 0 => {c}
  | n + 1 => insert (ahead c (n + 1)) (insert (back c (n + 1)) (doneCh c n))

theorem doneCh_all (c : Dev nD) : insert (back c 8) (doneCh c 7) = Finset.univ := by revert c; decide +kernel

/-- What the `h`-th copy to the right takes, and the `h`-th to the left. -/
def todoR (c : Dev nD) (h : ℕ) : sProp 𝕄 := iprop(tok c (6 + h) ∗ tok (nxt c) (14 + h) ∗ xA (nxt c) (back c h))
def todoL (c : Dev nD) (h : ℕ) : sProp 𝕄 := iprop(tok c (22 + h) ∗ tok (prv c) (29 + h) ∗ xA (prv c) (ahead c h))
/-- What the wait for the `h`-th copy from either side takes. -/
def waitR (c : Dev nD) (h : ℕ) : sProp 𝕄 := iprop(crd c (14 + h) ∗ posn c (14 + h))
def waitL (c : Dev nD) (h : ℕ) : sProp 𝕄 := iprop(crd c (29 + h) ∗ posn c (29 + h))
/-- What a round leaves aside: shares no copy reads, and two semaphores back at zero. -/
def aside (c : Dev nD) (h : ℕ) : sProp 𝕄 :=
  iprop(xC I qL c (back c (h + 1)) ∗ xC I qR c (ahead c (h + 1)) ∗ zero c (14 + h) ∗ zero c (29 + h))
/-- The loads' shares of the two chunks a round brings. -/
def loads (c : Dev nD) (h : ℕ) : sProp 𝕄 := iprop(xC I qK c (back c (h + 1)) ∗ xC I qK c (ahead c (h + 1)))

abbrev wkv (c : Dev nD) : sProp 𝕄 := iprop(wh stK c fullShare (I c).wk ∗ wh stV c fullShare (I c).wv)

def GS (c : Dev nD) (n : ℕ) : sProp 𝕄 :=
  iprop(own c (owe c (n + 1) (n + 1) 0) ∗ bigSep (Finset.Ico (n + 1) 8) (todoR c) ∗ bigSep (Finset.Ico (n + 1) 7) (todoL c)
    ∗ bigSep (Finset.Ico n 8) (waitR c) ∗ bigSep (Finset.Ico n 7) (waitL c)
    ∗ (bigSep (Finset.range (n + 1)) fun h => crd c (6 + h)) ∗ (bigSep (Finset.range (n + 1)) fun h => crd c (22 + h))
    ∗ bigSep (Finset.range n) (aside I c) ∗ bigSep (Finset.range n) (loads I c) ∗ kvD I c (doneCh c n) ∗ wkv I c)

set_option maxHeartbeats 2000000 in
theorem wp_round (c : Dev nD) (j : Fin 6) (k : PR F) (Q : PUnit → sProp 𝕄) :
    iprop(records I c ∗ levAts L lv ∗ GS I c j.val) ⊢ iprop((GS I c (j.val + 1) -∗ run c k Q) -∗ run c (roundC c j k) Q) := by
  have hj := j.isLt
  have j8 : j.val < 8 := by omega
  have j7 : j.val < 7 := by omega
  have k8 : j.val + 1 < 8 := by omega
  have k7 : j.val + 1 < 7 := by omega
  have hs1 : j.val < j.val + 1 := by omega
  have hs2 : j.val < j.val + 2 := by omega
  have eb : back c (1 + j.val) = back c (j.val + 1) := by rw [Nat.add_comm]
  have ea : ahead c (1 + j.val) = ahead c (j.val + 1) := by rw [Nat.add_comm]
  unfold GS roundC
  rw [bigSep_Ico_succ_bot (a := j.val + 1) (b := 8) (by omega) (todoR c), bigSep_Ico_succ_bot (a := j.val + 1) (b := 7) (by omega) (todoL c),
    bigSep_Ico_succ_bot (a := j.val) (b := 8) (by omega) (waitR c), bigSep_Ico_succ_bot (a := j.val) (b := 7) (by omega) (waitL c),
    bigSep_range_succ (j.val + 1) (fun h => crd c (6 + h)), bigSep_range_succ (j.val + 1) (fun h => crd c (22 + h)),
    bigSep_range_succ j.val (aside I c), bigSep_range_succ j.val (loads I c)]
  unfold todoR todoL waitR waitL
  iintro ⟨#HR, #HL, HO, ⟨⟨Ht1, Ht2, Hxn⟩, HtR⟩, ⟨⟨Ht3, Ht4, Hxp⟩, HtL⟩, ⟨⟨Hc1, Hp1⟩, HwR⟩, ⟨⟨Hc2, Hp2⟩, HwL⟩, HsR, HsL, Ha, Hl, Hkv, Hwk, Hwv⟩ Hc
  iapply (wp_gotR I c ⟨j.val, j8⟩ (j.val + 1) (j.val + 1) 0 hs1 (.inl hs1)) $$ [HO Hc1 Hp1]
  · isplitr; · iexact HR
    isplitr; · iexact HL
    isplitl [HO]; · iexact HO
    isplitl [Hc1] <;> iassumption
  iintro ⟨HO, Hz1, Hx⟩
  ihave Hx := (x_thirds I c _).1 $$ Hx
  icases Hx with ⟨HxR, HxL, HxK⟩
  iapply (wp_sendR I c ⟨j.val + 1, k8⟩ (j.val + 1) 0) $$ [HO HxR Hxn Ht1 Ht2]
  · isplitr; · iexact HR
    isplitl [HO]; · iexact HO
    isplitl [HxR]; · iexact HxR
    isplitl [Hxn]; · iexact Hxn
    isplitl [Ht1] <;> iassumption
  iintro ⟨HO, Hs1⟩
  iapply (wp_gotL I c ⟨j.val, j7⟩ (j.val + 2) (j.val + 1) 0 hs2 hs1) $$ [HO Hc2 Hp2]
  · isplitr; · iexact HR
    isplitr; · iexact HL
    isplitl [HO]; · iexact HO
    isplitl [Hc2] <;> iassumption
  iintro ⟨HO, Hz2, Hy⟩
  ihave Hy := (x_thirds I c _).1 $$ Hy
  icases Hy with ⟨HyR, HyL, HyK⟩
  iapply (wp_sendL I c (j.val + 2) ⟨j.val + 1, k7⟩ 0) $$ [HO HyL Hxp Ht3 Ht4]
  · isplitr; · iexact HR
    isplitl [HO]; · iexact HO
    isplitl [HyL]; · iexact HyL
    isplitl [Hxp]; · iexact Hxp
    isplitl [Ht3] <;> iassumption
  iintro ⟨HO, Hs2⟩
  iapply (wp_kv I c (kvRight c ⟨j.val, j8⟩) (ch := back c (j.val + 1)) eb (doneCh c j.val)) $$ [Hkv HxK Hwk Hwv]
  · isplitl [Hkv]; · iexact Hkv
    isplitl [HxK]; · iexact HxK
    isplitl [Hwk] <;> iassumption
  iintro ⟨Hkv, HxK, Hwk, Hwv⟩
  iapply (wp_kv I c (kvLeft c ⟨j.val, j7⟩) (ch := ahead c (j.val + 1)) ea _) $$ [Hkv HyK Hwk Hwv]
  · isplitl [Hkv]; · iexact Hkv
    isplitl [HyK]; · iexact HyK
    isplitl [Hwk] <;> iassumption
  iintro ⟨Hkv, HyK, Hwk, Hwv⟩
  iapply Hc
  isplitl [HO]; · iexact HO
  isplitl [HtR]; · iexact HtR
  isplitl [HtL]; · iexact HtL
  isplitl [HwR]; · iexact HwR
  isplitl [HwL]; · iexact HwL
  isplitl [HsR Hs1]
  · isplitl [Hs1]; · iexact Hs1
    iexact HsR
  isplitl [HsL Hs2]
  · isplitl [Hs2]; · iexact Hs2
    iexact HsL
  isplitl [Ha HxL HyR Hz1 Hz2]
  · isplitl [HxL HyR Hz1 Hz2]
    · unfold aside
      isplitl [HxL]; · iexact HxL
      isplitl [HyR]; · iexact HyR
      isplitl [Hz1] <;> iassumption
    iexact Ha
  isplitl [Hl HxK HyK]
  · isplitl [HxK HyK]
    · unfold loads
      isplitl [HxK] <;> iassumption
    iexact Hl
  isplitl [Hkv]; · iexact Hkv
  isplitl [Hwk] <;> iassumption

/-- What the gather starts from, once the barrier is passed and the own chunk is written. -/
def gather₀ (c : Dev nD) : sProp 𝕄 :=
  iprop(own c (owe c 0 0 0) ∗ bigSep (Finset.range 8) (todoR c) ∗ bigSep (Finset.range 7) (todoL c)
    ∗ bigSep (Finset.range 8) (waitR c) ∗ bigSep (Finset.range 7) (waitL c)
    ∗ xC I fullShare c c ∗ kvD I c ∅ ∗ wkv I c)

/-- What the gather leaves. -/
def gather₁ (c : Dev nD) : sProp 𝕄 :=
  iprop(own c (owe c 8 7 0) ∗ (bigSep (Finset.range 8) fun h => crd c (6 + h)) ∗ (bigSep (Finset.range 7) fun h => crd c (22 + h))
    ∗ bigSep (Finset.range 7) (aside I c) ∗ (xC I qR c (back c 8) ∗ xC I qL c (back c 8) ∗ xC I qL c (ahead c 7) ∗ zero c 21)
    ∗ wh bX c qK (XF I) ∗ wh bK c fullShare (KC I c) ∗ wh bV c fullShare (VC I c) ∗ wkv I c)

/-- Every load's share of every chunk is the whole array at that share. -/
theorem loads_whole (c : Dev nD) :
    iprop(xC I qK c c ∗ bigSep (Finset.range 7) (loads I c) ∗ xC I qK c (back c 8)) ⊢ wh bX c qK (XF I) := by
  rw [x_chunks, bigSep_around c, bigSep_range_succ 7 (fun h => xC I qK c (back c (h + 1)))]
  unfold loads
  rw [bigSep_sep']
  iintro ⟨H0, ⟨Hb, Ha⟩, H8⟩
  isplitl [H0]; · iexact H0
  isplitl [Hb H8]
  · isplitl [H8] <;> iassumption
  iexact Ha

theorem kv_whole (c : Dev nD) : kvD I c Finset.univ ⊢ iprop(wh bK c fullShare (KC I c) ∗ wh bV c fullShare (VC I c)) := by
  unfold kvD kvP
  iintro ⟨%f, %g, %hf, Hk, Hv⟩
  have h1 : f = KC I c := funext fun i => (hf i (Finset.mem_univ _)).1
  have h2 : g = VC I c := funext fun i => (hf i (Finset.mem_univ _)).2
  subst h1 h2
  isplitl [Hk] <;> iassumption

/-- The gather's tail. -/
def tailC (d : Dev nD) (k : PR F) : PR F :=
  waitRC d 6 (agVR 6) <| sendRC d 7 <| waitLC d 6 (agVL 6) <| kvC (kvRight d 6) <| kvC (kvLeft d 6) <|
  waitRC d 7 (agVR 7) <| kvC (kvRight d 7) k

set_option maxHeartbeats 2000000 in
theorem wp_last (c : Dev nD) (k : PR F) (Q : PUnit → sProp 𝕄) :
    iprop(records I c ∗ levAts L lv ∗ GS I c 6 ∗ xC I qK c c) ⊢ iprop((gather₁ I c -∗ run c k Q) -∗ run c (tailC c k) Q) := by
  unfold GS gather₁ tailC
  rw [bigSep_Ico_one 7 (todoR c), bigSep_Ico_succ_bot (a := 6) (b := 8) (by omega) (waitR c), bigSep_Ico_one 7 (waitR c), bigSep_Ico_one 6 (waitL c),
    bigSep_range_succ 7 (fun h => crd c (6 + h)), bigSep_range_succ 6 (aside I c)]
  unfold todoR waitR waitL
  iintro ⟨#HR, #HL, ⟨HO, ⟨Ht1, Ht2, Hxn⟩, -, ⟨⟨Hc1, Hp1⟩, Hc3, Hp3⟩, ⟨Hc2, Hp2⟩, HsR, HsL, Ha, Hl, Hkv, Hwk, Hwv⟩, Hown⟩ Hc
  iapply (wp_gotR I c 6 7 7 0 (by decide) (.inr (by decide))) $$ [HO Hc1 Hp1]
  · isplitr; · iexact HR
    isplitr; · iexact HL
    isplitl [HO]; · iexact HO
    isplitl [Hc1] <;> iassumption
  iintro ⟨HO, Hz1, Hx⟩
  ihave Hx := (x_thirds I c _).1 $$ Hx
  icases Hx with ⟨HxR, HxL, HxK⟩
  iapply (wp_sendR I c 7 7 0) $$ [HO HxR Hxn Ht1 Ht2]
  · isplitr; · iexact HR
    isplitl [HO]; · iexact HO
    isplitl [HxR]; · iexact HxR
    isplitl [Hxn]; · iexact Hxn
    isplitl [Ht1] <;> iassumption
  iintro ⟨HO, Hs1⟩
  iapply (wp_gotL I c 6 8 7 0 (by decide) (by decide)) $$ [HO Hc2 Hp2]
  · isplitr; · iexact HR
    isplitr; · iexact HL
    isplitl [HO]; · iexact HO
    isplitl [Hc2] <;> iassumption
  iintro ⟨HO, Hz2, Hy⟩
  ihave Hy := (x_thirds I c _).1 $$ Hy
  icases Hy with ⟨HyR, HyL, HyK⟩
  iapply (wp_kv I c (kvRight c 6) (ch := back c 7) rfl (doneCh c 6)) $$ [Hkv HxK Hwk Hwv]
  · isplitl [Hkv]; · iexact Hkv
    isplitl [HxK]; · iexact HxK
    isplitl [Hwk] <;> iassumption
  iintro ⟨Hkv, HxK, Hwk, Hwv⟩
  iapply (wp_kv I c (kvLeft c 6) (ch := ahead c 7) rfl _) $$ [Hkv HyK Hwk Hwv]
  · isplitl [Hkv]; · iexact Hkv
    isplitl [HyK]; · iexact HyK
    isplitl [Hwk] <;> iassumption
  iintro ⟨Hkv, HyK, Hwk, Hwv⟩
  iapply (wp_gotR I c 7 8 7 0 (by decide) (.inr (by decide))) $$ [HO Hc3 Hp3]
  · isplitr; · iexact HR
    isplitr; · iexact HL
    isplitl [HO]; · iexact HO
    isplitl [Hc3] <;> iassumption
  iintro ⟨HO, Hz3, Hw⟩
  ihave Hw := (x_thirds I c _).1 $$ Hw
  icases Hw with ⟨HwR, HwL, HwK⟩
  iapply (wp_kv I c (kvRight c 7) (ch := back c 8) rfl (doneCh c 7)) $$ [Hkv HwK Hwk Hwv]
  · isplitl [Hkv]; · iexact Hkv
    isplitl [HwK]; · iexact HwK
    isplitl [Hwk] <;> iassumption
  iintro ⟨Hkv, HwK, Hwk, Hwv⟩
  rw [doneCh_all]
  ihave Hkv := (kv_whole I c) $$ Hkv
  icases Hkv with ⟨Hk, Hv⟩
  iapply Hc
  isplitl [HO]; · iexact HO
  isplitl [HsR Hs1]
  · isplitl [Hs1]; · iexact Hs1
    iexact HsR
  isplitl [HsL]; · iexact HsL
  isplitl [Ha HxL HyR Hz1 Hz2]
  · isplitl [HxL HyR Hz1 Hz2]
    · unfold aside
      isplitl [HxL]; · iexact HxL
      isplitl [HyR]; · iexact HyR
      isplitl [Hz1] <;> iassumption
    iexact Ha
  isplitl [HwR HwL HyL Hz3]
  · isplitl [HwR]; · iexact HwR
    isplitl [HwL]; · iexact HwL
    isplitl [HyL]; · iexact HyL
    iexact Hz3
  isplitl [Hown Hl HxK HyK HwK]
  · iapply (loads_whole I c)
    isplitl [Hown]; · iexact Hown
    isplitr [HwK]
    · rw [bigSep_range_succ 6 (loads I c)]
      isplitl [HxK HyK]
      · unfold loads
        isplitl [HxK] <;> iassumption
      iexact Hl
    iexact HwK
  isplitl [Hk]; · iexact Hk
  isplitl [Hv]; · iexact Hv
  isplitl [Hwk] <;> iassumption

set_option maxHeartbeats 2000000 in
theorem wp_gather (c : Dev nD) (k : PR F) (Q : PUnit → sProp 𝕄) :
    iprop(records I c ∗ levAts L lv ∗ gather₀ I c) ⊢ iprop((gather₁ I c -∗ run c k Q) -∗ run c (gatherC c k) Q) := by
  unfold gather₀ gatherC
  rw [Finset.range_eq_Ico, Finset.range_eq_Ico, bigSep_Ico_succ_bot (a := 0) (b := 8) (by omega) (todoR c),
    bigSep_Ico_succ_bot (a := 0) (b := 7) (by omega) (todoL c)]
  unfold todoR todoL
  iintro ⟨#HR, #HL, HO, ⟨⟨Ht1, Ht2, Hxn⟩, HtR⟩, ⟨⟨Ht3, Ht4, Hxp⟩, HtL⟩, HwR, HwL, Hx, Hkv, Hwk, Hwv⟩ Hc
  have b0 : back c (0 : Fin 8).val = c := back_zero c
  have a0 : ahead c (0 : Fin 7).val = c := ahead_zero c
  ihave Hx := (x_thirds I c c).1 $$ Hx
  icases Hx with ⟨HxR, HxL, HxK⟩
  iapply (wp_sendR I c 0 0 0) $$ [HO HxR Hxn Ht1 Ht2]
  · isplitr; · iexact HR
    isplitl [HO]; · iexact HO
    isplitl [HxR]; · rw [b0]; iexact HxR
    isplitl [Hxn]; · iexact Hxn
    isplitl [Ht1] <;> iassumption
  iintro ⟨HO, Hs1⟩
  iapply (wp_sendL I c 1 0 0) $$ [HO HxL Hxp Ht3 Ht4]
  · isplitr; · iexact HR
    isplitl [HO]; · iexact HO
    isplitl [HxL]; · rw [a0]; iexact HxL
    isplitl [Hxp]; · iexact Hxp
    isplitl [Ht3] <;> iassumption
  iintro ⟨HO, Hs2⟩
  iapply (wp_kv I c (kvOwn c) (ch := c) rfl ∅) $$ [Hkv HxK Hwk Hwv]
  · isplitl [Hkv]; · iexact Hkv
    isplitl [HxK]; · iexact HxK
    isplitl [Hwk] <;> iassumption
  iintro ⟨Hkv, HxK, Hwk, Hwv⟩
  ihave HG : GS I c 0 $$ [HO HtR HtL HwR HwL Hs1 Hs2 Hkv Hwk Hwv]
  · unfold GS todoR todoL
    rw [bigSep_range_succ 0 (fun h => crd c (6 + h)), bigSep_range_succ 0 (fun h => crd c (22 + h)), Finset.range_zero]
    simp only [bigSep_empty]
    isplitl [HO]; · iexact HO
    isplitl [HtR]; · iexact HtR
    isplitl [HtL]; · iexact HtL
    isplitl [HwR]; · iexact HwR
    isplitl [HwL]; · iexact HwL
    isplitl [Hs1]
    · isplitl [Hs1]; · iexact Hs1
      iempintro
    isplitl [Hs2]
    · isplitl [Hs2]; · iexact Hs2
      iempintro
    isplitr; · iempintro
    isplitr; · iempintro
    isplitl [Hkv]; · iexact Hkv
    isplitl [Hwk] <;> iassumption
  iapply (wp_round I c 0) $$ [HG]
  · isplitr; · iexact HR
    isplitr; · iexact HL
    iexact HG
  iintro HG
  iapply (wp_round I c 1) $$ [HG]
  · isplitr; · iexact HR
    isplitr; · iexact HL
    iexact HG
  iintro HG
  iapply (wp_round I c 2) $$ [HG]
  · isplitr; · iexact HR
    isplitr; · iexact HL
    iexact HG
  iintro HG
  iapply (wp_round I c 3) $$ [HG]
  · isplitr; · iexact HR
    isplitr; · iexact HL
    iexact HG
  iintro HG
  iapply (wp_round I c 4) $$ [HG]
  · isplitr; · iexact HR
    isplitr; · iexact HL
    iexact HG
  iintro HG
  iapply (wp_round I c 5) $$ [HG]
  · isplitr; · iexact HR
    isplitr; · iexact HL
    iexact HG
  iintro HG
  iapply (wp_last I c) $$ [HG HxK]
  · isplitr; · iexact HR
    isplitr; · iexact HL
    isplitl [HG]; · iexact HG
    iexact HxK
  iexact Hc

end Cert.Ring16
end
-- ==== Proof.Scatter.lean ====
/-
# The reduce-scatter

At step `t` a device adds its own share of the chunk `t + 1` places behind to what came in from the left neighbour,
and sends the sum on to the right. After the last step the chunk is its own, and the sum is the result block.
-/
module

public import proofs.«01_k».proof.Proof.Gather

@[expose] public section

noncomputable section

namespace Cert.Ring16

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F)

/-- What the copy of step `t` takes besides the outgoing slot. -/
def stp (c : Dev nD) (t : ℕ) : sProp 𝕄 := iprop(tok c (36 + t) ∗ tok (nxt c) (51 + t) ∗ rA (nxt c) t)
/-- What the wait for step `t`'s block takes, and what it leaves. -/
def waitV (c : Dev nD) (t : ℕ) : sProp 𝕄 := iprop(crd c (51 + t) ∗ posn c (51 + t))
def gotV (c : Dev nD) (t : ℕ) : sProp 𝕄 := iprop(rC I c t ∗ zero c (51 + t))

/-- What the loop over the heads reads, and the gathered array. -/
abbrev reads (c : Dev nD) : sProp 𝕄 := iprop(wh bX c qK (XF I) ∗ tabs I c)

/-- A sum put into an outgoing slot, both batches. -/
theorem put_two (j : Fin 2) (f : Vec F S2x2x128x512 .bf16) (v : Fin 2 → FVec F S1x1x128x512 .bf16) (b : Fin 2) (r : Fin 128) (e : Fin 512) :
    putS j 1 (putS j 0 f (v 0)) (v 1) (ix4 j b r e) = v b (ix4 0 0 r e) := by
  have h : ∀ x : Fin 2, x = 0 ∨ x = 1 := by decide
  rcases h b with rfl | rfl
  · rw [putS_off j 1 0 (by decide), putS_at]
  · rw [putS_at]

set_option maxHeartbeats 1000000 in
theorem wp_pass (c : Dev nD) (t t' : Fin 15) (ht : t'.val = t.val + 1) (k : PR F) (Q : PUnit → sProp 𝕄) :
    iprop(records I c ∗ levAts L lv ∗ own c (owe c 8 7 t'.val) ∗ waitV c t.val ∗ sA c (slotOf t'.val) ∗ stp c t'.val)
      ⊢ iprop(((own c (owe c 8 7 (t'.val + 1)) ∗ crd c (36 + t'.val) ∗ gotV I c t.val) -∗ run c k Q)
        -∗ run c (passC c t t' (contrib I c 0 (back c (t.val + 2))) (contrib I c 1 (back c (t.val + 2))) k) Q) := by
  unfold passC waitV sA stp
  iintro ⟨#HR, #HL, HO, ⟨Hc1, Hp1⟩, ⟨%f, Hs⟩, Ht1, Ht2, Hr⟩ Hc
  have hlt : t.val < t'.val := by omega
  iapply (wp_got I c t t'.val hlt) $$ [HO Hc1 Hp1]
  · isplitr; · iexact HR
    isplitr; · iexact HL
    isplitl [HO]; · iexact HO
    isplitl [Hc1] <;> iassumption
  iintro ⟨HO, Hz, Hin⟩
  iapply (wp_get I c t 0) $$ Hin; iintro Hin
  iapply (wp_put c (slotOf t'.val) 0) $$ Hs; iintro Hs
  iapply (wp_get I c t 1) $$ Hin; iintro Hin
  iapply (wp_put c (slotOf t'.val) 1) $$ Hs; iintro Hs
  have hfs : ∀ b r e, putS (slotOf t'.val) 1 (putS (slotOf t'.val) 0 f (sendN (contrib I c 0 (back c (t.val + 2))) (sent I t.val (prv c) 0)))
      (sendN (contrib I c 1 (back c (t.val + 2))) (sent I t.val (prv c) 1)) (ix4 (slotOf t'.val) b r e) = sent I t'.val c b (ix4 0 0 r e) := by
    intro b r e
    rw [ht]
    exact put_two _ f (fun b => sent I (t.val + 1) c b) b r e
  iapply (wp_push I c 8 7 t' _ hfs) $$ [HO Hs Hr Ht1 Ht2]
  · isplitr; · iexact HR
    isplitl [HO]; · iexact HO
    isplitl [Hs]; · iexact Hs
    isplitl [Hr]; · iexact Hr
    isplitl [Ht1] <;> iassumption
  iintro ⟨HO, Hcr⟩
  iapply Hc
  isplitl [HO]; · iexact HO
  isplitl [Hcr]; · iexact Hcr
  unfold gotV
  isplitl [Hin] <;> iassumption

/-- The state once `j + 2` blocks have been sent. -/
def SS (c : Dev nD) (j : ℕ) : sProp 𝕄 :=
  iprop(own c (owe c 8 7 (j + 2)) ∗ bigSep (Finset.Ico (j + 2) 15) (stp c) ∗ bigSep (Finset.Ico (j + 1) 15) (waitV c)
    ∗ bigSep (Finset.range (j + 1)) (gotV I c) ∗ crd c (36 + j) ∗ crd c (36 + (j + 1)) ∗ (bigSep (Finset.Ico j 15) fun t => posn c (36 + t))
    ∗ (bigSep (Finset.range j) fun t => zero c (36 + t)) ∗ reads I c)

set_option maxHeartbeats 2000000 in
theorem wp_step (c : Dev nD) (j : Fin 13) (k : PR F) (Q : PUnit → sProp 𝕄) :
    iprop(records I c ∗ levAts L lv ∗ SS I c j.val) ⊢ iprop((SS I c (j.val + 1) -∗ run c k Q) -∗ run c (stepC c j k) Q) := by
  have hj := j.isLt
  have h0 : j.val < 15 := by omega
  have h1 : j.val + 1 < 15 := by omega
  have h2 : j.val + 2 < 15 := by omega
  have h3 : j.val + 2 < 16 := by omega
  have hsl : slotOf j.val = slotOf (j.val + 2) := Fin.ext (by show j.val % 2 = (j.val + 2) % 2; omega)
  unfold SS stepC
  rw [bigSep_Ico_succ_bot (a := j.val + 2) (b := 15) h2 (stp c), bigSep_Ico_succ_bot (a := j.val + 1) (b := 15) h1 (waitV c),
    bigSep_range_succ (j.val + 1) (gotV I c), bigSep_Ico_succ_bot (a := j.val) (b := 15) h0 (fun t => posn c (36 + t)),
    bigSep_range_succ j.val (fun t => zero c (36 + t))]
  iintro ⟨#HR, #HL, HO, ⟨Hst, HsT⟩, ⟨Hw, HwT⟩, Hg, Hc0, Hc1, ⟨Hp, HpT⟩, Hz, Hrd⟩ Hc
  iapply (wp_contrib I c ⟨j.val + 2, h3⟩ qK) $$ Hrd; iintro Hrd
  iapply (wp_sent I c ⟨j.val, h0⟩ 8 7 (j.val + 2)) $$ [HO Hc0 Hp]
  · isplitr; · iexact HR
    isplitr; · iexact HL
    isplitl [HO]; · iexact HO
    isplitl [Hc0] <;> iassumption
  iintro ⟨HO, Hz0, Hsl⟩
  iapply (wp_pass I c ⟨j.val + 1, h1⟩ ⟨j.val + 2, h2⟩ rfl) $$ [HO Hw Hsl Hst]
  · isplitr; · iexact HR
    isplitr; · iexact HL
    isplitl [HO]; · iexact HO
    isplitl [Hw]; · iexact Hw
    isplitl [Hsl]
    · rw [← hsl]; iexact Hsl
    iexact Hst
  iintro ⟨HO, Hc2, Hg1⟩
  iapply Hc
  isplitl [HO]; · iexact HO
  isplitl [HsT]; · iexact HsT
  isplitl [HwT]; · iexact HwT
  isplitl [Hg Hg1]
  · isplitl [Hg1]; · iexact Hg1
    iexact Hg
  isplitl [Hc1]; · iexact Hc1
  isplitl [Hc2]; · iexact Hc2
  isplitl [HpT]; · iexact HpT
  isplitl [Hz Hz0]
  · isplitl [Hz0]; · iexact Hz0
    iexact Hz
  iexact Hrd

/-- What the reduce-scatter starts from. -/
def scatter₀ (c : Dev nD) : sProp 𝕄 :=
  iprop(own c (owe c 8 7 0) ∗ bigSep (Finset.range 15) (stp c) ∗ bigSep (Finset.range 15) (waitV c)
    ∗ (bigSep (Finset.range 15) fun t => posn c (36 + t)) ∗ sA c 0 ∗ sA c 1 ∗ reads I c ∗ ∃ f, wh stR c fullShare f)

/-- What it leaves. -/
def scatter₁ (c : Dev nD) : sProp 𝕄 :=
  iprop(own c (owe c 8 7 15) ∗ bigSep (Finset.range 15) (gotV I c) ∗ (crd c (36 + 13) ∗ posn c (36 + 13)) ∗ (crd c (36 + 14) ∗ posn c (36 + 14))
    ∗ (bigSep (Finset.range 13) fun t => zero c (36 + t)) ∗ reads I c ∗ wh stR c fullShare (outV I c))

set_option maxHeartbeats 1000000 in
theorem wp_start (c : Dev nD) (k : PR F) (Q : PUnit → sProp 𝕄) :
    iprop(records I c ∗ levAts L lv ∗ own c (owe c 8 7 0) ∗ bigSep (Finset.range 15) (stp c) ∗ bigSep (Finset.range 15) (waitV c)
      ∗ (bigSep (Finset.range 15) fun t => posn c (36 + t)) ∗ sA c 0 ∗ sA c 1 ∗ reads I c)
      ⊢ iprop((SS I c 0 -∗ run c k Q) -∗ run c (step0C c (step1C c k)) Q) := by
  unfold step0C step1C SS
  rw [Finset.range_eq_Ico, Finset.range_eq_Ico, Finset.range_eq_Ico, bigSep_Ico_succ_bot (a := 0) (b := 15) (by omega) (stp c),
    bigSep_Ico_succ_bot (a := 1) (b := 15) (by omega) (stp c), bigSep_Ico_succ_bot (a := 0) (b := 15) (by omega) (waitV c),
    bigSep_Ico_one 0 (gotV I c), Finset.Ico_self, bigSep_empty (Φ := fun t => zero c (36 + t))]
  conv => lhs; unfold stp sA
  iintro ⟨#HR, #HL, HO, ⟨⟨Ht1, Ht2, Hr⟩, Hst, HsT⟩, ⟨Hw, HwT⟩, Hp, ⟨%f, Hs0⟩, Hs1, Hrd⟩ Hc
  iapply (wp_contrib I c 0 qK) $$ Hrd; iintro Hrd
  iapply (wp_put c 0 0) $$ Hs0; iintro Hs0
  iapply (wp_put c 0 1) $$ Hs0; iintro Hs0
  have hfs : ∀ b r e, putS 0 1 (putS 0 0 f (send0 (contrib I c 0 (back c 1)))) (send0 (contrib I c 1 (back c 1))) (ix4 0 b r e)
      = sent I 0 c b (ix4 0 0 r e) := fun b r e => put_two 0 f (fun b => sent I 0 c b) b r e
  iapply (wp_push I c 8 7 0 _ hfs) $$ [HO Hs0 Hr Ht1 Ht2]
  · isplitr; · iexact HR
    isplitl [HO]; · iexact HO
    isplitl [Hs0]; · iexact Hs0
    isplitl [Hr]; · iexact Hr
    isplitl [Ht1] <;> iassumption
  iintro ⟨HO, Hc0⟩
  iapply (wp_contrib I c 1 qK) $$ Hrd; iintro Hrd
  iapply (wp_pass I c 0 1 rfl) $$ [HO Hw Hs1 Hst]
  · isplitr; · iexact HR
    isplitr; · iexact HL
    isplitl [HO]; · iexact HO
    isplitl [Hw]; · iexact Hw
    isplitl [Hs1]; · unfold sA; iexact Hs1
    unfold stp; iexact Hst
  iintro ⟨HO, Hc1, Hg⟩
  iapply Hc
  isplitl [HO]; · iexact HO
  isplitl [HsT]; · unfold stp; iexact HsT
  isplitl [HwT]; · iexact HwT
  isplitl [Hg]; · iexact Hg
  isplitl [Hc0]; · iexact Hc0
  isplitl [Hc1]; · iexact Hc1
  isplitl [Hp]; · iexact Hp
  isplitr; · iempintro
  iexact Hrd

set_option maxHeartbeats 1000000 in
theorem wp_finish (c : Dev nD) (k : PR F) (Q : PUnit → sProp 𝕄) :
    iprop(records I c ∗ levAts L lv ∗ SS I c 13 ∗ ∃ f, wh stR c fullShare f) ⊢ iprop((scatter₁ I c -∗ run c k Q) -∗ run c (lastC c k) Q) := by
  unfold lastC endC SS scatter₁
  rw [bigSep_Ico_one 14 (waitV c), bigSep_Ico_succ_bot (a := 13) (b := 15) (by omega) (fun t => posn c (36 + t)), bigSep_Ico_one 14 (fun t => posn c (36 + t)),
    bigSep_range_succ 14 (gotV I c)]
  have hb : back c 16 = c := by revert c; decide +kernel
  conv => lhs; unfold waitV
  iintro ⟨#HR, #HL, ⟨HO, -, ⟨Hw1, Hw2⟩, Hg, Hc0, Hc1, ⟨Hp0, Hp1⟩, Hz, Hrd⟩, %f, Ho⟩ Hc
  iapply (wp_contrib I c 15 qK) $$ Hrd; iintro Hrd
  iapply (wp_got I c 14 15 (by decide)) $$ [HO Hw1 Hw2]
  · isplitr; · iexact HR
    isplitr; · iexact HL
    isplitl [HO]; · iexact HO
    isplitl [Hw1] <;> iassumption
  iintro ⟨HO, Hz14, Hin⟩
  iapply (wp_get I c 14 0) $$ Hin; iintro Hin
  iapply (wp_load 𝒱₀ (c : Thread nD τ) none Set.univ (m := stR) (Finset.subset_univ _)) $$ Ho; iintro Ho
  iapply (wp_store 𝒱₀ (c : Thread nD τ) none Set.univ (m := stR) (r := Rect.unit (s := S2x128x512) ![0, 0, 0] S1x128x512.size inb_S2x128x512_S1x128x512_0_0_0)
    (Mk := Finset.univ) (Finset.subset_univ _)) $$ Ho; iintro Ho
  iapply (wp_get I c 14 1) $$ Hin; iintro Hin
  iapply (wp_load 𝒱₀ (c : Thread nD τ) none Set.univ (m := stR) (Finset.subset_univ _)) $$ Ho; iintro Ho
  iapply (wp_store 𝒱₀ (c : Thread nD τ) none Set.univ (m := stR) (r := Rect.unit (s := S2x128x512) ![1, 0, 0] S1x128x512.size inb_S2x128x512_S1x128x512_1_0_0)
    (Mk := Finset.univ) (Finset.subset_univ _)) $$ Ho; iintro Ho
  iapply Hc
  isplitl [HO]; · iexact HO
  isplitl [Hg Hin Hz14]
  · isplitl [Hin Hz14]
    · unfold gotV
      isplitl [Hin]; · iexact Hin
      iexact Hz14
    iexact Hg
  isplitl [Hc0 Hp0]
  · isplitl [Hc0] <;> iassumption
  isplitl [Hc1 Hp1]
  · isplitl [Hc1] <;> iassumption
  isplitl [Hz]; · iexact Hz
  isplitl [Hrd]; · iexact Hrd
  have e := out_eq I c f
  rw [← e]
  have hb' : back c ((15 : Fin 16).val + 1) = c := hb
  rw [hb']
  iexact Ho

theorem wp_scatter (c : Dev nD) (k : PR F) (Q : PUnit → sProp 𝕄) :
    iprop(records I c ∗ levAts L lv ∗ scatter₀ I c) ⊢ iprop((scatter₁ I c -∗ run c k Q) -∗ run c (scatterC c k) Q) := by
  unfold scatter₀ scatterC
  iintro ⟨#HR, #HL, HO, Hst, Hw, Hp, Hs0, Hs1, Hrd, Ho⟩ Hc
  iapply (wp_start I c) $$ [HO Hst Hw Hp Hs0 Hs1 Hrd]
  · isplitr; · iexact HR
    isplitr; · iexact HL
    isplitl [HO]; · iexact HO
    isplitl [Hst]; · iexact Hst
    isplitl [Hw]; · iexact Hw
    isplitl [Hp]; · iexact Hp
    isplitl [Hs0]; · iexact Hs0
    isplitl [Hs1] <;> iassumption
  iintro HS
  iapply (wp_step I c 0) $$ [HS]
  · isplitr; · iexact HR
    isplitr; · iexact HL
    iexact HS
  iintro HS
  iapply (wp_step I c 1) $$ [HS]
  · isplitr; · iexact HR
    isplitr; · iexact HL
    iexact HS
  iintro HS
  iapply (wp_step I c 2) $$ [HS]
  · isplitr; · iexact HR
    isplitr; · iexact HL
    iexact HS
  iintro HS
  iapply (wp_step I c 3) $$ [HS]
  · isplitr; · iexact HR
    isplitr; · iexact HL
    iexact HS
  iintro HS
  iapply (wp_step I c 4) $$ [HS]
  · isplitr; · iexact HR
    isplitr; · iexact HL
    iexact HS
  iintro HS
  iapply (wp_step I c 5) $$ [HS]
  · isplitr; · iexact HR
    isplitr; · iexact HL
    iexact HS
  iintro HS
  iapply (wp_step I c 6) $$ [HS]
  · isplitr; · iexact HR
    isplitr; · iexact HL
    iexact HS
  iintro HS
  iapply (wp_step I c 7) $$ [HS]
  · isplitr; · iexact HR
    isplitr; · iexact HL
    iexact HS
  iintro HS
  iapply (wp_step I c 8) $$ [HS]
  · isplitr; · iexact HR
    isplitr; · iexact HL
    iexact HS
  iintro HS
  iapply (wp_step I c 9) $$ [HS]
  · isplitr; · iexact HR
    isplitr; · iexact HL
    iexact HS
  iintro HS
  iapply (wp_step I c 10) $$ [HS]
  · isplitr; · iexact HR
    isplitr; · iexact HL
    iexact HS
  iintro HS
  iapply (wp_step I c 11) $$ [HS]
  · isplitr; · iexact HR
    isplitr; · iexact HL
    iexact HS
  iintro HS
  iapply (wp_step I c 12) $$ [HS]
  · isplitr; · iexact HR
    isplitr; · iexact HL
    iexact HS
  iintro HS
  iapply (wp_finish I c) $$ [HS Ho]
  · isplitr; · iexact HR
    isplitr; · iexact HL
    isplitl [HS]; · iexact HS
    iexact Ho
  iexact Hc

end Cert.Ring16
end
-- ==== Proof.Drain.lean ====
/-
# The drain

The last waits: every block a device sent is known to have left, so its source comes back and the gathered array is
whole again.
-/
module

public import proofs.«01_k».proof.Proof.Scatter

@[expose] public section

noncomputable section

namespace Cert.Ring16

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F)

/-- The first of a run of assertions taken apart. -/
theorem range_first (n : ℕ) (Φ : ℕ → sProp 𝕄) : bigSep (Finset.range (n + 1)) Φ = iprop(Φ 0 ∗ bigSep (Finset.range n) fun h => Φ (h + 1)) := by
  induction n with
  | zero => rw [bigSep_range_succ, Finset.range_zero, bigSep_empty, bigSep_empty]
  | succ n ih =>
    rw [bigSep_range_succ (n + 1), ih, bigSep_range_succ n (fun h => Φ (h + 1))]
    refine equiv_iff.mp ⟨show iprop(Φ (n + 1) ∗ Φ 0 ∗ bigSep (Finset.range n) fun h => Φ (h + 1)) ⊢ iprop(Φ 0 ∗ Φ (n + 1) ∗ bigSep (Finset.range n) fun h => Φ (h + 1)) from ?_,
      show iprop(Φ 0 ∗ Φ (n + 1) ∗ bigSep (Finset.range n) fun h => Φ (h + 1)) ⊢ iprop(Φ (n + 1) ∗ Φ 0 ∗ bigSep (Finset.range n) fun h => Φ (h + 1)) from ?_⟩
    · iintro ⟨H1, H0, H⟩
      isplitl [H0]; · iexact H0
      isplitl [H1] <;> iassumption
    · iintro ⟨H0, H1, H⟩
      isplitl [H1]; · iexact H1
      isplitl [H0] <;> iassumption

/-- What the drain starts from. -/
def drain₀ (c : Dev nD) : sProp 𝕄 :=
  iprop(own c (owe c 8 7 15) ∗ (bigSep (Finset.range 8) fun h => crd c (6 + h)) ∗ (bigSep (Finset.range 8) fun h => posn c (6 + h))
    ∗ (bigSep (Finset.range 7) fun h => crd c (22 + h)) ∗ (bigSep (Finset.range 7) fun h => posn c (22 + h))
    ∗ (crd c (36 + 13) ∗ posn c (36 + 13)) ∗ (crd c (36 + 14) ∗ posn c (36 + 14)))

/-- What it leaves. -/
def drain₁ (c : Dev nD) : sProp 𝕄 :=
  iprop(own c 0 ∗ (bigSep (Finset.range 8) fun h => zero c (6 + h)) ∗ (bigSep (Finset.range 8) fun h => xC I qR c (back c h))
    ∗ (bigSep (Finset.range 7) fun h => zero c (22 + h)) ∗ (bigSep (Finset.range 7) fun h => xC I qL c (ahead c h))
    ∗ (zero c (36 + 13) ∗ zero c (36 + 14)) ∗ sA c 1 ∗ sA c 0)

set_option maxHeartbeats 4000000 in
theorem wp_drain (c : Dev nD) (k : PR F) (Q : PUnit → sProp 𝕄) :
    iprop(records I c ∗ levAts L lv ∗ drain₀ c) ⊢ iprop((drain₁ I c -∗ run c k Q) -∗ run c (drainC c k) Q) := by
  unfold drain₀ drain₁ drainC
  simp only [bigSep_range_succ, Finset.range_zero, bigSep_empty]
  iintro ⟨#HR, #HL, HO, ⟨A7, A6, A5, A4, A3, A2, A1, A0, -⟩, ⟨B7, B6, B5, B4, B3, B2, B1, B0, -⟩, ⟨C6, C5, C4, C3, C2, C1, C0, -⟩, ⟨D6, D5, D4, D3, D2, D1, D0, -⟩, ⟨E13, F13⟩, E14, F14⟩ Hc
  iapply (wp_leftR I c 0 8 7 15) $$ [HO A0 B0]
  · isplitr; · iexact HR
    isplitr; · iexact HL
    isplitl [HO]; · iexact HO
    isplitl [A0]; · iexact A0
    iexact B0
  iintro ⟨HO, Z0, X0⟩
  iapply (wp_leftR I c 1 8 7 15) $$ [HO A1 B1]
  · isplitr; · iexact HR
    isplitr; · iexact HL
    isplitl [HO]; · iexact HO
    isplitl [A1]; · iexact A1
    iexact B1
  iintro ⟨HO, Z1, X1⟩
  iapply (wp_leftR I c 2 8 7 15) $$ [HO A2 B2]
  · isplitr; · iexact HR
    isplitr; · iexact HL
    isplitl [HO]; · iexact HO
    isplitl [A2]; · iexact A2
    iexact B2
  iintro ⟨HO, Z2, X2⟩
  iapply (wp_leftR I c 3 8 7 15) $$ [HO A3 B3]
  · isplitr; · iexact HR
    isplitr; · iexact HL
    isplitl [HO]; · iexact HO
    isplitl [A3]; · iexact A3
    iexact B3
  iintro ⟨HO, Z3, X3⟩
  iapply (wp_leftR I c 4 8 7 15) $$ [HO A4 B4]
  · isplitr; · iexact HR
    isplitr; · iexact HL
    isplitl [HO]; · iexact HO
    isplitl [A4]; · iexact A4
    iexact B4
  iintro ⟨HO, Z4, X4⟩
  iapply (wp_leftR I c 5 8 7 15) $$ [HO A5 B5]
  · isplitr; · iexact HR
    isplitr; · iexact HL
    isplitl [HO]; · iexact HO
    isplitl [A5]; · iexact A5
    iexact B5
  iintro ⟨HO, Z5, X5⟩
  iapply (wp_leftR I c 6 8 7 15) $$ [HO A6 B6]
  · isplitr; · iexact HR
    isplitr; · iexact HL
    isplitl [HO]; · iexact HO
    isplitl [A6]; · iexact A6
    iexact B6
  iintro ⟨HO, Z6, X6⟩
  iapply (wp_leftR I c 7 8 7 15) $$ [HO A7 B7]
  · isplitr; · iexact HR
    isplitr; · iexact HL
    isplitl [HO]; · iexact HO
    isplitl [A7]; · iexact A7
    iexact B7
  iintro ⟨HO, Z7, X7⟩
  iapply (wp_leftL I c 0 8 7 15) $$ [HO C0 D0]
  · isplitr; · iexact HR
    isplitr; · iexact HL
    isplitl [HO]; · iexact HO
    isplitl [C0]; · iexact C0
    iexact D0
  iintro ⟨HO, W0, Y0⟩
  iapply (wp_leftL I c 1 8 7 15) $$ [HO C1 D1]
  · isplitr; · iexact HR
    isplitr; · iexact HL
    isplitl [HO]; · iexact HO
    isplitl [C1]; · iexact C1
    iexact D1
  iintro ⟨HO, W1, Y1⟩
  iapply (wp_leftL I c 2 8 7 15) $$ [HO C2 D2]
  · isplitr; · iexact HR
    isplitr; · iexact HL
    isplitl [HO]; · iexact HO
    isplitl [C2]; · iexact C2
    iexact D2
  iintro ⟨HO, W2, Y2⟩
  iapply (wp_leftL I c 3 8 7 15) $$ [HO C3 D3]
  · isplitr; · iexact HR
    isplitr; · iexact HL
    isplitl [HO]; · iexact HO
    isplitl [C3]; · iexact C3
    iexact D3
  iintro ⟨HO, W3, Y3⟩
  iapply (wp_leftL I c 4 8 7 15) $$ [HO C4 D4]
  · isplitr; · iexact HR
    isplitr; · iexact HL
    isplitl [HO]; · iexact HO
    isplitl [C4]; · iexact C4
    iexact D4
  iintro ⟨HO, W4, Y4⟩
  iapply (wp_leftL I c 5 8 7 15) $$ [HO C5 D5]
  · isplitr; · iexact HR
    isplitr; · iexact HL
    isplitl [HO]; · iexact HO
    isplitl [C5]; · iexact C5
    iexact D5
  iintro ⟨HO, W5, Y5⟩
  iapply (wp_leftL I c 6 8 7 15) $$ [HO C6 D6]
  · isplitr; · iexact HR
    isplitr; · iexact HL
    isplitl [HO]; · iexact HO
    isplitl [C6]; · iexact C6
    iexact D6
  iintro ⟨HO, W6, Y6⟩
  iapply (wp_sent I c 13 8 7 15) $$ [HO E13 F13]
  · isplitr; · iexact HR
    isplitr; · iexact HL
    isplitl [HO]; · iexact HO
    isplitl [E13]; · iexact E13
    iexact F13
  iintro ⟨HO, G13, S13⟩
  iapply (wp_sent I c 14 8 7 15) $$ [HO E14 F14]
  · isplitr; · iexact HR
    isplitr; · iexact HL
    isplitl [HO]; · iexact HO
    isplitl [E14]; · iexact E14
    iexact F14
  iintro ⟨HO, G14, S14⟩
  iapply Hc
  isplitl [HO]
  · have e : (owe c 8 7 15 : CellTallies nD τ sig Unit) = 0 := owe_done c
    rw [← e]; iexact HO
  isplitl [Z0 Z1 Z2 Z3 Z4 Z5 Z6 Z7]
  · skip
    isplitl [Z7]; · iexact Z7
    isplitl [Z6]; · iexact Z6
    isplitl [Z5]; · iexact Z5
    isplitl [Z4]; · iexact Z4
    isplitl [Z3]; · iexact Z3
    isplitl [Z2]; · iexact Z2
    isplitl [Z1]; · iexact Z1
    isplitl [Z0]; · iexact Z0
    iempintro
  isplitl [X0 X1 X2 X3 X4 X5 X6 X7]
  · skip
    isplitl [X7]; · iexact X7
    isplitl [X6]; · iexact X6
    isplitl [X5]; · iexact X5
    isplitl [X4]; · iexact X4
    isplitl [X3]; · iexact X3
    isplitl [X2]; · iexact X2
    isplitl [X1]; · iexact X1
    isplitl [X0]; · iexact X0
    iempintro
  isplitl [W0 W1 W2 W3 W4 W5 W6]
  · skip
    isplitl [W6]; · iexact W6
    isplitl [W5]; · iexact W5
    isplitl [W4]; · iexact W4
    isplitl [W3]; · iexact W3
    isplitl [W2]; · iexact W2
    isplitl [W1]; · iexact W1
    isplitl [W0]; · iexact W0
    iempintro
  isplitl [Y0 Y1 Y2 Y3 Y4 Y5 Y6]
  · skip
    isplitl [Y6]; · iexact Y6
    isplitl [Y5]; · iexact Y5
    isplitl [Y4]; · iexact Y4
    isplitl [Y3]; · iexact Y3
    isplitl [Y2]; · iexact Y2
    isplitl [Y1]; · iexact Y1
    isplitl [Y0]; · iexact Y0
    iempintro
  isplitl [G13 G14]
  · isplitl [G13]; · iexact G13
    iexact G14
  isplitl [S13]; · iexact S13
  iexact S14

/-- The right copies' share of the gathered array. -/
theorem x_right (c : Dev nD) :
    iprop((bigSep (Finset.range 8) fun h => xC I qR c (back c h)) ∗ xC I qR c (back c 8) ∗ bigSep (Finset.range 7) fun h => xC I qR c (ahead c (h + 1)))
      ⊢ wh bX c qR (XF I) := by
  rw [x_chunks, bigSep_around c, bigSep_range_succ 7 (fun h => xC I qR c (back c (h + 1))), range_first 7 (fun h => xC I qR c (back c h)), back_zero]
  iintro ⟨⟨H0, Hb⟩, H8, Ha⟩
  isplitl [H0]; · iexact H0
  isplitl [Hb H8]
  · isplitl [H8] <;> iassumption
  iexact Ha

/-- The left copies' share of it. -/
theorem x_left (c : Dev nD) :
    iprop((bigSep (Finset.range 7) fun h => xC I qL c (ahead c h)) ∗ xC I qL c (ahead c 7) ∗ (bigSep (Finset.range 7) fun h => xC I qL c (back c (h + 1)))
      ∗ xC I qL c (back c 8)) ⊢ wh bX c qL (XF I) := by
  rw [x_chunks, bigSep_around c, bigSep_range_succ 7 (fun h => xC I qL c (back c (h + 1))), bigSep_range_succ 6 (fun h => xC I qL c (ahead c (h + 1))),
    range_first 6 (fun h => xC I qL c (ahead c h)), ahead_zero]
  iintro ⟨⟨H0, Ha⟩, H7, Hb, H8⟩
  isplitl [H0]; · iexact H0
  isplitl [Hb H8]
  · isplitl [H8] <;> iassumption
  isplitl [H7] <;> iassumption

theorem x_whole (c : Dev nD) : iprop(wh bX c qR (XF I) ∗ wh bX c qL (XF I) ∗ wh bX c qK (XF I)) ⊢ wh bX c fullShare (XF I) := by
  unfold wh
  iintro ⟨HR, HL, HK⟩
  iapply (pointsTo_share (PosShare.mem_left_op_right fullShare)).2
  isplitl [HR]; · iexact HR
  iapply (pointsTo_share (PosShare.mem_left_op_right fullShare.right)).2
  isplitl [HL] <;> iassumption

end Cert.Ring16
end
-- ==== Proof.Same.lean ====
/-
# The printed body is the program over named steps

Up to a loop the two programs agree by unfolding. After a loop the printed program nests its sequencing the
other way round (it is cut into parts), so the parts are put in line by associativity, loop by loop.
-/
module

public import proofs.«01_k».proof.Proof.Steps
public import proofs.«01_k».proof.Proof.Gen.KernelIdeal.Points
import all proofs.«01_k».proof.KernelIdeal.P01

@[expose] public section

noncomputable section

namespace Cert.Ring16

open Cert.KernelIdeal Cert.KernelIdeal.Gen
open Idealize.ShloMosaic Idealize.SL.Sem

variable {F : FTy → Type} [FloatOps F]

abbrev Pair (F : FTy → Type) [FloatOps F] : Type := FVec F S128x512 .f32 × FVec F S128x512 .f32
abbrev PRa (F : FTy → Type) [FloatOps F] (α : Type) := Prog (TpuEff nD τ sig (Elt F) Λ₀ .tc) α
abbrev Vx (F : FTy → Type) [FloatOps F] : Type := Vec F S1x128x512 .bf16

/-- The loads and the loop of one step, with what follows left as a program of the two loads. -/
def loopC (d : Dev nD) (t : Fin 16) (k : Vx F → Vx F → PRa F (Pair F) → PR F) : PR F :=
  .op (.load bX (Rect.unit (s := S2x2048x512) (k0_off58 d (BitVec.ofNat 32 t.val)) S1x128x512.size (k0_off58_inb d t)).toLoadRect (View.loadsAt_vmem h_S1x128x512)) fun x0 =>
  .op (.load bX (Rect.unit (s := S2x2048x512) (k0_off59 d (BitVec.ofNat 32 t.val)) S1x128x512.size (k0_off59_inb d t)).toLoadRect (View.loadsAt_vmem h_S1x128x512)) fun x1 =>
  k x0 x1 (Scf.Loop.for k0_t1_loop k0_t1_ok (k0_pay717 (F := F), k0_pay717 (F := F)) (headBody x0 x1))

theorem bind_bind.{v} {E : Type → Type v} {α β γ : Type} (p : Prog E α) (f : α → Prog E β) (g : β → Prog E γ) :
    (p.bind f).bind g = p.bind fun a => (f a).bind g := Prog.bind_assoc p f g

/-- A loop inside two parts, put in line. -/
theorem loop_two (d : Dev nD) (t : Fin 16) {α : Type} (f : Vx F → Vx F → Pair F → PRa F α) (g : Vx F → Vx F → α → PR F)
    (k : FVec F S128x512 .f32 → FVec F S128x512 .f32 → PR F)
    (h : ∀ x0 x1 a, (f x0 x1 a).bind (g x0 x1) = k a.1 a.2) :
    loopC d t (fun x0 x1 l => (l.bind (f x0 x1)).bind (g x0 x1)) = contribC d t k := by
  refine congrArg _ (funext fun x0 => congrArg _ (funext fun x1 => ?_))
  exact (bind_bind _ _ _).trans (congrArg _ (funext fun a => h x0 x1 a))

/-- A loop inside three parts, put in line. -/
theorem loop_three (d : Dev nD) (t : Fin 16) {α β : Type} (f : Vx F → Vx F → Pair F → PRa F α) (g : Vx F → Vx F → α → PRa F β)
    (e : Vx F → Vx F → β → PR F)
    (k : FVec F S128x512 .f32 → FVec F S128x512 .f32 → PR F)
    (h : ∀ x0 x1 a, ((f x0 x1 a).bind (g x0 x1)).bind (e x0 x1) = k a.1 a.2) :
    loopC d t (fun x0 x1 l => ((l.bind (f x0 x1)).bind (g x0 x1)).bind (e x0 x1)) = contribC d t k := by
  refine congrArg _ (funext fun x0 => congrArg _ (funext fun x1 => ?_))
  refine ((bind_bind _ _ _).trans (bind_bind _ _ _)).trans (congrArg _ (funext fun a => ?_))
  exact (bind_bind _ _ _).symm.trans (h x0 x1 a)

/-- One stretch of the body up to and with a loop inside two parts. -/
theorem line_two {p : PR F} (pre : PR F → PR F) (d : Dev nD) (t : Fin 16) {α : Type} (f : Vx F → Vx F → Pair F → PRa F α)
    (g : Vx F → Vx F → α → PR F) (e : p = pre (loopC d t fun x0 x1 l => (l.bind (f x0 x1)).bind (g x0 x1)))
    (k : FVec F S128x512 .f32 → FVec F S128x512 .f32 → PR F) (h : ∀ x0 x1 a, (f x0 x1 a).bind (g x0 x1) = k a.1 a.2) :
    p = pre (contribC d t k) := by rw [e, loop_two d t f g k h]

/-- One stretch of the body up to and with a loop inside three parts. -/
theorem line_three {p : PR F} (pre : PR F → PR F) (d : Dev nD) (t : Fin 16) {α β : Type} (f : Vx F → Vx F → Pair F → PRa F α)
    (g : Vx F → Vx F → α → PRa F β) (e : Vx F → Vx F → β → PR F)
    (q : p = pre (loopC d t fun x0 x1 l => ((l.bind (f x0 x1)).bind (g x0 x1)).bind (e x0 x1)))
    (k : FVec F S128x512 .f32 → FVec F S128x512 .f32 → PR F) (h : ∀ x0 x1 a, ((f x0 x1 a).bind (g x0 x1)).bind (e x0 x1) = k a.1 a.2) :
    p = pre (contribC d t k) := by rw [q, loop_three d t f g e k h]

/-- The body up to the first loop. -/
theorem line_start {p : PR F} {α β : Type} (f : Dev nD → Vx F → Vx F → Pair F → PRa F α) (g : Dev nD → Vx F → Vx F → α → PRa F β)
    (e : Dev nD → Vx F → Vx F → β → PR F)
    (q : p = .op .deviceId fun d => barrierC d <| ownC d <| gatherC d <|
      loopC d 0 fun x0 x1 l => ((l.bind (f d x0 x1)).bind (g d x0 x1)).bind (e d x0 x1))
    (k : Dev nD → FVec F S128x512 .f32 → FVec F S128x512 .f32 → PR F)
    (h : ∀ d x0 x1 a, ((f d x0 x1 a).bind (g d x0 x1)).bind (e d x0 x1) = k d a.1 a.2) :
    p = .op .deviceId fun d => barrierC d <| ownC d <| gatherC d <| contribC d 0 (k d) := by
  rw [q]; congr 1; funext d; rw [loop_three d 0 (f d) (g d) (e d) (k d) (h d)]

/-- The body from step `2` on. -/
def from2 (d : Dev nD) : PR F :=
  stepC d 0 <| stepC d 1 <| stepC d 2 <| stepC d 3 <| stepC d 4 <| stepC d 5 <| stepC d 6 <|
  stepC d 7 <| stepC d 8 <| stepC d 9 <| stepC d 10 <| stepC d 11 <| stepC d 12 <| lastC d <| drainC d <| .ret ⟨⟩

set_option maxRecDepth 1000000 in
set_option maxHeartbeats 0 in
/-- The body the region runs is the program over named steps. -/
theorem body_eq (t : Fin cfg0.N) : bodyAt0 (F := F) t = bodyC := by
  refine line_start _ _ _ rfl (fun d a0 a1 => putC 0 0 (send0 a0) <| putC 0 1 (send0 a1) <| pushC d 0 <| step1C d <| from2 d) ?_
  intro d _ _ a
  refine line_three (fun k => putC 0 0 (send0 a.1) <| putC 0 1 (send0 a.2) <| pushC d 0 k) d 1 _ _ _ rfl (fun a0 a1 => passC d 0 1 a0 a1 (from2 d)) ?_
  intro _ _ a
  refine line_two (fun k => passC d 0 1 a.1 a.2 k) d 2 _ _ rfl (fun a0 a1 => sentC 0 <| passC d 1 2 a0 a1 <| stepC d 1 <| stepC d 2 <| stepC d 3 <| stepC d 4 <| stepC d 5 <| stepC d 6 <| stepC d 7 <| stepC d 8 <| stepC d 9 <| stepC d 10 <| stepC d 11 <| stepC d 12 <| lastC d <| drainC d <| .ret ⟨⟩) ?_
  intro _ _ a
  refine line_two (fun k => sentC 0 <| passC d 1 2 a.1 a.2 k) d 3 _ _ rfl (fun a0 a1 => sentC 1 <| passC d 2 3 a0 a1 <| stepC d 2 <| stepC d 3 <| stepC d 4 <| stepC d 5 <| stepC d 6 <| stepC d 7 <| stepC d 8 <| stepC d 9 <| stepC d 10 <| stepC d 11 <| stepC d 12 <| lastC d <| drainC d <| .ret ⟨⟩) ?_
  intro _ _ a
  refine line_two (fun k => sentC 1 <| passC d 2 3 a.1 a.2 k) d 4 _ _ rfl (fun a0 a1 => sentC 2 <| passC d 3 4 a0 a1 <| stepC d 3 <| stepC d 4 <| stepC d 5 <| stepC d 6 <| stepC d 7 <| stepC d 8 <| stepC d 9 <| stepC d 10 <| stepC d 11 <| stepC d 12 <| lastC d <| drainC d <| .ret ⟨⟩) ?_
  intro _ _ a
  refine line_two (fun k => sentC 2 <| passC d 3 4 a.1 a.2 k) d 5 _ _ rfl (fun a0 a1 => sentC 3 <| passC d 4 5 a0 a1 <| stepC d 4 <| stepC d 5 <| stepC d 6 <| stepC d 7 <| stepC d 8 <| stepC d 9 <| stepC d 10 <| stepC d 11 <| stepC d 12 <| lastC d <| drainC d <| .ret ⟨⟩) ?_
  intro _ _ a
  refine line_two (fun k => sentC 3 <| passC d 4 5 a.1 a.2 k) d 6 _ _ rfl (fun a0 a1 => sentC 4 <| passC d 5 6 a0 a1 <| stepC d 5 <| stepC d 6 <| stepC d 7 <| stepC d 8 <| stepC d 9 <| stepC d 10 <| stepC d 11 <| stepC d 12 <| lastC d <| drainC d <| .ret ⟨⟩) ?_
  intro _ _ a
  refine line_two (fun k => sentC 4 <| passC d 5 6 a.1 a.2 k) d 7 _ _ rfl (fun a0 a1 => sentC 5 <| passC d 6 7 a0 a1 <| stepC d 6 <| stepC d 7 <| stepC d 8 <| stepC d 9 <| stepC d 10 <| stepC d 11 <| stepC d 12 <| lastC d <| drainC d <| .ret ⟨⟩) ?_
  intro _ _ a
  refine line_two (fun k => sentC 5 <| passC d 6 7 a.1 a.2 k) d 8 _ _ rfl (fun a0 a1 => sentC 6 <| passC d 7 8 a0 a1 <| stepC d 7 <| stepC d 8 <| stepC d 9 <| stepC d 10 <| stepC d 11 <| stepC d 12 <| lastC d <| drainC d <| .ret ⟨⟩) ?_
  intro _ _ a
  refine line_two (fun k => sentC 6 <| passC d 7 8 a.1 a.2 k) d 9 _ _ rfl (fun a0 a1 => sentC 7 <| passC d 8 9 a0 a1 <| stepC d 8 <| stepC d 9 <| stepC d 10 <| stepC d 11 <| stepC d 12 <| lastC d <| drainC d <| .ret ⟨⟩) ?_
  intro _ _ a
  refine line_two (fun k => sentC 7 <| passC d 8 9 a.1 a.2 k) d 10 _ _ rfl (fun a0 a1 => sentC 8 <| passC d 9 10 a0 a1 <| stepC d 9 <| stepC d 10 <| stepC d 11 <| stepC d 12 <| lastC d <| drainC d <| .ret ⟨⟩) ?_
  intro _ _ a
  refine line_two (fun k => sentC 8 <| passC d 9 10 a.1 a.2 k) d 11 _ _ rfl (fun a0 a1 => sentC 9 <| passC d 10 11 a0 a1 <| stepC d 10 <| stepC d 11 <| stepC d 12 <| lastC d <| drainC d <| .ret ⟨⟩) ?_
  intro _ _ a
  refine line_two (fun k => sentC 9 <| passC d 10 11 a.1 a.2 k) d 12 _ _ rfl (fun a0 a1 => sentC 10 <| passC d 11 12 a0 a1 <| stepC d 11 <| stepC d 12 <| lastC d <| drainC d <| .ret ⟨⟩) ?_
  intro _ _ a
  refine line_two (fun k => sentC 10 <| passC d 11 12 a.1 a.2 k) d 13 _ _ rfl (fun a0 a1 => sentC 11 <| passC d 12 13 a0 a1 <| stepC d 12 <| lastC d <| drainC d <| .ret ⟨⟩) ?_
  intro _ _ a
  refine line_two (fun k => sentC 11 <| passC d 12 13 a.1 a.2 k) d 14 _ _ rfl (fun a0 a1 => sentC 12 <| passC d 13 14 a0 a1 <| lastC d <| drainC d <| .ret ⟨⟩) ?_
  intro _ _ a
  exact line_two (fun k => sentC 12 <| passC d 13 14 a.1 a.2 k) d 15 _ _ rfl (fun a0 a1 => endC a0 a1 (drainC d (.ret ⟨⟩))) (fun _ _ _ => rfl)

end Cert.Ring16
end
-- ==== Proof.Body.lean ====
/-
# The body

The barrier, the gather, the reduce-scatter and the drain in order: from the staged inputs, the scratch buffers and the
rights the launch deals out, to the result block in its staging buffer, every counter at zero and nothing owed.
-/
module

public import proofs.«01_k».proof.Proof.Drain
public import proofs.«01_k».proof.Proof.Same

@[expose] public section

noncomputable section

namespace Cert.Ring16

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → In F)

/-! ## Runs of assertions -/

theorem range_add (m : ℕ) (Φ : ℕ → sProp 𝕄) : ∀ n, bigSep (Finset.range (m + n)) Φ = iprop(bigSep (Finset.range m) Φ ∗ bigSep (Finset.range n) fun i => Φ (m + i))
  | 0 => by
    rw [Nat.add_zero, Finset.range_zero, bigSep_empty]
    exact (BI.equiv_iff.mp sep_emp).symm
  | n + 1 => by
    rw [← Nat.add_assoc, bigSep_range_succ (m + n), range_add m Φ n, bigSep_range_succ n]
    have e (A B C : sProp 𝕄) : iprop(A ∗ B ∗ C) = iprop(B ∗ A ∗ C) := by
      refine BI.equiv_iff.mp ⟨show (iprop(A ∗ B ∗ C) : sProp 𝕄) ⊢ iprop(B ∗ A ∗ C) from ?_, show (iprop(B ∗ A ∗ C) : sProp 𝕄) ⊢ iprop(A ∗ B ∗ C) from ?_⟩
      · iintro ⟨HA, HB, HC⟩
        isplitl [HB]; · iexact HB
        isplitl [HA] <;> iassumption
      · iintro ⟨HB, HA, HC⟩
        isplitl [HA]; · iexact HA
        isplitl [HB] <;> iassumption
    exact e _ _ _

/-- The sixty DMA cells of a device by what they are for. -/
theorem range_sixty (Φ : ℕ → sProp 𝕄) : (bigSep (Finset.range 60) fun i => Φ (6 + i))
    = iprop((bigSep (Finset.range 8) fun h => Φ (6 + h)) ∗ (bigSep (Finset.range 8) fun h => Φ (14 + h)) ∗ (bigSep (Finset.range 7) fun h => Φ (22 + h))
      ∗ (bigSep (Finset.range 7) fun h => Φ (29 + h)) ∗ (bigSep (Finset.range 15) fun t => Φ (36 + t)) ∗ bigSep (Finset.range 15) fun t => Φ (51 + t)) := by
  rw [show 60 = 8 + (8 + (7 + (7 + (15 + 15)))) from rfl, range_add, range_add, range_add, range_add, range_add]
  simp only [← Nat.add_assoc, Nat.reduceAdd]

theorem range_fin (n : ℕ) (Φ : ℕ → sProp 𝕄) : bigSep (Finset.range n) Φ = bigSep Finset.univ fun i : Fin n => Φ i.val := by
  rw [← Nat.Iio_eq_range, ← Fin.map_valEmbedding_univ, BI.bigSep_map]; rfl

/-! ## The scratch buffers taken apart and put together -/

theorem x_open (c : Dev nD) (f : Buf (Elt F) (bX.view.loc (c : Thread nD τ))) :
    wh bX c fullShare f ⊢ iprop(xA c c ∗ (bigSep (Finset.range 8) fun h => xA c (back c (h + 1))) ∗ bigSep (Finset.range 7) fun h => xA c (ahead c (h + 1))) := by
  rw [← bigSep_around c (xA c)]
  have h := pointsTo_biUnion (Ix := Unit) (Name := ℕ) (U := UU) (Lvl := ℕ) (ℓ := bX.view.loc (c : Thread nD τ)) (q := fullShare) (f := f) Finset.univ xSet (fun a _ b _ h => xSet_disj a b h)
  refine (Entails.of_eq ((congrArg (fun S => (bX.view.loc (c : Thread nD τ) ↦[S]{fullShare} f : sProp 𝕄)) xSet_cover.symm).trans h)).trans ?_
  refine bigSep_mono fun k _ => ?_
  show (bX.view.loc (c : Thread nD τ) ↦[xSet k]{fullShare} f : sProp 𝕄) ⊢ xA c k
  unfold xA
  iintro H; iexists f; iexact H

theorem r_open (c : Dev nD) (f : Buf (Elt F) (bR.view.loc (c : Thread nD τ))) : wh bR c fullShare f ⊢ bigSep (Finset.range 15) fun t => rA c t := by
  rw [range_fin 15 (fun t => rA c t)]
  have h := pointsTo_biUnion (Ix := Unit) (Name := ℕ) (U := UU) (Lvl := ℕ) (ℓ := bR.view.loc (c : Thread nD τ)) (q := fullShare) (f := f) Finset.univ rSet (fun a _ b _ h => rSet_disj a b h)
  refine (Entails.of_eq ((congrArg (fun S => (bR.view.loc (c : Thread nD τ) ↦[S]{fullShare} f : sProp 𝕄)) rSet_cover.symm).trans h)).trans ?_
  refine bigSep_mono fun t _ => ?_
  unfold rA
  rw [show fin15 t.val = t from Fin.ext (Nat.mod_eq_of_lt t.isLt)]
  show (bR.view.loc (c : Thread nD τ) ↦[rSet t]{fullShare} f : sProp 𝕄) ⊢ _
  iintro H; iexists f; iexact H

theorem r_close (c : Dev nD) : (bigSep (Finset.range 15) fun t => rC I c t) ⊢ wh bR c fullShare (RSC I c) := by
  rw [range_fin 15 (fun t => rC I c t)]
  have h := pointsTo_biUnion (Ix := Unit) (Name := ℕ) (U := UU) (Lvl := ℕ) (ℓ := bR.view.loc (c : Thread nD τ)) (q := fullShare) (f := RSC I c) Finset.univ rSet (fun a _ b _ h => rSet_disj a b h)
  refine BI.Entails.trans (bigSep_mono fun t _ => ?_) (Entails.of_eq ((congrArg (fun S => (bR.view.loc (c : Thread nD τ) ↦[S]{fullShare} RSC I c : sProp 𝕄)) rSet_cover.symm).trans h).symm)
  unfold rC
  rw [show fin15 t.val = t from Fin.ext (Nat.mod_eq_of_lt t.isLt)]
  exact BI.Entails.refl _

theorem s_open (c : Dev nD) (f : Buf (Elt F) (bS.view.loc (c : Thread nD τ))) : wh bS c fullShare f ⊢ iprop(sA c 0 ∗ sA c 1) := by
  have h := pointsTo_biUnion (Ix := Unit) (Name := ℕ) (U := UU) (Lvl := ℕ) (ℓ := bS.view.loc (c : Thread nD τ)) (q := fullShare) (f := f) Finset.univ sSet (fun a _ b _ h => sSet_disj a b h)
  refine (Entails.of_eq ((congrArg (fun S => (bS.view.loc (c : Thread nD τ) ↦[S]{fullShare} f : sProp 𝕄)) sSet_cover.symm).trans h)).trans ?_
  rw [show (bigSep Finset.univ fun j : Fin 2 => (bS.view.loc (c : Thread nD τ) ↦[sSet j]{fullShare} f : sProp 𝕄))
    = iprop((bS.view.loc (c : Thread nD τ) ↦[sSet 0]{fullShare} f) ∗ (bS.view.loc (c : Thread nD τ) ↦[sSet 1]{fullShare} f)) from BI.bigSep_fin_two _]
  unfold sA
  iintro ⟨H0, H1⟩
  isplitl [H0]; · iexists f; iexact H0
  iexists f; iexact H1

/-- The halves of the outgoing buffer, at the contents each has. -/
theorem s_close (c : Dev nD) : iprop(sA c 0 ∗ sA c 1) ⊢ iprop(∃ f, wh (F := F) bS c fullShare f) := by
  unfold sA
  iintro ⟨⟨%f0, H0⟩, ⟨%f1, H1⟩⟩
  iexists (fun i => if i ∈ sSet 0 then f0 i else f1 i)
  have h := pointsTo_biUnion (Ix := Unit) (Name := ℕ) (U := UU) (Lvl := ℕ) (ℓ := bS.view.loc (c : Thread nD τ)) (q := fullShare)
    (f := fun i => if i ∈ sSet 0 then f0 i else f1 i) Finset.univ sSet (fun a _ b _ h => sSet_disj a b h)
  iapply (Entails.of_eq ((congrArg (fun S => (bS.view.loc (c : Thread nD τ) ↦[S]{fullShare} (fun i => if i ∈ sSet 0 then f0 i else f1 i) : sProp 𝕄)) sSet_cover.symm).trans h).symm)
  iapply (show iprop((bS.view.loc (c : Thread nD τ) ↦[sSet 0]{fullShare} (fun i => if i ∈ sSet 0 then f0 i else f1 i))
      ∗ (bS.view.loc (c : Thread nD τ) ↦[sSet 1]{fullShare} (fun i => if i ∈ sSet 0 then f0 i else f1 i)))
    ⊢ (bigSep Finset.univ fun j : Fin 2 => (bS.view.loc (c : Thread nD τ) ↦[sSet j]{fullShare} (fun i => if i ∈ sSet 0 then f0 i else f1 i) : sProp 𝕄)) from
    Entails.of_eq (BI.bigSep_fin_two (fun j : Fin 2 => (bS.view.loc (c : Thread nD τ) ↦[sSet j]{fullShare} (fun i => if i ∈ sSet 0 then f0 i else f1 i) : sProp 𝕄))).symm)
  isplitl [H0]
  · iapply (Entails.of_eq (pointsTo_congr fun i hi => (if_pos hi).symm)) $$ H0
  · iapply (Entails.of_eq (pointsTo_congr fun i hi => (if_neg fun h0 => Finset.disjoint_left.mp (sSet_disj 0 1 (by decide)) h0 hi).symm)) $$ H1

theorem kv_open (c : Dev nD) (f : Buf (Elt F) (bK.view.loc (c : Thread nD τ))) (g : Buf (Elt F) (bV.view.loc (c : Thread nD τ))) :
    iprop(wh bK c fullShare f ∗ wh bV c fullShare g) ⊢ kvD I c ∅ := by
  unfold kvD kvP
  iintro ⟨Hk, Hv⟩
  iexists f; iexists g
  isplitr
  · ipureintro
    intro i hi
    exact absurd hi (Finset.notMem_empty _)
  isplitl [Hk] <;> iassumption

theorem asides (c : Dev nD) : bigSep (Finset.range 7) (aside I c)
    ⊢ iprop((bigSep (Finset.range 7) fun h => xC I qL c (back c (h + 1))) ∗ (bigSep (Finset.range 7) fun h => xC I qR c (ahead c (h + 1)))
      ∗ (bigSep (Finset.range 7) fun h => zero c (14 + h)) ∗ bigSep (Finset.range 7) fun h => zero c (29 + h)) := by
  unfold aside
  rw [bigSep_sep', bigSep_sep', bigSep_sep']
theorem gots (c : Dev nD) : bigSep (Finset.range 15) (gotV I c)
    ⊢ iprop((bigSep (Finset.range 15) fun t => rC I c t) ∗ bigSep (Finset.range 15) fun t => zero c (51 + t)) := by
  unfold gotV
  rw [bigSep_sep']

/-! ## The whole body -/

/-- The scratch buffers, at contents not chosen. -/
def scr (c : Dev nD) : sProp 𝕄 :=
  iprop((∃ f, wh (F := F) bX c fullShare f) ∗ (∃ f, wh (F := F) bK c fullShare f) ∗ (∃ f, wh (F := F) bV c fullShare f)
    ∗ (∃ f, wh (F := F) bS c fullShare f) ∗ ∃ f, wh (F := F) bR c fullShare f)
/-- The staged inputs. -/
def ins (c : Dev nD) : sProp 𝕄 :=
  iprop(wh stX c fullShare (I c).x ∗ wh stQ c fullShare (I c).wq ∗ wh stO c fullShare (I c).wo ∗ wkv I c)
/-- The tokens of the duties device `c` pays. -/
def paysR (c : Dev nD) (h : ℕ) : sProp 𝕄 := iprop(tok c (6 + h) ∗ tok (nxt c) (14 + h))
def paysL (c : Dev nD) (h : ℕ) : sProp 𝕄 := iprop(tok c (22 + h) ∗ tok (prv c) (29 + h))
def paysS (c : Dev nD) (t : ℕ) : sProp 𝕄 := iprop(tok c (36 + t) ∗ tok (nxt c) (51 + t))
def pays (c : Dev nD) : sProp 𝕄 :=
  iprop((dutyTok ER (bcell (prv c)) 0 true ∗ dutyTok ER (bcell (nxt c)) 0 false)
    ∗ bigSep (Finset.range 8) (paysR c) ∗ bigSep (Finset.range 7) (paysL c) ∗ bigSep (Finset.range 15) (paysS c))
/-- The credit it waits with that is there from the start. -/
def creds (c : Dev nD) : sProp 𝕄 :=
  iprop(cred (tallyAt (bcell c) () 2) ∗ (bigSep (Finset.range 8) fun h => crd c (14 + h)) ∗ (bigSep (Finset.range 7) fun h => crd c (29 + h))
    ∗ bigSep (Finset.range 15) fun t => crd c (51 + t))

/-- What the body starts from. -/
def start (c : Dev nD) : sProp 𝕄 :=
  iprop((invs I ∗ near c ∗ levAts L lv) ∗ (pays c ∗ creds c ∗ atPos ER (bcell c) 0 ∅ 0 ∗ bigSep (Finset.range 60) fun i => posn c (6 + i)))
/-- What it leaves of the protocol. -/
def done (c : Dev nD) : sProp 𝕄 := iprop(semVal (bcell c) 0 ∗ bigSep (Finset.range 60) fun i => zero c (6 + i))

set_option maxHeartbeats 2000000 in
theorem wp_body (c : Dev nD) (Q : PUnit → sProp 𝕄) :
    iprop(start I c ∗ own c (owe₀ c) ∗ scr c ∗ ins I c ∗ ∃ f, wh (F := F) stR c fullShare f)
      ⊢ iprop(((done c ∗ own c 0 ∗ scr c ∗ ins I c ∗ wh stR c fullShare (outV I c)) -∗ Q ⟨⟩) -∗ run c bodyC Q) := by
  unfold bodyC start pays creds scr ins
  unfold run
  rw [range_sixty (fun n => (posn c n : sProp 𝕄)), wp_deviceId]
  iintro ⟨⟨⟨#HI, #Hn, #HL⟩, ⟨⟨HtP, HtN⟩, HpR, HpL, HpS⟩, ⟨Hcb, HcR, HcL, HcV⟩, Hat, Ha6, Ha14, Ha22, Ha29, Ha36, Ha51⟩, HO,
    ⟨⟨%fX, HX⟩, ⟨%fK, HK⟩, ⟨%fV, HV⟩, ⟨%fS, HS⟩, ⟨%fR, HRr⟩⟩, ⟨Hx, Hq, Ho, Hwkv⟩, Hout⟩ Hc
  ihave HX := (x_open c fX) $$ HX
  icases HX with ⟨HXc, HXb, HXa⟩
  ihave HRr := (r_open c fR) $$ HRr
  ihave HS := (s_open c fS) $$ HS
  icases HS with ⟨HS0, HS1⟩
  ihave Hkv := (kv_open I c fK fV) $$ [HK HV]
  · isplitl [HK] <;> iassumption
  iapply (wp_barrier I c) $$ [HO HXb HXa HRr HtP HtN Hcb Hat]
  · isplitr; · iexact HI
    isplitr; · iexact Hn
    isplitr; · iexact HL
    isplitl [HO]; · iexact HO
    isplitl [HXb HRr]
    · unfold giveT
      isplitl [HXb] <;> iassumption
    isplitl [HXa]; · unfold giveF; iexact HXa
    isplitl [HtP]; · iexact HtP
    isplitl [HtN]; · iexact HtN
    isplitl [Hcb] <;> iassumption
  unfold barF barT
  iintro ⟨HO, ⟨#HnP, HbF⟩, ⟨#HnN, HbX, HbR⟩, Hz⟩
  ihave #HR := (show iprop(invs I ∗ near c ∗ near (nxt c) ∗ near (prv c)) ⊢ records I c from by unfold records; exact BI.Entails.refl _) $$ []
  · isplitr; · iexact HI
    isplitr; · iexact Hn
    isplitr; · iexact HnN
    iexact HnP
  iapply (wp_own I c) $$ [Hx HXc]
  · isplitl [Hx] <;> iassumption
  iintro ⟨Hx, HXc⟩
  ihave HtR := (show iprop(bigSep (Finset.range 8) (paysR c) ∗ bigSep (Finset.range 8) fun h => xA (nxt c) (back c h)) ⊢ (bigSep (Finset.range 8) (todoR c) : sProp 𝕄) from by
    rw [← bigSep_sep']
    refine bigSep_mono fun h _ => ?_
    show iprop(paysR c h ∗ xA (nxt c) (back c h)) ⊢ todoR c h
    unfold paysR todoR
    iintro ⟨⟨H1, H2⟩, H3⟩
    isplitl [H1]; · iexact H1
    isplitl [H2] <;> iassumption) $$ [HpR HbX]
  · isplitl [HpR] <;> iassumption
  ihave HtL := (show iprop(bigSep (Finset.range 7) (paysL c) ∗ bigSep (Finset.range 7) fun h => xA (prv c) (ahead c h)) ⊢ (bigSep (Finset.range 7) (todoL c) : sProp 𝕄) from by
    rw [← bigSep_sep']
    refine bigSep_mono fun h _ => ?_
    show iprop(paysL c h ∗ xA (prv c) (ahead c h)) ⊢ todoL c h
    unfold paysL todoL
    iintro ⟨⟨H1, H2⟩, H3⟩
    isplitl [H1]; · iexact H1
    isplitl [H2] <;> iassumption) $$ [HpL HbF]
  · isplitl [HpL] <;> iassumption
  ihave HtS := (show iprop(bigSep (Finset.range 15) (paysS c) ∗ bigSep (Finset.range 15) fun t => rA (nxt c) t) ⊢ (bigSep (Finset.range 15) (stp c) : sProp 𝕄) from by
    rw [← bigSep_sep']
    refine bigSep_mono fun h _ => ?_
    show iprop(paysS c h ∗ rA (nxt c) h) ⊢ stp c h
    unfold paysS stp
    iintro ⟨⟨H1, H2⟩, H3⟩
    isplitl [H1]; · iexact H1
    isplitl [H2] <;> iassumption) $$ [HpS HbR]
  · isplitl [HpS] <;> iassumption
  iapply (wp_gather I c) $$ [HO HtR HtL HcR Ha14 HcL Ha29 HXc Hkv Hwkv]
  · isplitr; · iexact HR
    isplitr; · iexact HL
    unfold gather₀
    isplitl [HO]; · iexact HO
    isplitl [HtR]; · iexact HtR
    isplitl [HtL]; · iexact HtL
    isplitl [HcR Ha14]
    · unfold waitR; rw [bigSep_sep']
      isplitl [HcR] <;> iassumption
    isplitl [HcL Ha29]
    · unfold waitL; rw [bigSep_sep']
      isplitl [HcL] <;> iassumption
    isplitl [HXc]; · iexact HXc
    isplitl [Hkv] <;> iassumption
  unfold gather₁
  iintro ⟨HO, Hc6, Hc22, Has, ⟨HxR8, HxL8, HxL7, Hz21⟩, HxK, HK, HV, Hwkv⟩
  iapply (wp_scatter I c) $$ [HO HtS HcV Ha51 Ha36 HS0 HS1 HxK HK HV Hq Ho Hout]
  · isplitr; · iexact HR
    isplitr; · iexact HL
    unfold scatter₀ reads tabs
    isplitl [HO]; · iexact HO
    isplitl [HtS]; · iexact HtS
    isplitl [HcV Ha51]
    · unfold waitV; rw [bigSep_sep']
      isplitl [HcV] <;> iassumption
    isplitl [Ha36]; · iexact Ha36
    isplitl [HS0]; · iexact HS0
    isplitl [HS1]; · iexact HS1
    isplitr [Hout]
    · isplitl [HxK]; · iexact HxK
      isplitl [Hq]; · iexact Hq
      isplitl [Ho]; · iexact Ho
      isplitl [HK] <;> iassumption
    iexact Hout
  unfold scatter₁ reads tabs
  iintro ⟨HO, HgV, Hl13, Hl14, Hz36, ⟨HxK, Hq, Ho, HK, HV⟩, Hout⟩
  iapply (wp_drain I c) $$ [HO Hc6 Ha6 Hc22 Ha22 Hl13 Hl14]
  · isplitr; · iexact HR
    isplitr; · iexact HL
    unfold drain₀
    isplitl [HO]; · iexact HO
    isplitl [Hc6]; · iexact Hc6
    isplitl [Ha6]; · iexact Ha6
    isplitl [Hc22]; · iexact Hc22
    isplitl [Ha22]; · iexact Ha22
    isplitl [Hl13] <;> iassumption
  unfold drain₁
  iintro ⟨HO, Hz6, HxR, Hz22, HxL, ⟨Hz13, Hz14⟩, HS1, HS0⟩
  unfold run
  rw [wp_ret]
  imodintro
  iapply Hc
  ihave Has := (asides I c) $$ Has
  ihave HgV := (gots I c) $$ HgV
  icases Has with ⟨HaL, HaR, HzR, HzL⟩
  icases HgV with ⟨Hrc, HzV⟩
  isplitl [Hz Hz6 Hz21 HzR Hz22 HzL Hz36 Hz13 Hz14 HzV]
  · unfold done
    rw [range_sixty (fun n => (zero c n : sProp 𝕄)), bigSep_range_succ 7 (fun h => (zero c (14 + h) : sProp 𝕄)), bigSep_range_succ 14 (fun t => (zero c (36 + t) : sProp 𝕄)),
      bigSep_range_succ 13 (fun t => (zero c (36 + t) : sProp 𝕄))]
    isplitl [Hz]; · iexact Hz
    isplitl [Hz6]; · iexact Hz6
    isplitl [Hz21 HzR]; · isplitl [Hz21] <;> iassumption
    isplitl [Hz22]; · iexact Hz22
    isplitl [HzL]; · iexact HzL
    isplitl [Hz36 Hz13 Hz14]
    · isplitl [Hz14]; · iexact Hz14
      isplitl [Hz13] <;> iassumption
    iexact HzV
  isplitl [HO]; · iexact HO
  isplitl [HxR HxR8 HaR HxL HxL7 HaL HxL8 HxK HK HV HS0 HS1 Hrc]
  · isplitl [HxR HxR8 HaR HxL HxL7 HaL HxL8 HxK]
    · iexists XF I
      iapply (x_whole I c)
      isplitl [HxR HxR8 HaR]
      · iapply (x_right I c)
        isplitl [HxR]; · iexact HxR
        isplitl [HxR8] <;> iassumption
      isplitl [HxL HxL7 HaL HxL8]
      · iapply (x_left I c)
        isplitl [HxL]; · iexact HxL
        isplitl [HxL7]; · iexact HxL7
        isplitl [HaL] <;> iassumption
      iexact HxK
    isplitl [HK]; · iexists _; iexact HK
    isplitl [HV]; · iexists _; iexact HV
    isplitl [HS0 HS1]
    · iapply (s_close c)
      isplitl [HS0] <;> iassumption
    iexists _
    iapply (r_close I c); iexact Hrc
  isplitl [Hx Hq Ho Hwkv]
  · isplitl [Hx]; · iexact Hx
    isplitl [Hq]; · iexact Hq
    isplitl [Ho] <;> iassumption
  iexact Hout

end Cert.Ring16
end
-- ==== Proof.Region.lean ====
/-
# The call

The kernel's call as a region of the host program: the blocks the windows stage are the arrays the host operations
leave, the body turns them into the result block, and around it the sixty DMA cells are opened and given back at zero.
-/
module

public import proofs.«01_k».proof.Proof.Body
public import proofs.«01_k».proof.Proof.Gen.KernelIdeal.Frame
public import Idealize.ShloMosaic.Lib.Pipeline.RegionTalk

@[expose] public section

noncomputable section

namespace Cert.Ring16

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- What the windows stage on device `c`. -/
def inp (c : Dev nD) : In F := ⟨iblk m c 0 t0_0, iblk m c 1 t0_0, iblk m c 2 t0_0, iblk m c 3 t0_0, iblk m c 4 t0_0⟩

theorem pair {ι : Type} [Fintype ι] {Φ Ψ : ι → sProp 𝕄} :
    iprop(bigSep Finset.univ Φ ∗ bigSep Finset.univ Ψ) ⊢ bigSep Finset.univ fun c => iprop(Φ c ∗ Ψ c) := Entails.of_eq (BI.bigSep_sep _ _ _).symm
theorem unpair {ι : Type} [Fintype ι] {Φ Ψ : ι → sProp 𝕄} :
    (bigSep Finset.univ fun c => iprop(Φ c ∗ Ψ c)) ⊢ iprop(bigSep Finset.univ Φ ∗ bigSep Finset.univ Ψ) := Entails.of_eq (BI.bigSep_sep _ _ _)

def regs (c : Dev nD) : sProp 𝕄 := iprop(∃ r, prngReg c r)
/-- The invariant before the one point and after it. -/
def Φ₀ (c : Dev nD) : sProp 𝕄 := iprop(start (inp m) c ∗ scr c ∗ regs c)
def Φ₁ (c : Dev nD) : sProp 𝕄 := iprop(done c ∗ scr c ∗ regs c)

def dat (c : Dev nD) : Dat τ (Elt F) Unit ℕ UU ℕ cfg0 c where
  A w := V m c (Pipeline.arrRef spec0 w)
  after w _ := match w with
    | 0 => (inp m c).x
    | 1 => (inp m c).wq
    | 2 => (inp m c).wo
    | 3 => (inp m c).wk
    | 4 => (inp m c).wv
    | 5 => outV (inp m) c
  Φ t := if t.val = 0 then Φ₀ m c else Φ₁ c
  q _ := fullShare
  owed t := if t.val = 0 then owe₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_first (c : Dev nD) : (pdats m 0 c).owed 0 = owe₀ c := by
  show (if ((0 : Fin (cfg0.N + 1)).val = 0) then owe₀ c else 0) = owe₀ c; exact if_pos rfl
theorem owed_at0 (c : Dev nD) : (dat m c).owed t0_0.castSucc = owe₀ c := by
  show (if ((t0_0.castSucc : Fin (cfg0.N + 1)).val = 0) then owe₀ c else 0) = owe₀ c; exact if_pos rfl
theorem owed_last (c : Dev nD) : (pdats m 0 c).owed (Fin.last _) = 0 := by
  show (if (Fin.last cfg0.N).val = 0 then owe₀ c else 0) = 0
  rw [Fin.val_last, if_neg (by rw [show cfg0.N = 1 from N_0]; decide)]

theorem owes_in (c : Dev nD) (t : Fin (cfg0.N + 1)) (O : CellTallies nD τ sig Unit) (h0 : (dat m c).owed t = O) :
    (own c O : sProp 𝕄) ⊢ ((dat m c).owesAt () t : sProp 𝕄) := by
  unfold Dat.owesAt Pipeline.owesWithin Dat.bound own; rw [h0]
  iintro ⟨%W, HO⟩; iexists W; isplitr; · ipureintro; exact fun _ _ => Or.inl trivial
  iexact HO
theorem owes_out (c : Dev nD) (t : Fin (cfg0.N + 1)) (O : CellTallies nD τ sig Unit) (h0 : (dat m c).owed t = O) :
    ((dat m c).owesAt () t : sProp 𝕄) ⊢ own c O := by
  unfold Dat.owesAt Pipeline.owesWithin own; rw [h0]
  iintro ⟨%W, -, HO⟩; iexists W; iexact HO

theorem owns_whole_eq (c : Dev nD) (b : Ref sig .tc) (X : b.ty.shape.Idx → Elt F b.ty.elt) :
    (owns c (Memref.whole b) fullShare X : sProp 𝕄) = iprop(∃ f : Buf (Elt F) ((c : Thread nD τ).loc b), ⌜f = X⌝ ∗ ((c : Thread nD τ).loc b) ↦{fullShare} f) := by
  unfold owns; simp only [Memref.view_whole, View.read_whole, View.set_whole]

theorem before0 (c : Dev nD) (d) : (dat m c).before 0 t0_0 d = (inp m c).x := by
  unfold Dat.before; rw [if_pos (fetch0_0 t0_0)]; rfl
theorem before1 (c : Dev nD) (d) : (dat m c).before 1 t0_0 d = (inp m c).wq := by
  unfold Dat.before; rw [if_pos (fetch0_1 t0_0)]; rfl
theorem before2 (c : Dev nD) (d) : (dat m c).before 2 t0_0 d = (inp m c).wo := by
  unfold Dat.before; rw [if_pos (fetch0_2 t0_0)]; rfl
theorem before3 (c : Dev nD) (d) : (dat m c).before 3 t0_0 d = (inp m c).wk := by
  unfold Dat.before; rw [if_pos (fetch0_3 t0_0)]; rfl
theorem before4 (c : Dev nD) (d) : (dat m c).before 4 t0_0 d = (inp m c).wv := by
  unfold Dat.before; rw [if_pos (fetch0_4 t0_0)]; rfl

/-- The staging buffers before the body, and after it. -/
def pre6 (c : Dev nD) : sProp 𝕄 :=
  iprop((∃ d, owns c stX fullShare ((dat m c).before 0 t0_0 d)) ∗ (∃ d, owns c stQ fullShare ((dat m c).before 1 t0_0 d))
    ∗ (∃ d, owns c stO fullShare ((dat m c).before 2 t0_0 d)) ∗ (∃ d, owns c stK fullShare ((dat m c).before 3 t0_0 d))
    ∗ (∃ d, owns c stV fullShare ((dat m c).before 4 t0_0 d)) ∗ ∃ d, owns c stR fullShare ((dat m c).before 5 t0_0 d))
def post6 (c : Dev nD) : sProp 𝕄 :=
  iprop(owns c stX fullShare (inp m c).x ∗ owns c stQ fullShare (inp m c).wq ∗ owns c stO fullShare (inp m c).wo
    ∗ owns c stK fullShare (inp m c).wk ∗ owns c stV fullShare (inp m c).wv ∗ owns c stR fullShare (outV (inp m) c))

theorem pre6_ins (c : Dev nD) : (pre6 m c : sProp 𝕄) ⊢ iprop(ins (inp m) c ∗ ∃ f, wh (F := F) stR c fullShare f) := by
  unfold pre6 ins wkv
  simp only [owns_whole_eq, before0, before1, before2, before3, before4]
  iintro ⟨⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  subst e0 e1 e2 e3 e4
  isplitl [H0 H1 H2 H3 H4]
  · isplitl [H0]; · iexact H0
    isplitl [H1]; · iexact H1
    isplitl [H2]; · iexact H2
    isplitl [H3]; · iexact H3
    iexact H4
  iexists f5; iexact H5

theorem post6_ins (c : Dev nD) : iprop(ins (inp m) c ∗ wh stR c fullShare (outV (inp m) c)) ⊢ (post6 m c : sProp 𝕄) := by
  unfold post6 ins wkv
  simp only [owns_whole_eq]
  iintro ⟨⟨H0, H1, H2, H3, H4⟩, H5⟩
  isplitl [H0]; · iexists (inp m c).x; isplitr; · ipureintro; rfl
                  iexact H0
  isplitl [H1]; · iexists (inp m c).wq; isplitr; · ipureintro; rfl
                  iexact H1
  isplitl [H2]; · iexists (inp m c).wo; isplitr; · ipureintro; rfl
                  iexact H2
  isplitl [H3]; · iexists (inp m c).wk; isplitr; · ipureintro; rfl
                  iexact H3
  isplitl [H4]; · iexists (inp m c).wv; isplitr; · ipureintro; rfl
                  iexact H4
  iexists (outV (inp m) c); isplitr; · ipureintro; rfl
  iexact H5

theorem body_run (c : Dev nD) :
    iprop(Φ₀ m c ∗ (dat m c).owesAt () t0_0.castSucc ∗ pre6 m c)
      ⊢ run c bodyC fun _ => iprop(Φ₁ c ∗ (dat m c).owesAt () t0_0.succ ∗ post6 m c) := by
  unfold Φ₀ Φ₁
  iintro ⟨⟨Hs, Hsc, Hr⟩, HO, H6⟩
  ihave HO := (owes_out m c t0_0.castSucc (owe₀ c) (owed_at0 m c)) $$ HO
  ihave H6 := (pre6_ins m c) $$ H6
  icases H6 with ⟨Hi, Ho⟩
  iapply (wp_body (inp m) c _) $$ [Hs HO Hsc Hi Ho]
  · isplitl [Hs]; · iexact Hs
    isplitl [HO]; · iexact HO
    isplitl [Hsc]; · iexact Hsc
    isplitl [Hi]; · iexact Hi
    iexact Ho
  iintro ⟨Hd, HO, Hsc, Hi, Ho⟩
  isplitl [Hd Hsc Hr]
  · isplitl [Hd]; · iexact Hd
    isplitl [Hsc]; · iexact Hsc
    iexact Hr
  isplitl [HO]
  · iapply (owes_in m c t0_0.succ 0 (owed_last m c)); iexact HO
  iapply (post6_ins m c)
  isplitl [Hi]; · iexact Hi
  iexact Ho

set_option maxRecDepth 1000000 in
theorem body (c : Dev nD) : BodyObligation (dat m c) defs₀ 𝒱₀ () Set.univ := fun t => by
  rw [fin_N0 t, bigSep_W0, bigSep_W0]
  rw [show (defs₀ (F := F) .tc cfg0.body (cfg0.bodyArgs t0_0 (cfg0.slots t0_0))) = bodyC from body_eq t0_0]
  exact body_run m c

/-! ## The region -/

/-- The kernel's own DMA counters. -/
def osem : Fin 60 → SemLoc sig := fun k => .dma (dq (6 + k.val))

theorem osem_facts : Pipeline.OwnSemFacts spec0 osem := by decide +kernel

/-- The buffers after the host operations, and after the call. -/
def W (c : Dev nD) : Valuation τ sig (Elt F) := StableHlo.after hostOps0 (fun b => m (c, b))
def resBuf (c : Dev nD) : Buf (Elt F) ((c : Thread nD τ).loc main_v10) := (dat m c).arrAt 5 cfg0.N
def W' (c : Dev nD) : Valuation τ sig (Elt F) := Function.update (W m c) (Proc.devRef .tc main_v10) (resBuf m c)

def Sr : Finset (DevRef τ sig) := Pipeline.ucRefs τ sig \ Pipeline.arrRefs (τ := τ) spec0

theorem W'_of_ne (c : Dev nD) {b : DevRef τ sig} (h : b ≠ Proc.devRef .tc main_v10) : W' m c b = W m c b := Function.update_of_ne h _ _

theorem v10_arr : (Proc.devRef .tc main_v10 : DevRef τ sig) ∈ Pipeline.arrRefs (τ := τ) spec0 :=
  Finset.mem_map.mpr ⟨main_v10, Finset.mem_image.mpr ⟨(5 : Fin 6), Finset.mem_univ _, rfl⟩, rfl⟩

/-- What the launch deals a device, its cells still closed. -/
def Tk (c : Dev nD) : sProp 𝕄 :=
  iprop(invs (inp m) ∗ pays c ∗ creds c ∗ atPos ER (bcell c) 0 ∅ 0 ∗ bigSep Finset.univ fun k : Fin 60 => openTok ER (dcell c (6 + k.val)))

theorem open_one (c : Dev nD) (k : Fin 60) :
    iprop(invs (inp m) ∗ (openTok ER (dcell c (6 + k.val)) ∗ semVal (dcell c (6 + k.val)) 0))
      ⊢ (|={Set.univ}=> iprop(posn c (6 + k.val) ∗ reached ER (dcell c (6 + k.val)) 0) : sProp 𝕄) := by
  have e := (rec_dev (inp m) c).trans (sep_mono_left (bigSep_elim (i := k.val) (Finset.mem_range.mpr k.isLt)))
  iintro ⟨#HI, Ho, Hs⟩
  ihave H := e $$ HI
  icases H with ⟨⟨%κ, HC⟩, -⟩
  iapply (Rounds.cell_open ER (Rd (inp m)) (Set.mem_univ κ))
  isplitl [HC]; · iexact HC
  isplitl [Ho] <;> iassumption

theorem hopen (c : Dev nD) : iprop(Tk m c ∗ Pipeline.ownSems0 osem c ∗ levAts L lv) ⊢ (|={Set.univ}=> start (inp m) c : sProp 𝕄) := by
  unfold Tk Pipeline.ownSems0
  iintro ⟨⟨#HI, Hp, Hc, Ha, Ho⟩, Hs, #HL⟩
  ihave H := (show iprop(invs (inp m) ∗ bigSep Finset.univ fun k : Fin 60 => iprop(openTok ER (dcell c (6 + k.val)) ∗ semVal (dcell c (6 + k.val)) 0))
      ⊢ (|={Set.univ}=> bigSep Finset.univ fun k : Fin 60 => iprop(posn c (6 + k.val) ∗ reached ER (dcell c (6 + k.val)) 0) : sProp 𝕄) from
    (bigSep_with_persistent fun k _ => open_one m c k).trans (bigSep_fupd _ _)) $$ [Ho Hs]
  · isplitr; · iexact HI
    iapply pair
    isplitl [Ho]; · iexact Ho
    iexact Hs
  imod H with H
  ihave H := unpair $$ H
  icases H with ⟨Hat, #Hr⟩
  imodintro
  unfold start near
  rw [range_fin 60 (fun i => reached ER (dcell c (6 + i)) 0), range_fin 60 (fun i => posn c (6 + i))]
  isplitr
  · isplitr; · iexact HI
    isplitr; · iexact Hr
    iexact HL
  isplitl [Hp]; · iexact Hp
  isplitl [Hc]; · iexact Hc
  isplitl [Ha]; · iexact Ha
  iexact Hat

theorem scr_eq (c : Dev nD) : (Pipeline.scopedRest (Pipeline.pin (pcfgs (F := F)) adm 0).spec c : sProp 𝕄) = scr c := scopedRest0_eq c

theorem hin (c : Dev nD) : iprop(Pipeline.scopedRest (Pipeline.pin (pcfgs (F := F)) adm 0).spec c ∗ (∃ r, prngReg c r)
      ∗ StableHlo.held (c.tc : Thread nD τ) ∅ (W m c) ∗ start (inp m) c) ⊢ ((pdats m 0 c).Φ 0 : sProp 𝕄) := by
  rw [show (pdats m 0 c).Φ 0 = Φ₀ m c from rfl, scr_eq]
  unfold Φ₀ regs
  iintro ⟨Hs, Hr, -, Hst⟩
  isplitl [Hst]; · iexact Hst
  isplitl [Hs] <;> iassumption

theorem hout (c : Dev nD) : ((pdats m 0 c).Φ (Fin.last (Pipeline.pin (pcfgs (F := F)) adm 0).N) : sProp 𝕄)
      ⊢ iprop(Pipeline.scopedRest (Pipeline.pin (pcfgs (F := F)) adm 0).spec c ∗ (∃ r, prngReg c r)
        ∗ StableHlo.held (c.tc : Thread nD τ) ∅ (W' m c) ∗ Pipeline.ownSems0 osem c ∗ semVal (bcell c) 0) := by
  rw [show (pdats m 0 c).Φ (Fin.last _) = Φ₁ c from rfl, scr_eq]
  unfold Φ₁ regs done Pipeline.ownSems0 StableHlo.held
  rw [bigSep_empty, range_fin 60 (fun i => zero c (6 + i))]
  iintro ⟨⟨Hb, Hz⟩, Hs, Hr⟩
  isplitl [Hs]; · iexact Hs
  isplitl [Hr]; · iexact Hr
  isplitr; · iempintro
  isplitl [Hz]; · iexact Hz
  iexact Hb

theorem cut (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then owe₀ c else 0 := rfl
  rw [e] at h
  split at h
  · rcases owe₀_pos h with rfl | rfl | h
    · exact ⟨by rw [L_tc]; exact Finset.mem_singleton_self _, Nat.one_pos⟩
    · exact ⟨by rw [L_tc]; exact Finset.mem_singleton_self _, Nat.one_pos⟩
    · rcases owe_pos h with ⟨j, hj, rfl⟩ | ⟨j, hj, rfl⟩ | ⟨j, hj, rfl⟩ <;>
        exact ⟨by rw [L_tc]; exact Finset.mem_singleton_self _, by rw [lv_dma _ (by omega)]; unfold dmaLv; split_ifs <;> omega⟩
  · exact absurd h (Nat.lt_irrefl 0)

theorem share_eq (c : Dev nD) (w) : (pdats m 0 c).share w = fullShare := by
  unfold Dat.share; split <;> rfl

theorem stage_low (w : Fin 6) (s : Fin (spec0 w).nbuf) : dmaLv ((spec0 w).sem s).val = 0 := by
  fin_cases w <;> fin_cases s <;> decide

theorem hW' (c : Dev nD) (w : Fin 6) : (dat m c).arrAt w cfg0.N = W' m c (Proc.devRef .tc (Pipeline.arrRef spec0 w)) := by
  by_cases h : w = 5
  · subst h
    show resBuf m c = Function.update (W m c) (Proc.devRef .tc main_v10) (resBuf m c) (Proc.devRef .tc main_v10)
    rw [Function.update_self]
  · have h1 : (Proc.devRef .tc (Pipeline.arrRef spec0 w) : DevRef τ sig) ≠ Proc.devRef .tc main_v10 :=
      StableHlo.devRef_ne_of_ne (by fin_cases w <;> first | exact absurd rfl h | decide)
    have h2 : (cfg0.win w).isOut = false := by fin_cases w <;> first | exact absurd rfl h | rfl
    rw [W'_of_ne m c h1]
    exact (dat m c).arrAt_in w h2 _

theorem kitP : Pipeline.PLaunchFacts (nD := nD) (τ := τ) (pcfgs (F := F)) 0 := launch0.toP

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ Sr (Finset.empty_subset _) kitP rfl (fun c => (body m c).loose)
    (fun _ => 0) owe₀ (fun c => (owed_first m c).trans (zero_add _).symm) (owed_last m) (fun _ => rfl) (share_eq m)
    (W m) (W' m) (fun c b hb => W'_of_ne m c fun e => (Finset.mem_sdiff.mp (Finset.mem_sdiff.mp hb).1).2 (e ▸ v10_arr))
    (Tk m) (fun c => semVal (bcell c) 0) (fun c => start (inp m) c) (fun c => semVal (bcell c) 0) (hopen m) (hin m) (hout m)
    (fun c => by iintro H; imodintro; iexact H)
    (fun _ => 0)
    ⟨fun c w s => by rw [L_tc]; exact Finset.mem_singleton_self _, fun c w s => Nat.le_of_eq (stage_low w s), fun c t g i h => cut m c t g i h⟩
    (fun _ => iprop(emp))
    (fun c w => rfl) (fun c w => hW' m c w)

end Cert.Ring16

end
-- ==== Proof.Launch.lean ====
/-
# The launch

Every cell is put under the schedule before any device runs: the barrier cells from their counters, the DMA cells
closed until the call opens them. The tokens and credits are dealt round the ring, and the run of the whole mesh
follows from the host operations and the call in order.
-/
module

public import proofs.«01_k».proof.Proof.Region
public import Idealize.ShloMosaic.Lib.Pipeline.Regions

@[expose] public section

noncomputable section

namespace Cert.Ring16

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What each device owes each cell -/

theorem dcell_iff {a c : Dev nD} {n n' : ℕ} (h : n < 66) (h' : n' < 66) : dcell a n = dcell c n' ↔ a = c ∧ n = n' := by
  constructor
  · intro e
    refine ⟨congrArg (fun g : GSem nD τ sig => g.1.1) e, ?_⟩
    have e2 : (SemLoc.dma (dq n) : SemLoc sig) = .dma (dq n') := congrArg Prod.snd e
    have e3 := congrArg Fin.val (SemLoc.dma.inj e2)
    rwa [dq_val h, dq_val h'] at e3
  · rintro ⟨rfl, rfl⟩; rfl

theorem dcell_ne_bcell (a c : Dev nD) (n : ℕ) : dcell a n ≠ bcell c := fun h => by cases h

theorem sum_at (a c : Dev nD) (b k n : ℕ) (hb : b + k ≤ 66) (hn : n < 66) :
    (∑ i ∈ Finset.Ico 0 k, tallyAt (dcell a (b + i)) () N : CellTallies nD τ sig Unit) (dcell c n) () = if a = c ∧ b ≤ n ∧ n < b + k then N else 0 := by
  rw [Finset.sum_apply, Finsupp.finset_sum_apply]
  split_ifs with h
  · obtain ⟨rfl, h1, h2⟩ := h
    rw [Finset.sum_eq_single (n - b)]
    · rw [tallyAt_apply, if_pos ⟨by rw [Nat.add_sub_cancel' h1], rfl⟩]
    · intro i hi hne
      rw [tallyAt_apply, if_neg]
      rintro ⟨e, -⟩
      have := ((dcell_iff (by omega) (by have := Finset.mem_Ico.mp hi; omega)).mp e).2
      omega
    · intro hni
      exact absurd (Finset.mem_Ico.mpr ⟨Nat.zero_le _, by omega⟩) hni
  · refine Finset.sum_eq_zero fun i hi => ?_
    rw [tallyAt_apply, if_neg]
    rintro ⟨e, -⟩
    have hi' := Finset.mem_Ico.mp hi
    obtain ⟨e1, e2⟩ := (dcell_iff (by omega) (by omega)).mp e
    exact h ⟨e1.symm, by omega, by omega⟩

theorem sum_at_bar (a c : Dev nD) (b k : ℕ) :
    (∑ i ∈ Finset.Ico 0 k, tallyAt (dcell a (b + i)) () N : CellTallies nD τ sig Unit) (bcell c) () = 0 := by
  rw [Finset.sum_apply, Finsupp.finset_sum_apply]
  refine Finset.sum_eq_zero fun i _ => ?_
  rw [tallyAt_apply, if_neg]
  rintro ⟨e, -⟩
  exact dcell_ne_bcell _ _ _ e.symm

theorem nxt_eq_iff (d c : Dev nD) : nxt d = c ↔ d = prv c := ⟨fun h => by rw [← h, prv_nxt], fun h => by rw [h, nxt_prv]⟩
theorem prv_eq_iff (d c : Dev nD) : prv d = c ↔ d = nxt c := ⟨fun h => by rw [← h, nxt_prv], fun h => by rw [h, prv_nxt]⟩

theorem bcell_iff {a c : Dev nD} : bcell a = bcell c ↔ a = c := ⟨fun e => congrArg (fun g : GSem nD τ sig => g.1.1) e, fun e => e ▸ rfl⟩

theorem owed_dma (d c : Dev nD) (n : ℕ) (hn : n < 66) : owe₀ d (dcell c n) ()
    = (if nxt d = c ∧ 14 ≤ n ∧ n < 22 then N else 0) + (if prv d = c ∧ 29 ≤ n ∧ n < 36 then N else 0) + (if nxt d = c ∧ 51 ≤ n ∧ n < 66 then N else 0) := by
  unfold owe₀ owe₁ owe
  simp only [Pi.add_apply, Finsupp.add_apply]
  rw [sum_at _ _ _ _ _ (by omega) hn, sum_at _ _ _ _ _ (by omega) hn, sum_at _ _ _ _ _ (by omega) hn, tallyAt_apply, tallyAt_apply,
    if_neg (fun h : dcell c n = bcell (nxt d) ∧ () = () => dcell_ne_bcell _ _ _ h.1),
    if_neg (fun h : dcell c n = bcell (prv d) ∧ () = () => dcell_ne_bcell _ _ _ h.1)]
  rfl

theorem owed_bar (d c : Dev nD) : owe₀ d (bcell c) () = (if d = prv c then 1 else 0) + (if d = nxt c then 1 else 0) := by
  unfold owe₀ owe₁ owe
  simp only [Pi.add_apply, Finsupp.add_apply]
  rw [sum_at_bar, sum_at_bar, sum_at_bar, tallyAt_apply, tallyAt_apply]
  simp only [Nat.zero_add, and_true, bcell_iff]
  congr 1
  · exact if_congr ((eq_comm).trans (nxt_eq_iff d c)) rfl rfl
  · exact if_congr ((eq_comm).trans (prv_eq_iff d c)) rfl rfl

theorem launch_bar (c : Dev nD) :
    tallyOn (bcell c) (launchCredit (Pipeline.owing owe₀) 0 (bcell c)) = (tallyAt (bcell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_dma (c : Dev nD) (n : ℕ) (h : 14 ≤ n ∧ n < 22 ∨ 29 ≤ n ∧ n < 36 ∨ 51 ≤ n ∧ n < 66) :
    tallyOn (dcell c n) (launchCredit (Pipeline.owing owe₀) 0 (dcell c n)) = (tallyAt (dcell c n) () N : CellTallies nD τ sig Unit) := by
  unfold tallyAt; refine congrArg _ (Finsupp.ext fun u => ?_); cases u
  rw [Pipeline.launchCredit_owing, Finsupp.single_eq_same, Finset.sum_congr rfl fun d _ => owed_dma d c n (by omega)]
  rcases h with h | h | h
  · rw [Finset.sum_congr rfl fun d _ => (show _ = if d = prv c then N else 0 by
      rw [if_neg (by omega : ¬ (prv d = c ∧ 29 ≤ n ∧ n < 36)), if_neg (by omega : ¬ (nxt d = c ∧ 51 ≤ n ∧ n < 66))]
      simp only [Nat.add_zero, Nat.zero_add]
      exact if_congr (by rw [nxt_eq_iff]; exact and_iff_left h) rfl rfl), Finset.sum_ite_eq' Finset.univ (prv c) fun _ => N, if_pos (Finset.mem_univ _)]
  · rw [Finset.sum_congr rfl fun d _ => (show _ = if d = nxt c then N else 0 by
      rw [if_neg (by omega : ¬ (nxt d = c ∧ 14 ≤ n ∧ n < 22)), if_neg (by omega : ¬ (nxt d = c ∧ 51 ≤ n ∧ n < 66))]
      simp only [Nat.add_zero, Nat.zero_add]
      exact if_congr (by rw [prv_eq_iff]; exact and_iff_left h) rfl rfl), Finset.sum_ite_eq' Finset.univ (nxt c) fun _ => N, if_pos (Finset.mem_univ _)]
  · rw [Finset.sum_congr rfl fun d _ => (show _ = if d = prv c then N else 0 by
      rw [if_neg (by omega : ¬ (nxt d = c ∧ 14 ≤ n ∧ n < 22)), if_neg (by omega : ¬ (prv d = c ∧ 29 ≤ n ∧ n < 36))]
      simp only [Nat.add_zero, Nat.zero_add]
      exact if_congr (by rw [nxt_eq_iff]; exact and_iff_left h) rfl rfl), Finset.sum_ite_eq' Finset.univ (prv c) fun _ => N, if_pos (Finset.mem_univ _)]

theorem osem_inj : Function.Injective osem := osem_facts.inj
theorem osem_ne_bar (k : Fin 60) : osem k ≠ .reg barS := fun h => by cases h

theorem creds_intro (c : Dev nD) : (Pipeline.launchCred owe₀ c : sProp 𝕄) ⊢ creds c := by
  have e : (Pipeline.launchCred owe₀ c : sProp 𝕄) ⊢ iprop(cred (tallyOn (bcell c) (launchCredit (Pipeline.owing owe₀) 0 (bcell c)))
      ∗ bigSep (Finset.range 60) fun i => cred (tallyOn (dcell c (6 + i)) (launchCredit (Pipeline.owing owe₀) 0 (dcell c (6 + i))))) := by
    unfold Pipeline.launchCred
    rw [bigSep_univ_at _ (SemLoc.reg barS), range_fin 60 fun i => (cred (tallyOn (dcell c (6 + i)) (launchCredit (Pipeline.owing owe₀) 0 (dcell c (6 + i)))) : sProp 𝕄)]
    refine sep_mono_right ((BI.bigSep_subset (t := Finset.univ.map ⟨osem, osem_inj⟩) fun s hs => ?_).trans (Entails.of_eq (bigSep_map _)))
    obtain ⟨k, -, rfl⟩ := Finset.mem_map.mp hs
    exact Finset.mem_erase.mpr ⟨osem_ne_bar k, Finset.mem_univ _⟩
  refine e.trans ?_
  rw [range_sixty fun n => (cred (tallyOn (dcell c n) (launchCredit (Pipeline.owing owe₀) 0 (dcell c n))) : sProp 𝕄), launch_bar,
    bigSep_congr (s := Finset.range 8) (Φ := fun h => cred (tallyOn (dcell c (14 + h)) (launchCredit (Pipeline.owing owe₀) 0 (dcell c (14 + h)))))
      (Ψ := fun h => crd c (14 + h)) fun h hh => by rw [launch_dma c _ (.inl ⟨by omega, by have := Finset.mem_range.mp hh; omega⟩)],
    bigSep_congr (s := Finset.range 7) (Φ := fun h => cred (tallyOn (dcell c (29 + h)) (launchCredit (Pipeline.owing owe₀) 0 (dcell c (29 + h)))))
      (Ψ := fun h => crd c (29 + h)) fun h hh => by rw [launch_dma c _ (.inr (.inl ⟨by omega, by have := Finset.mem_range.mp hh; omega⟩))],
    bigSep_congr (s := Finset.range 15) (Φ := fun h => cred (tallyOn (dcell c (51 + h)) (launchCredit (Pipeline.owing owe₀) 0 (dcell c (51 + h)))))
      (Ψ := fun h => crd c (51 + h)) fun h hh => by rw [launch_dma c _ (.inr (.inr ⟨by omega, by have := Finset.mem_range.mp hh; omega⟩))]]
  unfold creds
  iintro ⟨Hb, -, H14, -, H29, -, H51⟩
  isplitl [Hb]; · iexact Hb
  isplitl [H14]; · iexact H14
  isplitl [H29] <;> iassumption

/-! ## The cells and the tokens -/

def barEmb : Dev nD ↪ GSem nD τ sig := ⟨fun c => bcell c, fun _ _ h => congrArg (fun g : GSem nD τ sig => g.1.1) h⟩
def dmaEmb : Dev nD × Fin 60 ↪ GSem nD τ sig :=
  ⟨fun ck => dcell ck.1 (6 + ck.2.val), fun _ _ h =>
    Prod.ext (congrArg (fun g : GSem nD τ sig => g.1.1) h) (osem_inj (congrArg Prod.snd h))⟩
abbrev barCells : Finset (GSem nD τ sig) := Finset.univ.map barEmb
abbrev dmaCells : Finset (GSem nD τ sig) := Finset.univ.map dmaEmb

def barTokEmb : Dev nD × Bool ↪ GSem nD τ sig × ℕ × Bool :=
  ⟨fun cb => (bcell cb.1, 0, cb.2), fun _ _ h => Prod.ext (congrArg (fun t : GSem nD τ sig × ℕ × Bool => t.1.1.1) h) (congrArg (fun t : GSem nD τ sig × ℕ × Bool => t.2.2) h)⟩
def dmaTokEmb : Dev nD × Fin 60 ↪ GSem nD τ sig × ℕ × Bool :=
  ⟨fun ck => (dcell ck.1 (6 + ck.2.val), 0, false), fun _ _ h => dmaEmb.injective (congrArg Prod.fst h)⟩
def barToks : Finset (GSem nD τ sig × ℕ × Bool) := Finset.univ.map barTokEmb
def dmaToks : Finset (GSem nD τ sig × ℕ × Bool) := Finset.univ.map dmaTokEmb
abbrev allToks : Finset (GSem nD τ sig × ℕ × Bool) := barToks ∪ dmaToks

theorem disjoint_cells : Disjoint (barCells : Finset (GSem nD τ sig)) dmaCells := by
  rw [Finset.disjoint_left]
  rintro g h₁ h₂
  obtain ⟨c, -, rfl⟩ := Finset.mem_map.mp h₁
  obtain ⟨ck, -, h⟩ := Finset.mem_map.mp h₂
  exact dcell_ne_bcell _ _ _ h
theorem disjoint_toks : Disjoint barToks dmaToks := by
  rw [Finset.disjoint_left]
  rintro g h₁ h₂
  obtain ⟨c, -, rfl⟩ := Finset.mem_map.mp h₁
  obtain ⟨ck, -, h⟩ := Finset.mem_map.mp h₂
  exact dcell_ne_bcell _ _ _ (congrArg Prod.fst h)

/-- The tokens of one device's cells. -/
def toks (c : Dev nD) : sProp 𝕄 :=
  iprop((dutyTok ER (bcell c) 0 true ∗ dutyTok ER (bcell c) 0 false) ∗ bigSep (Finset.range 60) fun i => tok c (6 + i))

theorem two_sets {ι : Type} [DecidableEq ι] {s t : Finset ι} (h : Disjoint s t) {Φ : ι → sProp 𝕄} :
    bigSep (s ∪ t) Φ = iprop(bigSep s Φ ∗ bigSep t Φ) := bigSep_union h

theorem toks_eq : bigSep allToks (fun x => (dutyTok ER x.1 x.2.1 x.2.2 : sProp 𝕄)) = bigSep Finset.univ fun c : Dev nD => toks c := by
  rw [two_sets disjoint_toks]
  unfold barToks dmaToks toks
  rw [bigSep_map, bigSep_map, bigSep_univ_prod, bigSep_univ_prod, ← bigSep_sep']
  refine bigSep_congr fun c _ => ?_
  rw [range_fin 60 fun i => (tok c (6 + i) : sProp 𝕄), bigSep_eq_bigSepL_of_eq [true, false] (by decide) (by decide)]
  rfl

def ring : Dev nD ≃ Dev nD := ⟨nxt, prv, prv_nxt, nxt_prv⟩
theorem to_nxt (Φ : Dev nD → sProp 𝕄) : bigSep Finset.univ Φ ⊢ bigSep Finset.univ fun c => Φ (nxt c) := Entails.of_eq (bigSep_univ_equiv ring Φ)
theorem to_prv (Φ : Dev nD → sProp 𝕄) : bigSep Finset.univ Φ ⊢ bigSep Finset.univ fun c => Φ (prv c) := Entails.of_eq (bigSep_univ_equiv ring.symm Φ)

theorem pays_intro (c : Dev nD) :
    iprop(dutyTok ER (bcell (prv c)) 0 true ∗ dutyTok ER (bcell (nxt c)) 0 false
      ∗ (bigSep (Finset.range 8) fun h => tok c (6 + h)) ∗ (bigSep (Finset.range 8) fun h => tok (nxt c) (14 + h))
      ∗ (bigSep (Finset.range 7) fun h => tok c (22 + h)) ∗ (bigSep (Finset.range 7) fun h => tok (prv c) (29 + h))
      ∗ (bigSep (Finset.range 15) fun h => tok c (36 + h)) ∗ (bigSep (Finset.range 15) fun h => tok (nxt c) (51 + h))) ⊢ (pays c : sProp 𝕄) := by
  unfold pays paysR paysL paysS
  rw [bigSep_sep', bigSep_sep', bigSep_sep']
  iintro ⟨HT, HF, H6, H14, H22, H29, H36, H51⟩
  isplitl [HT HF]; · isplitl [HT] <;> iassumption
  isplitl [H6 H14]; · isplitl [H6] <;> iassumption
  isplitl [H22 H29]; · isplitl [H22] <;> iassumption
  isplitl [H36] <;> iassumption

theorem toks_open (c : Dev nD) : (toks c : sProp 𝕄) ⊢
    iprop(dutyTok ER (bcell c) 0 true ∗ dutyTok ER (bcell c) 0 false
      ∗ (bigSep (Finset.range 8) fun h => tok c (6 + h)) ∗ (bigSep (Finset.range 8) fun h => tok c (14 + h))
      ∗ (bigSep (Finset.range 7) fun h => tok c (22 + h)) ∗ (bigSep (Finset.range 7) fun h => tok c (29 + h))
      ∗ (bigSep (Finset.range 15) fun h => tok c (36 + h)) ∗ (bigSep (Finset.range 15) fun h => tok c (51 + h))) := by
  unfold toks
  rw [range_sixty fun n => (tok c n : sProp 𝕄)]
  iintro ⟨⟨HT, HF⟩, H⟩
  isplitl [HT]; · iexact HT
  isplitl [HF]; · iexact HF
  iexact H

/-- Every token reaches the device that pays with it. -/
theorem toks_around : (bigSep Finset.univ fun c : Dev nD => (toks c : sProp 𝕄)) ⊢ bigSep Finset.univ fun c : Dev nD => pays c := by
  refine (bigSep_mono fun c _ => toks_open c).trans (BI.Entails.trans ?_ (bigSep_mono fun c _ => pays_intro c))
  refine unpair.trans (.trans (BIClass.sep_mono (to_prv fun c => dutyTok ER (bcell c) 0 true) ?_) pair)
  refine unpair.trans (.trans (BIClass.sep_mono (to_nxt fun c => dutyTok ER (bcell c) 0 false) ?_) pair)
  refine unpair.trans (.trans (BIClass.sep_mono .rfl ?_) pair)
  refine unpair.trans (.trans (BIClass.sep_mono (to_nxt fun c => bigSep (Finset.range 8) fun h => tok c (14 + h)) ?_) pair)
  refine unpair.trans (.trans (BIClass.sep_mono .rfl ?_) pair)
  refine unpair.trans (.trans (BIClass.sep_mono (to_prv fun c => bigSep (Finset.range 7) fun h => tok c (29 + h)) ?_) pair)
  refine unpair.trans (.trans (BIClass.sep_mono .rfl ?_) pair)
  exact to_nxt fun c => bigSep (Finset.range 15) fun h => tok c (51 + h)

/-! ## The launch element -/

def u₀ : UU :=
  (initOf (Pipeline.cells (Pipeline.pin (pcfgs (F := F)) adm) cellOf_inj) (Pipeline.launchToks (Pipeline.pin (pcfgs (F := F)) adm) cellOf_inj),
    launchOf barCells dmaCells allToks)

/-- A resource held by device 0 and no other. -/
def onZero (X : sProp 𝕄) (c : Dev nD) : sProp 𝕄 := if c = 0 then X else iprop(emp)
theorem bigSep_onZero (X : sProp 𝕄) : bigSep Finset.univ (onZero X) = X := by
  rw [bigSep_univ_at _ (0 : Dev nD), bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

def G : Dev nD → sProp 𝕄 := onZero (BI.own (ER (launchOf barCells dmaCells allToks)))

theorem some_dma (κ : GSem nD τ sig → ℕ) :
    (bigSep Finset.univ fun c : Dev nD => bigSep Finset.univ fun k : Fin 60 => cellInv ER (Rd (inp m)) (κ (dcell c (6 + k.val))) (dcell c (6 + k.val)) : sProp 𝕄)
      ⊢ bigSep Finset.univ fun c : Dev nD => bigSep (Finset.range 60) fun i => iprop(∃ κ, cellInv ER (Rd (inp m)) κ (dcell c (6 + i))) := by
  refine bigSep_mono fun c _ => ?_
  rw [range_fin 60 fun i => iprop(∃ κ, cellInv ER (Rd (inp m)) κ (dcell c (6 + i)))]
  refine bigSep_mono fun k _ => ?_
  show (cellInv ER (Rd (inp m)) (κ (dcell c (6 + k.val))) (dcell c (6 + k.val)) : sProp 𝕄) ⊢ iprop(∃ κ, cellInv ER (Rd (inp m)) κ (dcell c (6 + k.val)))
  iintro H; iexists _; iexact H
theorem some_bar (κ : GSem nD τ sig → ℕ) : (bigSep Finset.univ fun c : Dev nD => cellInv ER (Rd (inp m)) (κ (bcell c)) (bcell c) : sProp 𝕄)
    ⊢ bigSep Finset.univ fun c : Dev nD => iprop(∃ κ, cellInv ER (Rd (inp m)) κ (bcell c)) := by
  refine bigSep_mono fun c _ => ?_
  show (cellInv ER (Rd (inp m)) (κ (bcell c)) (bcell c) : sProp 𝕄) ⊢ iprop(∃ κ, cellInv ER (Rd (inp m)) κ (bcell c))
  iintro H; iexists _; iexact H

theorem invs_intro (κ : GSem nD τ sig → ℕ) :
    iprop((bigSep (barCells ∪ dmaCells) fun g => cellInv ER (Rd (inp m)) (κ g) g) ∗ bigSep barCells fun g => reached ER g 0) ⊢ (invs (inp m) : sProp 𝕄) := by
  rw [two_sets disjoint_cells, bigSep_map, bigSep_map, bigSep_map, bigSep_univ_prod]
  unfold invs cellRec
  refine (show iprop(((bigSep Finset.univ fun c : Dev nD => cellInv ER (Rd (inp m)) (κ (bcell c)) (bcell c))
      ∗ bigSep Finset.univ fun c : Dev nD => bigSep Finset.univ fun k : Fin 60 => cellInv ER (Rd (inp m)) (κ (dcell c (6 + k.val))) (dcell c (6 + k.val)))
      ∗ bigSep Finset.univ fun c : Dev nD => reached ER (bcell c) 0) ⊢ _ from ?_)
  iintro ⟨⟨HB, HD⟩, HR⟩
  ihave HD := (some_dma m κ) $$ HD
  ihave HB := (some_bar m κ) $$ HB
  iapply pair
  isplitl [HD]; · iexact HD
  iapply pair
  isplitl [HB]; · iexact HB
  iexact HR

/-! ## The host program -/

def Rr (c : Dev nD) : sProp 𝕄 := iprop(Tk m c ∗ regs c ∗ own c (owe₀ c))

theorem ops_sub : ∀ op ∈ (hostOps0 : List (HloOp τ sig (Elt F))), op.bufs ⊆ Pipeline.ucRefs τ sig :=
  fun op h => Pipeline.sub_ucRefs op ((List.forall_iff_forall_mem.mp hostOps0_sub) op h)
theorem ops_fresh : ∀ op ∈ (hostOps0 : List (HloOp τ sig (Elt F))), op.fresh = ∅ := fun op h => (List.forall_iff_forall_mem.mp hostOps0_fresh) op h

def V₀ (c : Dev nD) : Valuation τ sig (Elt F) := fun b => m (c, b)

def seg0 : Pipeline.HostSeg (Name := ℕ) (U := UU) (pcfgs (F := F)) defs₀ 𝒱₀ L lv :=
  Pipeline.HostSeg.ofOps _ _ _ _ _ (Pipeline.ucRefs τ sig) hostOps0 ops_sub ops_fresh (V₀ m) (Rr m)

def segs : List (Pipeline.Seg (pcfgs (F := F)) adm (pdats m) () defs₀ 𝒱₀ L lv) := [.host (seg0 m), .region (reg0 m)]

theorem arr_sub : Pipeline.arrRefs (τ := τ) spec0 ⊆ Pipeline.ucRefs τ sig := Pipeline.arrRefs_sub_ucRefs _ (by decide)

theorem region_pre (c : Dev nD) : iprop(StableHlo.held (c : Thread nD τ) (Pipeline.ucRefs τ sig) (W m c) ∗ Rr m c) ⊢ ((reg0 m).pre c : sProp 𝕄) := by
  show _ ⊢ iprop(StableHlo.held (c.tc : Thread nD τ) (Pipeline.arrRefs (τ := τ) spec0) (W m c) ∗ (∃ r, prngReg c r)
    ∗ (StableHlo.held (c.tc : Thread nD τ) Sr (W m c) ∗ emp) ∗ Tk m c ∗ ∃ Wd, owes (c : Thread nD τ) (0 + owe₀ c) Wd)
  rw [StableHlo.held_sub_split (c.tc : Thread nD τ) arr_sub (W m c), zero_add]
  unfold Rr regs own Sr
  iintro ⟨⟨Ha, Hs⟩, HT, Hr, HO⟩
  isplitl [Ha]; · iexact Ha
  isplitl [Hr]; · iexact Hr
  isplitl [Hs]
  · isplitl [Hs]; · iexact Hs
    iempintro
  isplitl [HT]; · iexact HT
  iexact HO

theorem region_post (c : Dev nD) : ((reg0 m).post c : sProp 𝕄)
    ⊢ iprop((StableHlo.held (c : Thread nD τ) (Pipeline.ucRefs τ sig) (W' m c) ∗ semVal (bcell c) 0) ∗ ∃ W, owes (c : Thread nD τ) (0 : CellTallies nD τ sig Unit) W) := by
  show iprop(StableHlo.held (c.tc : Thread nD τ) (Pipeline.arrRefs (τ := τ) spec0) (W' m c) ∗ (∃ r, prngReg c r)
    ∗ (StableHlo.held (c.tc : Thread nD τ) Sr (W' m c) ∗ emp) ∗ semVal (bcell c) 0 ∗ ∃ Wd, owes (c : Thread nD τ) (0 : CellTallies nD τ sig Unit) Wd) ⊢ _
  rw [StableHlo.held_sub_split (c.tc : Thread nD τ) arr_sub (W' m c)]
  unfold Sr
  iintro ⟨Ha, -, ⟨Hs, -⟩, Hb, HO⟩
  isplitr [HO]
  · isplitl [Ha Hs]; · isplitl [Ha] <;> iassumption
    iexact Hb
  iexact HO

theorem unscopedSems0_eq (c : Dev nD) : (unscopedSems0 c : sProp 𝕄) = semVal (bcell c) 0 := by
  unfold unscopedSems0
  rw [show (Finset.univ.filter fun sm : SemLoc sig => ¬ sm.isScoped .tc) = {SemLoc.reg barS} from by decide, BI.bigSep_singleton]

abbrev T₀ (c : Dev nD) : sProp 𝕄 := iprop(StableHlo.held (c : Thread nD τ) (Pipeline.ucRefs τ sig) (V₀ m c) ∗ Rr m c)
abbrev Tₙ (c : Dev nD) : sProp 𝕄 := iprop(StableHlo.held (c : Thread nD τ) (Pipeline.ucRefs τ sig) (W' m c) ∗ semVal (bcell c) 0)

/-- What a device has at launch beside the shared facts. -/
def bundle (c : Dev nD) : sProp 𝕄 :=
  iprop(StableHlo.held (c : Thread nD τ) (Pipeline.ucRefs τ sig) (V₀ m c) ∗ creds c ∗ own c (owe₀ c) ∗ regs c)
def linear (c : Dev nD) : sProp 𝕄 :=
  iprop(atPos ER (bcell c) 0 ∅ 0 ∗ (bigSep Finset.univ fun k : Fin 60 => openTok ER (dcell c (6 + k.val))) ∗ pays c)

theorem T₀_intro (c : Dev nD) : iprop(invs (inp m) ∗ (linear c ∗ bundle m c)) ⊢ (T₀ m c : sProp 𝕄) := by
  unfold bundle T₀ Rr linear Tk
  iintro ⟨#HI, ⟨Ha, Ho, Hp⟩, Hh, Hc, HO, Hr⟩
  isplitl [Hh]; · iexact Hh
  isplitl [Ha Ho Hp Hc]
  · isplitr; · iexact HI
    isplitl [Hp]; · iexact Hp
    isplitl [Hc]; · iexact Hc
    isplitl [Ha]; · iexact Ha
    iexact Ho
  isplitl [Hr]; · iexact Hr
  iexact HO

theorem core_split (c : Dev nD) : iprop(unscopedBufs c (fun b => m ((c : Thread nD τ).loc b)) ∗ unscopedSems0 c
      ∗ owes (c : Thread nD τ) (owe₀ c) ∅ ∗ Pipeline.launchCred owe₀ c ∗ prngReg c (ρ c) ∗ G c)
    ⊢ (iprop(bundle m c ∗ (semVal (bcell c) 0 ∗ G c)) : sProp 𝕄) := by
  rw [show unscopedBufs c (fun b => m ((c : Thread nD τ).loc b)) = (StableHlo.held (c : Thread nD τ) (Pipeline.ucRefs τ sig) (V₀ m c) : sProp 𝕄) from
    Pipeline.unscopedBufs_held c (V₀ m c), unscopedSems0_eq]
  unfold bundle own regs
  iintro ⟨Hh, Hus, HO, Hcr, Hp, HG⟩
  ihave Hc := (creds_intro (F := F) c) $$ Hcr
  isplitl [Hh Hc HO Hp]
  · isplitl [Hh]; · iexact Hh
    isplitl [Hc]; · iexact Hc
    isplitl [HO]; · iexists ∅; iexact HO
    iexists (ρ c); iexact Hp
  isplitl [Hus] <;> iassumption

theorem init :
    iprop((bigSep Finset.univ fun c : Dev nD => iprop(unscopedBufs c (fun b => m ((c : Thread nD τ).loc b)) ∗ unscopedSems0 c
          ∗ owes (c : Thread nD τ) (owe₀ c) ∅ ∗ Pipeline.launchCred owe₀ c ∗ prngReg c (ρ c) ∗ G c)) ∗ levAts L lv)
      ⊢ (|={Set.univ}=> bigSep Finset.univ (T₀ m) : sProp 𝕄) := by
  have hv : bigSep Finset.univ (fun c : Dev nD => (semVal (bcell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bcell c) 0 ∅ 0 : sProp 𝕄)) :=
    Entails.of_eq (bigSep_map (s := Finset.univ) barEmb (Φ := fun g : GSem nD τ sig => (atPos ER g 0 ∅ 0 : sProp 𝕄)))
  have hop : bigSep dmaCells (fun g => (openTok ER g : sProp 𝕄))
      ⊢ bigSep Finset.univ (fun c : Dev nD => bigSep Finset.univ fun k : Fin 60 => openTok ER (dcell c (6 + k.val))) :=
    Entails.of_eq (by rw [bigSep_map, bigSep_univ_prod]; rfl)
  iintro ⟨H, -⟩
  ihave H := (show (bigSep Finset.univ fun c : Dev nD => iprop(unscopedBufs c (fun b => m ((c : Thread nD τ).loc b)) ∗ unscopedSems0 c
          ∗ owes (c : Thread nD τ) (owe₀ c) ∅ ∗ Pipeline.launchCred owe₀ c ∗ prngReg c (ρ c) ∗ G c))
      ⊢ (bigSep Finset.univ fun c : Dev nD => iprop(bundle m c ∗ (semVal (bcell c) 0 ∗ G c)) : sProp 𝕄) from bigSep_mono fun c _ => core_split m ρ c) $$ H
  ihave H := unpair $$ H; icases H with ⟨HB, H⟩
  ihave H := unpair $$ H; icases H with ⟨Hv, HG⟩
  ihave Hu := (show bigSep Finset.univ (G (F := F)) ⊢ BI.own (ER (launchOf barCells dmaCells allToks)) from
    Entails.of_eq (bigSep_onZero (F := F) (BI.own (ER (launchOf barCells dmaCells allToks))))) $$ HG
  imod (Rounds.fund_launch ER (Rd (inp m)) disjoint_cells (fun g _ h => h) allToks) $$ [Hv Hu] with ⟨%κ, -, HI, HR, Hat, Hopen, Htok⟩
  · isplitl [Hv]
    · iapply hv $$ Hv
    · iexact Hu
  ihave #HI := (invs_intro m κ) $$ [HI HR]
  · isplitl [HI] <;> iassumption
  imodintro
  iapply (bigSep_with_persistent (R := invs (inp m)) (Φ := fun c => iprop(linear c ∗ bundle m c)) fun c _ => T₀_intro m c)
  isplitr; · iexact HI
  iapply pair
  isplitr [HB]
  · unfold linear
    iapply pair; isplitl [Hat]; · iapply hat $$ Hat
    iapply pair; isplitl [Hopen]; · iapply hop $$ Hopen
    iapply (toks_around (F := F))
    iapply (Entails.of_eq (toks_eq (F := F))) $$ Htok
  · iexact HB

theorem unscoped_eq : ∀ sm : SemLoc sig, sm.isScoped .tc = false → sm = .reg barS := by decide

theorem mem_uc (b : Ref sig .tc) (h : b.isScoped = false) : (Proc.devRef .tc b : DevRef τ sig) ∈ Pipeline.ucRefs τ sig :=
  Finset.mem_filter.mpr ⟨StableHlo.devRef_mem_tcRefs _, fun h' => Bool.false_ne_true (h.symm.trans h')⟩

theorem read_set (c : Dev nD) (s' : Phys nD τ sig (Elt F)) (S : Finset (DevRef τ sig)) :
    iprop(StableHlo.held (c : Thread nD τ) S (W' m c) ∗ SI s') ⊢ (⌜∀ b ∈ S, s'.mem.mem (c, b) = W' m c b⌝ : sProp 𝕄) := by
  unfold StableHlo.held
  induction S using Finset.induction_on with
  | empty => iintro -; ipureintro; exact fun b hb => absurd hb (Finset.notMem_empty b)
  | insert b S hb ih =>
    rw [bigSep_insert hb]
    refine (show iprop(((((c, b) : Loc nD τ sig) ↦{fullShare} W' m c b) ∗ bigSep S fun b => (((c, b) : Loc nD τ sig) ↦{fullShare} W' m c b)) ∗ SI s') ⊢ _ from ?_)
    iintro ⟨⟨Hb, HS⟩, HSI⟩
    icombine HSI Hb gives %hx
    ihave %hS := ih $$ [HS HSI]
    · isplitl [HS] <;> iassumption
    ipureintro
    intro b' hb'
    rcases Finset.mem_insert.mp hb' with rfl | h'
    exacts [Buf.eq_of_forall_mem_univ hx, hS _ h']

/-- What a final memory reads on device `c`. -/
def Final (c : Dev nD) (s : MemSt nD τ sig (Elt F)) : Prop :=
  (∀ b : Ref sig .tc, b.isScoped = false → s.mem ((c : Thread nD τ).loc b) = W' m c (Proc.devRef .tc b)) ∧ s.sem (bcell c) = 0

theorem read_final (c : Dev nD) (s' : Phys nD τ sig (Elt F)) : iprop(Tₙ m c ∗ SI s') ⊢ (|={Set.univ}=> iprop(⌜Final m c s'.mem⌝ ∗ SI s') : sProp 𝕄) := by
  iintro ⟨⟨Hh, Hb⟩, HSI⟩
  icombine HSI Hb gives %hb
  ihave %h := (read_set m c s' _) $$ [Hh HSI]
  · isplitl [Hh] <;> iassumption
  imodintro
  isplitr
  · ipureintro
    exact ⟨fun b hb => h _ (mem_uc b hb), by simpa using hb⟩
  iexact HSI

set_option backward.isDefEq.respectTransparency.types false in
/-- From any memory with zero counters every weakly fair execution of the program on the sixteen devices terminates,
    with the unscoped buffers at `W'` and every counter at zero. -/
theorem run_all : θ_run defs (onTc (τ := τ) (main (F := F))) ⟨m, fun _ => 0, ρ⟩
    (fun r => (∀ c : Dev nD, ∀ b : Ref sig .tc, b.isScoped = false → r.2.mem ((c : Thread nD τ).loc b) = W' m c (Proc.devRef .tc b)) ∧ r.2.sem = fun _ => 0) :=
  Pipeline.θ_run_regions_kit_sems (pcfgs (F := F)) adm (pdats m) () cellOf_inj EP defs₀ 𝒱₀ L lv m ρ main (segs m)
    (fun c Q => by rw [Gen.main_segs adm (pdats m) () 𝒱₀ L lv (seg0 m) (reg0 m) rfl c]; exact .rfl)
    (by simp only [segs, Pipeline.Seg.pipes_host, Pipeline.Seg.pipes_region, Pipeline.Seg.pipes_nil]; decide)
    (O₀ := owe₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onZero]; iexact HX)
    (T₀ := T₀ m) (Tₙ := Tₙ m)
    (hch := ⟨fun c => .rfl, fun c => region_pre m c, fun c => region_post m c⟩)
    (hinit := init m ρ)
    (QY := Final m) (hfin := read_final m)
    (hQ := fun s h hs => ⟨fun c => (h c).1, sem_eq_zero hs fun c sm hsm => by
        obtain rfl := unscoped_eq sm hsm
        exact (h c).2⟩)

end Cert.Ring16

end
-- ==== Proof.Frames.lean ====
/-
# The frames

The run of the mesh, read at the arguments: they end as they began, and every counter ends at zero. The two kernel
programs have the same text, so one run serves both.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Ring16

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- An argument's buffer is written by nothing. -/
theorem W'_arg0 (c : Dev nD) : W' m c (Proc.devRef .tc main_arg0) = m ((c : Thread nD τ).loc main_arg0) :=
  (W'_of_ne m c (by decide)).trans (V_main_arg0 m c)
theorem W'_arg1 (c : Dev nD) : W' m c (Proc.devRef .tc main_arg1) = m ((c : Thread nD τ).loc main_arg1) :=
  (W'_of_ne m c (by decide)).trans (V_main_arg1 m c)
theorem W'_arg2 (c : Dev nD) : W' m c (Proc.devRef .tc main_arg2) = m ((c : Thread nD τ).loc main_arg2) :=
  (W'_of_ne m c (by decide)).trans (V_main_arg2 m c)
theorem W'_arg3 (c : Dev nD) : W' m c (Proc.devRef .tc main_arg3) = m ((c : Thread nD τ).loc main_arg3) :=
  (W'_of_ne m c (by decide)).trans (V_main_arg3 m c)
theorem W'_arg4 (c : Dev nD) : W' m c (Proc.devRef .tc main_arg4) = m ((c : Thread nD τ).loc main_arg4) :=
  (W'_of_ne m c (by decide)).trans (V_main_arg4 m c)
theorem W'_v10 (c : Dev nD) : W' m c (Proc.devRef .tc main_v10) = resBuf m c := Function.update_self ..

/-- The run read at the result and at the arguments. -/
theorem run_result : θ_run defs (onTc (τ := τ) (main (F := F))) ⟨m, fun _ => 0, ρ⟩ (fun r => (∀ c : Dev nD,
      r.2.mem ((c.tc : Thread nD τ).loc main_v10) = resBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c main_v10 rfl).trans (W'_v10 m c), (h.1 c main_arg0 rfl).trans (W'_arg0 m c), (h.1 c main_arg1 rfl).trans (W'_arg1 m c),
      (h.1 c main_arg2 rfl).trans (W'_arg2 m c), (h.1 c main_arg3 rfl).trans (W'_arg3 m c), (h.1 c main_arg4 rfl).trans (W'_arg4 m c)⟩, h.2⟩)
    (run_all m ρ)

theorem frame_ideal [h : Cert.KernelIdeal.Facts] : Cert.quiescent_KernelIdeal (hKernelIdeal := h) := fun m ρ _ =>
  (θ_run (Cert.KernelIdeal.defs (F := Ideal)) _ _).mono (fun _ h => ⟨fun c => (h.1 c).2, h.2⟩) (run_result (F := Ideal) m ρ)

/-- The two programs' body tables have the same text. -/
theorem bodies_same [Cert.Kernel.Facts] : Cert.Kernel.defs₀ (F := Bits) = Cert.KernelIdeal.defs₀ (F := Bits) := by
  refine congrArg Defs.onTc (funext fun ℓ => funext fun a => ?_)
  match ℓ, a with
  | ⟨0, _⟩, (t, s) => rfl

theorem defs_same [Cert.Kernel.Facts] : Cert.Kernel.defs (F := Bits) = Cert.KernelIdeal.defs (F := Bits) :=
  congrArg (Pipeline.defs (Cert.KernelIdeal.pcfgs (F := Bits))) bodies_same

theorem main_same [Cert.Kernel.Facts] : Cert.Kernel.main (F := Bits) = Cert.KernelIdeal.main (F := Bits) := rfl

/-- What a frame says of a final state. -/
def Kept (m : (ℓ : Loc nD τ sig) → Buf (Elt F) ℓ) (r : PUnit × MemSt nD τ sig (Elt F)) : Prop :=
  (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0

theorem run_kept : θ_run defs (onTc (τ := τ) (main (F := F))) ⟨m, fun _ => 0, ρ⟩ (Kept m) :=
  (θ_run defs _ _).mono (fun _ h => ⟨fun c => (h.1 c).2, h.2⟩) (run_result m ρ)

theorem frame_kernel [h : Cert.Kernel.Facts] : Cert.quiescent_Kernel (hKernel := h) := fun m ρ _ =>
  have e := congrArg (fun D => θ_run D (onTc (τ := τ) (main (F := Bits))) ⟨m, fun _ => 0, ρ⟩ (Kept m)) defs_same
  e.mpr (run_kept (F := Bits) m ρ)

/-- The reference declares no semaphore. -/
theorem frame_reference [h : Cert.ReferenceIdeal.Facts] : Cert.quiescent_ReferenceIdeal (hReferenceIdeal := h) := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)

end Cert.Ring16

end
-- ==== Proof.Softmax.lean ====
/-
# Sums of extended reals, and the softmax

Scores that are real give real weights; dividing the weighted sum by the sum of the weights is weighting by the
divided weights, and taking a real number off every score beforehand changes neither.
-/
module

public import Idealize.ShloMosaic.PureOps.Ideal
public import Idealize.ShloMosaic.PureOps.Ideal.Laws

@[expose] public section

noncomputable section

namespace Cert.Ring16

open Idealize.ShloMosaic

/-- An extended real that is a real. -/
def IsReal (a : EReal) : Prop := ∃ r : ℝ, a = (r : EReal)

theorem IsReal.mul {a b : EReal} : IsReal a → IsReal b → IsReal (a * b)
  | ⟨r, hr⟩, ⟨s, hs⟩ => ⟨r * s, by rw [hr, hs, EReal.coe_mul]⟩

theorem IsReal.add {a b : EReal} : IsReal a → IsReal b → IsReal (a + b)
  | ⟨r, hr⟩, ⟨s, hs⟩ => ⟨r + s, by rw [hr, hs, EReal.coe_add]⟩

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) {f : ι → EReal} (h : ∀ i, IsReal (f i)) : IsReal (∑ i ∈ s, f i) := by
  choose g hg using h
  exact ⟨∑ i ∈ s, g i, by rw [← coe_sum]; exact Finset.sum_congr rfl fun i _ => hg i⟩

/-- A real factor comes out of a sum of reals. -/
theorem sum_mul_real {ι : Type} (s : Finset ι) {f : ι → EReal} (h : ∀ i, IsReal (f i)) {a : EReal} (ha : IsReal a) :
    (∑ i ∈ s, f i) * a = ∑ i ∈ s, f i * a := by
  choose g hg using h
  obtain ⟨r, rfl⟩ := ha
  simp only [hg, ← EReal.coe_mul, coe_sum, Finset.sum_mul]

/-- A nonnegative real factor comes out of any sum. -/
theorem sum_mul_nonneg {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

/-- The largest of finitely many reals, from minus infinity, is a real if there is one. -/
theorem fold_max_real {ι : Type} (s : Finset ι) (f : ι → ℝ) (hs : s.Nonempty) :
    IsReal (s.fold max (⊥ : EReal) fun i => (f i : EReal)) := by
  classical
  induction hs using Finset.Nonempty.cons_induction with
  | singleton a => exact ⟨f a, by simp⟩
  | cons a s ha hs ih =>
    obtain ⟨r, hr⟩ := ih
    exact ⟨max (f a) r, by rw [Finset.fold_cons, hr]; exact (EReal.coe_strictMono.monotone.map_max (a := f a) (b := r)).symm⟩

theorem exp_real (r : ℝ) : Ideal.exp (r : EReal) = (Real.exp r : EReal) := rfl

theorem div_real (a : EReal) {r : ℝ} (hr : r ≠ 0) : Ideal.div a (r : EReal) = a * ((r⁻¹ : ℝ) : EReal) := by
  unfold Ideal.div
  rw [if_neg (by exact_mod_cast hr), EReal.coe_inv]

/-- The softmax, weighted: divided at the end, or weight by weight after a real number is taken off. -/
theorem softmax {N : ℕ} (hN : 0 < N) (S : Fin N → ℝ) (v : Fin N → EReal) (μ : ℝ) :
    Ideal.div (∑ j, Ideal.exp (S j : EReal) * v j) (∑ j, Ideal.exp (S j : EReal))
      = ∑ j, v j * Ideal.div (Ideal.exp ((S j : EReal) - (μ : EReal))) (∑ j', Ideal.exp ((S j' : EReal) - (μ : EReal))) := by
  haveI : Nonempty (Fin N) := ⟨⟨0, hN⟩⟩
  have hp : ∀ T : Fin N → ℝ, 0 < ∑ j, Real.exp (T j) := fun T =>
    Finset.sum_pos (fun j _ => Real.exp_pos _) Finset.univ_nonempty
  simp only [← EReal.coe_sub, exp_real, coe_sum]
  rw [div_real _ (hp S).ne', sum_mul_nonneg _ _ (inv_nonneg.2 (hp S).le)]
  refine Finset.sum_congr rfl fun j _ => ?_
  rw [div_real _ (hp fun j => S j - μ).ne', ← EReal.coe_mul, mul_comm (Real.exp (S j) : EReal) (v j), mul_assoc, ← EReal.coe_mul]
  refine congrArg (fun r : ℝ => v j * (r : EReal)) ?_
  have e : ∑ j, Real.exp (S j - μ) = (∑ j, Real.exp (S j)) * (Real.exp μ)⁻¹ := by
    rw [Finset.sum_mul]
    exact Finset.sum_congr rfl fun j _ => by rw [Real.exp_sub, div_eq_mul_inv]
  have h1 := (hp S).ne'
  have h2 := (Real.exp_pos μ).ne'
  rw [e, Real.exp_sub]
  field_simp

end Cert.Ring16

end
-- ==== Proof.Finite.lean ====
/-
# What the precondition says

A device whose blocks of the input and of the query and key weights pass the test for infinities holds reals there.
-/
module

public import proofs.«01_k».proof.Pre_finite_KernelIdeal
public import proofs.«01_k».proof.Pre_finite_ReferenceIdeal
public import proofs.«01_k».proof.Proof.Softmax
public import Idealize.ShloMosaic.Lib.ReduceAll
public import Idealize.ShloMosaic.Lib.Pointwise

@[expose] public section

noncomputable section

namespace Cert.Ring16

open Idealize.ShloMosaic

theorem pre_kernel_facts : Cert.Pre_finite_KernelIdeal.Facts :=
  ⟨by decide +kernel, by decide +kernel, by decide +kernel, by decide +kernel, by decide +kernel⟩
theorem pre_reference_facts : Cert.Pre_finite_ReferenceIdeal.Facts := by
  constructor <;> decide +kernel

/-- Below infinity in absolute value is real. -/
theorem real_of_abs_lt (a : EReal) (h : Ideal.cmp .olt (max a (-a)) (Ideal.ofBits .f32 0x7F800000#32) = 1#1) : IsReal a := by
  have e : Ideal.ofBits .f32 0x7F800000#32 = ⊤ := by simp [Ideal.ofBits, Ideal.ieee]
  rw [e] at h
  induction a with
  | bot => simp [Ideal.cmp] at h
  | coe r => exact ⟨r, rfl⟩
  | top => simp [Ideal.cmp] at h

section
open Cert.Pre_finite_KernelIdeal
variable [Cert.Pre_finite_KernelIdeal.Facts]

theorem finite_reals (x : FVec Ideal S2x128x512 .f32) (q k v o : FVec Ideal S512x512 .f32)
    (h : Cert.Pre_finite_KernelIdeal.fn x q k v o = fun _ => 1#1) :
    (∀ i, IsReal (x i)) ∧ (∀ i, IsReal (q i)) ∧ ∀ i, IsReal (k i) := by
  have h := congrFun h (fun a => a.elim0)
  haveI : Subsingleton S_.Idx := ⟨fun a b => funext fun i => i.elim0⟩
  obtain ⟨h1, h3⟩ := IntOp.andi_eq_one.1 h
  obtain ⟨h1, h2⟩ := IntOp.andi_eq_one.1 h1
  exact ⟨fun i => real_of_abs_lt _ (Host.reduce_andi_all _ _ _ _ _ h1 i), fun i => real_of_abs_lt _ (Host.reduce_andi_all _ _ _ _ _ h2 i),
    fun i => real_of_abs_lt _ (Host.reduce_andi_all _ _ _ _ _ h3 i)⟩
end

end Cert.Ring16

end
-- ==== Proof.Entries.lean ====
/-
# The kernel's values at an index

Over the reals extended by the two infinities each value the kernel stores is a sum that can be read off.
-/
module

public import proofs.«01_k».proof.Proof.Protocol
public import Idealize.ShloMosaic.Lib.Pointwise

@[expose] public section

noncomputable section

namespace Cert.Ring16

open Cert.KernelIdeal Cert.KernelIdeal.Gen
open Idealize.ShloMosaic

/-- One head's attention at an entry. -/
theorem attn_apply (x : Vec Ideal S1x128x512 .bf16) (acc : FVec Ideal S128x512 .f32) (wq : Vec Ideal S1x512x64 .bf16)
    (k v : Vec Ideal S1x1x2048x64 .bf16) (wo : Vec Ideal S1x64x512 .bf16) (r : Fin 128) (n : Fin 512) :
    attn x acc wq k v wo (ix2 r n) = acc (ix2 r n) + ∑ e : Fin 64,
      Ideal.div (∑ j : Fin 2048, Ideal.exp (∑ f : Fin 64, (∑ d : Fin 512, x (ix3 0 r d) * wq (ix3 0 d f)) * k (ix4 0 0 j f)) * v (ix4 0 0 j e))
        (∑ j : Fin 2048, Ideal.exp (∑ f : Fin 64, (∑ d : Fin 512, x (ix3 0 r d) * wq (ix3 0 d f)) * k (ix4 0 0 j f)))
      * wo (ix3 0 e n) := by
  pointwise [attn, k0_pay1]

theorem proj_apply (x : Vec Ideal S1x128x512 .bf16) (w : Vec Ideal S512x512 .bf16) (r : Fin 128) (n : Fin 512) :
    proj x w (ix2 r n) = ∑ d : Fin 512, x (ix3 0 r d) * w (ix2 d n) := by
  pointwise [proj]

theorem headOf_apply (hd : Fin 8) (k : FVec Ideal S128x512 .bf16) (r : Fin 128) (e : Fin 64) :
    headOf hd k (ix4 0 0 r e) = k (ix2 r ⟨64 * hd.val + e.val, by omega⟩) := by
  pointwise [headOf]

theorem first_apply (x : Vec Ideal S2x128x512 .f32) (i : S2x128x512.Idx) : (k0_pay33 x : FVec Ideal S2x128x512 .bf16) i = x i := by
  pointwise [k0_pay33]

theorem send0_apply (a : FVec Ideal S128x512 .f32) (r : Fin 128) (n : Fin 512) : send0 a (ix4 0 0 r n) = a (ix2 r n) := by
  pointwise [send0, k0_pay722]

theorem sendN_apply (a : FVec Ideal S128x512 .f32) (b : Vec Ideal S1x1x128x512 .bf16) (r : Fin 128) (n : Fin 512) :
    sendN a b (ix4 0 0 r n) = a (ix2 r n) + b (ix4 0 0 r n) := by
  pointwise [sendN, k0_pay728]

theorem outN_apply (a : FVec Ideal S128x512 .f32) (b : Vec Ideal S1x1x128x512 .bf16) (r : Fin 128) (n : Fin 512) :
    outN a b (ix3 0 r n) = a (ix2 r n) + b (ix4 0 0 r n) := by
  pointwise [outN, k0_pay832]

theorem zero_apply (i : S128x512.Idx) : (k0_pay717 : FVec Ideal S128x512 .f32) i = 0 := by
  pointwise [k0_pay717]

end Cert.Ring16

end
-- ==== Proof.Windows.lean ====
/-
# What the kernel reads and where its result goes

Each window of the kernel covers its whole array, so the kernel reads the arguments as they stand (two of them
rearranged beforehand) and its result array ends as the last value written.
-/
module

public import proofs.«01_k».proof.Proof.Region
public import Idealize.ShloMosaic.Lib.Pointwise
public import Idealize.ShloMosaic.Lib.Pipeline.ValueKit

@[expose] public section

noncomputable section

namespace Cert.Ring16

open Cert.KernelIdeal Cert.KernelIdeal.Gen
open Idealize.ShloMosaic Idealize.ShloMosaic.TcCoe
open Idealize.SL Idealize.SL.Sem

variable (m : (ℓ : Loc nD τ sig) → Buf (Elt Ideal) ℓ)

/-- The arguments on a device. -/
abbrev argX (c : Dev nD) : Vec Ideal S2x128x512 .f32 := m (c.tc.loc main_arg0)
abbrev argQ (c : Dev nD) : Vec Ideal S512x512 .f32 := m (c.tc.loc main_arg1)
abbrev argK (c : Dev nD) : Vec Ideal S512x512 .f32 := m (c.tc.loc main_arg2)
abbrev argV (c : Dev nD) : Vec Ideal S512x512 .f32 := m (c.tc.loc main_arg3)
abbrev argO (c : Dev nD) : Vec Ideal S512x512 .f32 := m (c.tc.loc main_arg4)

/-! Each window's one block is its whole array. -/

theorem emb0 (y : S2x128x512.Idx) : (win0_0.blk t0_0).view.emb y = y := by
  funext a
  apply Fin.ext
  have h : ∀ a, win0_0.index t0_0 a = 0 := by decide +kernel
  fin_cases a <;> blk_simp [h] <;> simp
theorem emb1 (y : S8x512x64.Idx) : (win0_1.blk t0_0).view.emb y = y := by
  funext a
  apply Fin.ext
  have h : ∀ a, win0_1.index t0_0 a = 0 := by decide +kernel
  fin_cases a <;> blk_simp [h] <;> simp
theorem emb2 (y : S8x64x512.Idx) : (win0_2.blk t0_0).view.emb y = y := by
  funext a
  apply Fin.ext
  have h : ∀ a, win0_2.index t0_0 a = 0 := by decide +kernel
  fin_cases a <;> blk_simp [h] <;> simp
theorem emb3 (y : S512x512.Idx) : (win0_3.blk t0_0).view.emb y = y := by
  funext a
  apply Fin.ext
  have h : ∀ a, win0_3.index t0_0 a = 0 := by decide +kernel
  fin_cases a <;> blk_simp [h] <;> simp
theorem emb4 (y : S512x512.Idx) : (win0_4.blk t0_0).view.emb y = y := by
  funext a
  apply Fin.ext
  have h : ∀ a, win0_4.index t0_0 a = 0 := by decide +kernel
  fin_cases a <;> blk_simp [h] <;> simp
theorem emb5 (y : S2x128x512.Idx) : (win0_5.blk t0_0).view.emb y = y := by
  funext a
  apply Fin.ext
  have h : ∀ a, win0_5.index t0_0 a = 0 := by decide +kernel
  fin_cases a <;> blk_simp [h] <;> simp

theorem res_eq (c : Dev nD) : resBuf m c = outV (inp m) c := by
  refine (dat m c).arrAt_eq_of_covers 5 _ (by decide +kernel) fun t hf y => ?_
  obtain rfl : t = t0_0 := Fin.ext (Nat.lt_one_iff.mp t.isLt)
  blk_simp
  exact congrArg (outV (inp m) c) (emb5 y).symm

theorem inp_x (c : Dev nD) (i : S2x128x512.Idx) : (inp m c).x i = argX m c i := by
  refine (congrArg (V m c main_arg0) (emb0 i)).trans ?_
  entry_read
  rfl

theorem inp_wk (c : Dev nD) (i : S512x512.Idx) : (inp m c).wk i = argK m c i := by
  refine (congrArg (V m c main_v6) (emb3 i)).trans ?_
  entry_read
  rfl

theorem inp_wv (c : Dev nD) (i : S512x512.Idx) : (inp m c).wv i = argV m c i := by
  refine (congrArg (V m c main_v7) (emb4 i)).trans ?_
  entry_read
  rfl

theorem inp_wq (c : Dev nD) (hd : Fin 8) (d : Fin 512) (e : Fin 64) :
    (inp m c).wq (ix3 hd d e) = argQ m c (ix2 d ⟨64 * hd.val + e.val, by omega⟩) * Ideal.ofBits .f32 0x3E000000#32 := by
  refine (congrArg (V m c main_v5) (emb1 (ix3 hd d e))).trans ?_
  entry_read
  pointwise
  exact congrArg (fun k => argQ m c (ix2 d k) * Ideal.ofBits .f32 0x3E000000#32) (Fin.ext (by show hd.val * 64 + e.val = 64 * hd.val + e.val; omega))

theorem inp_wo (c : Dev nD) (hd : Fin 8) (e : Fin 64) (n : Fin 512) :
    (inp m c).wo (ix3 hd e n) = argO m c (ix2 ⟨64 * hd.val + e.val, by omega⟩ n) := by
  refine (congrArg (V m c main_v9) (emb2 (ix3 hd e n))).trans ?_
  entry_read
  pointwise
  exact congrArg (fun k => argO m c (ix2 k n)) (Fin.ext (by show hd.val * 64 + e.val = 64 * hd.val + e.val; omega))

end Cert.Ring16

end
-- ==== Proof.KernelValue.lean ====
/-
# The kernel's result

Read at an index, a device's result is the sum over all devices, heads and columns of a head of that head's attention
times the output weights, the scale folded into the query weights.
-/
module

public import proofs.«01_k».proof.Proof.Entries
public import proofs.«01_k».proof.Proof.Windows
public import proofs.«01_k».proof.Proof.Softmax

@[expose] public section

noncomputable section

namespace Cert.Ring16

open Cert.KernelIdeal Cert.KernelIdeal.Gen
open Idealize.ShloMosaic Idealize.ShloMosaic.TcCoe

/-! ## Over the inputs of the devices -/

section Ring
variable (I : Dev nD → In Ideal)

/-- One head of a device at an entry, before the output weights. -/
def headAt (c : Dev nD) (b : Fin 2) (k : Dev nD) (hd : Fin 8) (r : Fin 128) (e : Fin 64) : EReal :=
  Ideal.div
    (∑ j : Fin 2048, Ideal.exp (∑ f : Fin 64, (∑ d : Fin 512, xblk I b k (ix3 0 r d) * wqOf I c hd (ix3 0 d f)) * kOf I c b hd (ix4 0 0 j f))
      * vOf I c b hd (ix4 0 0 j e))
    (∑ j : Fin 2048, Ideal.exp (∑ f : Fin 64, (∑ d : Fin 512, xblk I b k (ix3 0 r d) * wqOf I c hd (ix3 0 d f)) * kOf I c b hd (ix4 0 0 j f)))

/-- One head's share of the result at an entry. -/
def shareAt (c : Dev nD) (b : Fin 2) (k : Dev nD) (hd : Fin 8) (r : Fin 128) (n : Fin 512) : EReal :=
  ∑ e : Fin 64, headAt I c b k hd r e * woOf I c hd (ix3 0 e n)

theorem headSum_apply (c : Dev nD) (b : Fin 2) (k : Dev nD) (r : Fin 128) (n : Fin 512) (t : ℕ) :
    headSum I c b k t (ix2 r n) = ∑ hd ∈ Finset.range t, shareAt I c b k (fin8 hd) r n := by
  induction t with
  | zero => exact zero_apply _
  | succ t ih =>
    rw [Finset.sum_range_succ, ← ih]
    exact attn_apply _ _ _ _ _ _ _ _

theorem contrib_apply (c : Dev nD) (b : Fin 2) (k : Dev nD) (r : Fin 128) (n : Fin 512) :
    contrib I c b k (ix2 r n) = ∑ hd : Fin 8, shareAt I c b k hd r n := by
  refine (headSum_apply I c b k r n 8).trans ((Finset.sum_range _).trans (Finset.sum_congr rfl fun hd _ => ?_))
  have : fin8 hd.val = hd := Fin.ext (Nat.mod_eq_of_lt hd.isLt)
  rw [this]

theorem sent_apply (b : Fin 2) (r : Fin 128) (n : Fin 512) (t : ℕ) : ∀ c : Dev nD, t < 15 →
    sent I t c b (ix4 0 0 r n) = ∑ s ∈ Finset.range (t + 1), contrib I (back c s) b (back c (t + 1)) (ix2 r n) := by
  induction t with
  | zero =>
    intro c _
    rw [Finset.sum_range_one]
    refine (send0_apply _ r n).trans ?_
    have : back c 0 = c := by revert c; decide
    rw [this]
  | succ t ih =>
    intro c ht
    rw [Finset.sum_range_succ']
    refine (sendN_apply _ _ r n).trans ?_
    rw [ih (prv c) (by omega), add_comm]
    have h0 : back c 0 = c := by revert c; decide
    rw [h0]
    refine congrArg₂ (· + ·) (Finset.sum_congr rfl fun s hs => ?_) rfl
    have := Finset.mem_range.1 hs
    rw [back_prv c s (by omega), back_prv c (t + 1) (by omega)]

theorem sum_back (c : Dev nD) (f : Dev nD → EReal) : ∑ s ∈ Finset.range 16, f (back c s) = ∑ k : Dev nD, f k := by
  rw [Finset.sum_range]
  refine Fintype.sum_bijective (fun s : Fin 16 => back c s.val) ?_ _ _ fun _ => rfl
  revert c
  decide

theorem outV_apply (c : Dev nD) (b : Fin 2) (r : Fin 128) (n : Fin 512) :
    outV I c (ix3 b r n) = ∑ k : Dev nD, ∑ hd : Fin 8, shareAt I k b c hd r n := by
  refine (outN_apply (contrib I c b c) (sent I 14 (prv c) b) r n).trans ?_
  rw [sent_apply I b r n 14 (prv c) (by omega), ← sum_back c (fun k => ∑ hd : Fin 8, shareAt I k b c hd r n),
    Finset.sum_range_succ' (fun s => ∑ hd : Fin 8, shareAt I (back c s) b c hd r n) 15,
    add_comm]
  have h0 : back c 0 = c := by revert c; decide
  rw [h0, contrib_apply]
  refine congrArg₂ (· + ·) (Finset.sum_congr rfl fun s hs => ?_) rfl
  have := Finset.mem_range.1 hs
  have h16 : back (prv c) 15 = c := by revert c; decide
  rw [back_prv c s (by omega), h16, contrib_apply]

end Ring

/-! ## Over the whole arrays -/

/-- The column of the whole weights that is column `q` of device `c`'s. -/
def colAt (c : Dev nD) (q : Fin 512) : Fin 8192 := ⟨512 * c.val + q.val, by have := c.isLt; change c.val < 16 at this; omega⟩

/-- Column `e` of a device's head `hd`. -/
def headCol (hd : Fin 8) (e : Fin 64) : Fin 512 := ⟨64 * hd.val + e.val, by omega⟩

abbrev WholeX : Shape := ⟨3, ![2, 2048, 512]⟩
abbrev WholeW : Shape := ⟨2, ![512, 8192]⟩
abbrev WholeO : Shape := ⟨2, ![8192, 512]⟩

section Whole
variable (X : FVec Ideal WholeX .f32) (Q K V : FVec Ideal WholeW .f32) (O : FVec Ideal WholeO .f32)

/-- A projection of the whole input at an entry. -/
def projAt (W : FVec Ideal WholeW .f32) (b : Fin 2) (i : Fin 2048) (p : Fin 8192) : EReal :=
  ∑ d : Fin 512, X (ix3 b i d) * W (ix2 d p)

/-- What each device holds: its blocks of the whole arrays. -/
structure Blocks (m : (ℓ : Loc nD τ sig) → Buf (Elt Ideal) ℓ) : Prop where
  x : ∀ c b r d, argX m c (ix3 b r d) = X (ix3 b (posOf c r) d)
  q : ∀ c d q, argQ m c (ix2 d q) = Q (ix2 d (colAt c q))
  k : ∀ c d q, argK m c (ix2 d q) = K (ix2 d (colAt c q))
  v : ∀ c d q, argV m c (ix2 d q) = V (ix2 d (colAt c q))
  o : ∀ c q n, argO m c (ix2 q n) = O (ix2 (colAt c q) n)

variable {X Q K V O} {m : (ℓ : Loc nD τ sig) → Buf (Elt Ideal) ℓ} (h : Blocks X Q K V O m)
include h

theorem XF_at (b : Fin 2) (i : Fin 2048) (d : Fin 512) : XF (inp m) (ix3 b i d) = X (ix3 b i d) := by
  refine (first_apply _ _).trans ((inp_x m _ _).trans ((h.x _ b (rowOf i) d).trans ?_))
  refine congrArg (fun i => X (ix3 b i d)) (Fin.ext ?_)
  show 128 * (i.val / 128) + i.val % 128 = i.val
  omega

theorem xblk_at (b : Fin 2) (k : Dev nD) (r : Fin 128) (d : Fin 512) : xblk (inp m) b k (ix3 0 r d) = X (ix3 b (posOf k r) d) :=
  XF_at h b (posOf k r) d

theorem wq_at (c : Dev nD) (hd : Fin 8) (d : Fin 512) (f : Fin 64) :
    wqOf (inp m) c hd (ix3 0 d f) = Q (ix2 d (colAt c (headCol hd f))) * Ideal.ofBits .f32 0x3E000000#32 := by
  rw [← h.q]
  exact inp_wq m c hd d f

theorem wo_at (c : Dev nD) (hd : Fin 8) (e : Fin 64) (n : Fin 512) :
    woOf (inp m) c hd (ix3 0 e n) = O (ix2 (colAt c (headCol hd e)) n) := by
  rw [← h.o]
  exact inp_wo m c hd e n

theorem pos_split (i : Fin 2048) : posOf (chunkOf i) (rowOf i) = i := by
  apply Fin.ext
  show 128 * (i.val / 128) + i.val % 128 = i.val
  omega

theorem k_at (c : Dev nD) (b : Fin 2) (hd : Fin 8) (j : Fin 2048) (f : Fin 64) :
    kOf (inp m) c b hd (ix4 0 0 j f) = projAt X K b j (colAt c (headCol hd f)) := by
  refine (headOf_apply hd _ (rowOf j) f).trans ((proj_apply _ _ _ _).trans (Finset.sum_congr rfl fun d _ => ?_))
  refine congrArg₂ (· * ·) ((xblk_at h b (chunkOf j) (rowOf j) d).trans ?_) ((inp_wk m c _).trans (h.k c d _))
  rw [pos_split h]

theorem v_at (c : Dev nD) (b : Fin 2) (hd : Fin 8) (j : Fin 2048) (f : Fin 64) :
    vOf (inp m) c b hd (ix4 0 0 j f) = projAt X V b j (colAt c (headCol hd f)) := by
  refine (headOf_apply hd _ (rowOf j) f).trans ((proj_apply _ _ _ _).trans (Finset.sum_congr rfl fun d _ => ?_))
  refine congrArg₂ (· * ·) ((xblk_at h b (chunkOf j) (rowOf j) d).trans ?_) ((inp_wv m c _).trans (h.v c d _))
  rw [pos_split h]

omit h in
/-- The kernel's score, the scale folded into the query weights. -/
def scoreK (X : FVec Ideal WholeX .f32) (Q K : FVec Ideal WholeW .f32) (b : Fin 2) (i j : Fin 2048) (col : Fin 64 → Fin 8192) : EReal :=
  ∑ f : Fin 64, (∑ d : Fin 512, X (ix3 b i d) * (Q (ix2 d (col f)) * Ideal.ofBits .f32 0x3E000000#32)) * projAt X K b j (col f)

/-- The kernel's result over the whole arrays. -/
theorem kernel_value (c : Dev nD) (b : Fin 2) (r : Fin 128) (n : Fin 512) :
    outV (inp m) c (ix3 b r n) = ∑ k : Dev nD, ∑ hd : Fin 8, ∑ e : Fin 64,
      Ideal.div
        (∑ j : Fin 2048, Ideal.exp (scoreK X Q K b (posOf c r) j fun f => colAt k (headCol hd f)) * projAt X V b j (colAt k (headCol hd e)))
        (∑ j : Fin 2048, Ideal.exp (scoreK X Q K b (posOf c r) j fun f => colAt k (headCol hd f)))
      * O (ix2 (colAt k (headCol hd e)) n) := by
  rw [outV_apply]
  refine Finset.sum_congr rfl fun k _ => Finset.sum_congr rfl fun hd _ => Finset.sum_congr rfl fun e _ => ?_
  have hs : ∀ j : Fin 2048, (∑ f : Fin 64, (∑ d : Fin 512, xblk (inp m) b c (ix3 0 r d) * wqOf (inp m) k hd (ix3 0 d f)) * kOf (inp m) k b hd (ix4 0 0 j f))
      = scoreK X Q K b (posOf c r) j fun f => colAt k (headCol hd f) := fun j =>
    Finset.sum_congr rfl fun f _ => congrArg₂ (· * ·)
      (Finset.sum_congr rfl fun d _ => congrArg₂ (· * ·) (xblk_at h b c r d) (wq_at h k hd d f)) (k_at h k b hd j f)
  unfold headAt
  simp only [hs, v_at h, wo_at h]

end Whole

end Cert.Ring16

end
-- ==== Proof.Reference.lean ====
/-
# The reference's values at an index

Over the reals extended by the two infinities each step of the reference is read at its coordinates.
-/
module

public import proofs.«01_k».proof.Proof.Gen.ReferenceIdeal.Read
public import Idealize.ShloMosaic.Lib.Pointwise

@[expose] public section

noncomputable section

namespace Cert.Ring16

open Cert.ReferenceIdeal Cert.ReferenceIdeal.Read
open Idealize.ShloMosaic

variable (X : Vec Ideal S2x2048x512 .f32) (Q K V : Vec Ideal S512x8192 .f32) (O : Vec Ideal S8192x512 .f32)

/-- Column `f` of head `h`. -/
def colOf (h : Fin 128) (f : Fin 64) : Fin 8192 := ⟨h.val * 64 + f.val, by omega⟩

theorem ref_q (b : Fin 2) (i : Fin 2048) (h : Fin 128) (f : Fin 64) :
    val_main_v1 X Q (ix4 b i h f) = ∑ d : Fin 512, X (ix3 b i d) * Q (ix2 d (colOf h f)) := by
  pointwise [val_main_v1, val_main_v0]
  rfl

theorem ref_k (b : Fin 2) (i : Fin 2048) (h : Fin 128) (f : Fin 64) :
    val_main_v3 X K (ix4 b i h f) = ∑ d : Fin 512, X (ix3 b i d) * K (ix2 d (colOf h f)) := by
  pointwise [val_main_v3, val_main_v2]
  rfl

theorem ref_v (b : Fin 2) (i : Fin 2048) (h : Fin 128) (f : Fin 64) :
    val_main_v5 X V (ix4 b i h f) = ∑ d : Fin 512, X (ix3 b i d) * V (ix2 d (colOf h f)) := by
  pointwise [val_main_v5, val_main_v4]
  rfl

/-- The scaled score. -/
theorem ref_score (b : Fin 2) (h : Fin 128) (i j : Fin 2048) :
    val_main_v8 X Q K (ix4 b h i j)
      = (∑ f : Fin 64, val_main_v1 X Q (ix4 b i h f) * val_main_v3 X K (ix4 b j h f)) * Ideal.ofBits .f32 0x3E000000#32 := by
  pointwise [val_main_v8, val_main_v6, val_main_v7, val_main_cst]

/-- The largest entry of a row. -/
theorem max_apply (hr : S2x128x2048x2048.ReducesTo [3] S2x128x2048) (hz : 0 < S_.numel) (y : FVec Ideal S2x128x2048x2048 .f32) (z : FVec Ideal S_ .f32) (b : Fin 2) (h : Fin 128) (i : Fin 2048) :
    (Host.reduce FloatOps.maximumf y z hr hz : FVec Ideal S2x128x2048 .f32) (ix3 b h i)
      = Finset.univ.fold max (z (Shape.Idx.first hz)) fun j : Fin 2048 => y (ix4 b h i j) := by
  pointwise

/-- The largest score of a row. -/
theorem ref_max (b : Fin 2) (h : Fin 128) (i : Fin 2048) :
    val_main_v11 X Q K (ix3 b h i) = max (Ideal.ofBits .f32 0xFF800000#32)
      (Finset.univ.fold max (Ideal.ofBits .f32 0xFF800000#32) fun j : Fin 2048 => val_main_v8 X Q K (ix4 b h i j)) := by
  rw [val_main_v11_apply, val_main_v10_apply]
  unfold val_main_v9
  generalize val_main_v8 X Q K = y
  rw [Ideal.maximumf_def]
  refine congrArg₂ max rfl ?_
  exact max_apply _ _ y _ b h i

/-- The weight of a column in a row before it is divided. -/
theorem ref_exp (b : Fin 2) (h : Fin 128) (i j : Fin 2048) :
    val_main_v15 X Q K (ix4 b h i j) = Ideal.exp (val_main_v8 X Q K (ix4 b h i j) - val_main_v11 X Q K (ix3 b h i)) := by
  pointwise [val_main_v15, val_main_v14, val_main_v13, val_main_v12]

theorem ref_weight (b : Fin 2) (h : Fin 128) (i j : Fin 2048) :
    val_main_v19 X Q K (ix4 b h i j)
      = Ideal.div (val_main_v15 X Q K (ix4 b h i j)) (∑ j' : Fin 2048, val_main_v15 X Q K (ix4 b h i j')) := by
  pointwise [val_main_v19, val_main_v18, val_main_v17, val_main_v16, val_main_cst_2]

theorem ref_out (b : Fin 2) (h : Fin 128) (e : Fin 64) (i : Fin 2048) :
    val_main_v20 X Q K V (ix4 b h e i) = ∑ j : Fin 2048, val_main_v5 X V (ix4 b j h e) * val_main_v19 X Q K (ix4 b h i j) := by
  pointwise [val_main_v20]

theorem ref_res (b : Fin 2) (i : Fin 2048) (n : Fin 512) :
    val_main_v23 X Q K V O (ix3 b i n) = ∑ p : Fin 8192,
      val_main_v20 X Q K V (ix4 b ⟨p.val / 64, by omega⟩ ⟨p.val % 64, by omega⟩ i) * O (ix2 p n) := by
  pointwise [val_main_v23, val_main_v22, val_main_v21]

end Cert.Ring16

end
-- ==== Proof.Value.lean ====
/-
# The two results are equal

With real inputs and real query and key weights the kernel's sum over devices, heads and columns is the reference's:
the scale comes out of the query weights, and dividing the weighted sum is weighting by the divided weights, less the row's
largest score or not.
-/
module

public import proofs.«01_k».proof.Proof.KernelValue
public import proofs.«01_k».proof.Proof.Reference

@[expose] public section

noncomputable section

namespace Cert.Ring16

open Cert.ReferenceIdeal.Read
open Idealize.ShloMosaic

section
variable (X : FVec Ideal WholeX .f32) (Q K V : FVec Ideal WholeW .f32) (O : FVec Ideal WholeO .f32)

theorem neg_inf : Ideal.ofBits .f32 0xFF800000#32 = ⊥ := by simp [Ideal.ofBits, Ideal.ieee]
theorem scale_real : IsReal (Ideal.ofBits .f32 0x3E000000#32) := ⟨_, by
  simp only [Ideal.ofBits, Ideal.ieee]
  norm_num
  rfl⟩

variable {X Q K}

theorem projAt_real {W : FVec Ideal WholeW .f32} (hX : ∀ i, IsReal (X i)) (hW : ∀ i, IsReal (W i)) (b : Fin 2) (i : Fin 2048) (p : Fin 8192) :
    IsReal (projAt X W b i p) :=
  IsReal.sum _ fun d => (hX _).mul (hW _)

theorem score_real (hX : ∀ i, IsReal (X i)) (hQ : ∀ i, IsReal (Q i)) (hK : ∀ i, IsReal (K i)) (b : Fin 2) (h : Fin 128) (i j : Fin 2048) :
    IsReal (val_main_v8 (F := Ideal) X Q K (ix4 b h i j)) := by
  rw [ref_score]
  refine (IsReal.sum _ fun f => ?_).mul scale_real
  rw [ref_q, ref_k]
  exact (projAt_real hX hQ b i _).mul (projAt_real hX hK b j _)

/-- The scale comes out of the query weights. -/
theorem score_eq (hX : ∀ i, IsReal (X i)) (hQ : ∀ i, IsReal (Q i)) (hK : ∀ i, IsReal (K i)) (b : Fin 2) (h : Fin 128) (i j : Fin 2048) :
    scoreK X Q K b i j (colOf h) = val_main_v8 (F := Ideal) X Q K (ix4 b h i j) := by
  rw [ref_score, sum_mul_real _ (fun f => by rw [ref_q, ref_k]; exact (projAt_real hX hQ b i _).mul (projAt_real hX hK b j _)) scale_real]
  refine Finset.sum_congr rfl fun f _ => ?_
  rw [ref_q, ref_k, mul_right_comm, sum_mul_real _ (fun d => (hX _).mul (hQ _)) scale_real]
  exact congrArg (· * _) (Finset.sum_congr rfl fun d _ => (mul_assoc _ _ _).symm)

theorem max_real (hX : ∀ i, IsReal (X i)) (hQ : ∀ i, IsReal (Q i)) (hK : ∀ i, IsReal (K i)) (b : Fin 2) (h : Fin 128) (i : Fin 2048) :
    IsReal (val_main_v11 (F := Ideal) X Q K (ix3 b h i)) := by
  choose S hS using fun j => score_real hX hQ hK b h i j
  rw [ref_max, neg_inf]
  simp only [hS, bot_sup_eq]
  exact fold_max_real _ S ⟨⟨0, by decide⟩, Finset.mem_univ _⟩

/-- One head's attention, as the kernel computes it and as the reference does. -/
theorem head_eq (hX : ∀ i, IsReal (X i)) (hQ : ∀ i, IsReal (Q i)) (hK : ∀ i, IsReal (K i)) (b : Fin 2) (h : Fin 128) (i : Fin 2048) (e : Fin 64) :
    Ideal.div (∑ j : Fin 2048, Ideal.exp (scoreK X Q K b i j (colOf h)) * projAt X V b j (colOf h e))
        (∑ j : Fin 2048, Ideal.exp (scoreK X Q K b i j (colOf h)))
      = val_main_v20 (F := Ideal) X Q K V (ix4 b h e i) := by
  choose S hS using fun j => score_real hX hQ hK b h i j
  obtain ⟨μ, hμ⟩ := max_real hX hQ hK b h i
  simp only [score_eq hX hQ hK, hS]
  rw [softmax (by decide) S _ μ, ref_out]
  refine Finset.sum_congr rfl fun j _ => ?_
  rw [ref_weight, ref_v]
  simp only [ref_exp, hS, hμ]
  rfl

/-- A head of the whole array: the device's and its own. -/
def headAll (c : Fin 16) (hd : Fin 8) : Fin 128 := ⟨c.val * 8 + hd.val, by omega⟩

theorem col_eq (c : Fin 16) (hd : Fin 8) (f : Fin 64) : colAt c (headCol hd f) = colOf (headAll c hd) f := by
  apply Fin.ext
  show 512 * c.val + (64 * hd.val + f.val) = (c.val * 8 + hd.val) * 64 + f.val
  omega

/-- The columns, by device, head and column of the head. -/
def colEquiv : (Fin 16 × Fin 8) × Fin 64 ≃ Fin 8192 where
  toFun y := colOf (headAll y.1.1 y.1.2) y.2
  invFun p := ((⟨p.val / 512, by omega⟩, ⟨p.val / 64 % 8, by omega⟩), ⟨p.val % 64, by omega⟩)
  left_inv := by
    rintro ⟨⟨⟨c, hc⟩, ⟨d, hd⟩⟩, ⟨e, he⟩⟩
    simp only [colOf, headAll, Prod.mk.injEq, Fin.mk.injEq]
    omega
  right_inv := by
    rintro ⟨p, hp⟩
    simp only [colOf, headAll, Fin.mk.injEq]
    omega

theorem sum_cols (g : Fin 8192 → EReal) :
    ∑ p : Fin 8192, g p = ∑ c : Fin 16, ∑ hd : Fin 8, ∑ e : Fin 64, g (colOf (headAll c hd) e) := by
  rw [← colEquiv.sum_comp, Fintype.sum_prod_type, Fintype.sum_prod_type]
  rfl

variable {m : (ℓ : Loc Cert.KernelIdeal.nD Cert.KernelIdeal.τ Cert.KernelIdeal.sig) → Buf (Elt Ideal) ℓ}

theorem value_eq (hm : Blocks X Q K V O m) (hX : ∀ i, IsReal (X i)) (hQ : ∀ i, IsReal (Q i)) (hK : ∀ i, IsReal (K i))
    (c : Dev Cert.KernelIdeal.nD) (b : Fin 2) (r : Fin 128) (n : Fin 512) :
    outV (inp m) c (ix3 b r n) = val_main_v23 (F := Ideal) X Q K V O (ix3 b (posOf c r) n) := by
  rw [kernel_value hm, ref_res, sum_cols]
  refine Finset.sum_congr rfl fun k _ => Finset.sum_congr rfl fun hd _ => Finset.sum_congr rfl fun e _ => ?_
  have h1 : (⟨(colOf (headAll k hd) e).val / 64, by omega⟩ : Fin 128) = headAll k hd := by
    apply Fin.ext
    show ((k.val * 8 + hd.val) * 64 + e.val) / 64 = k.val * 8 + hd.val
    omega
  have h2 : (⟨(colOf (headAll k hd) e).val % 64, by omega⟩ : Fin 64) = e := by
    apply Fin.ext
    show ((k.val * 8 + hd.val) * 64 + e.val) % 64 = e.val
    omega
  rw [h1, h2, ← head_eq V hX hQ hK]
  have hc : (fun f => colAt k (headCol hd f)) = colOf (headAll k hd) := funext fun f => col_eq k hd f
  simp only [hc, col_eq]

end

end Cert.Ring16

end
-- ==== Proof.Algebraic.lean ====
/-
# The value claim

Both runs end; the kernel's result on each device is that device's block of the reference's result.
-/
module

public import proofs.«01_k».proof.Defs
public import proofs.«01_k».proof.Proof.Frames
public import proofs.«01_k».proof.Proof.Finite
public import proofs.«01_k».proof.Proof.Value

@[expose] public section

noncomputable section

namespace Cert.Ring16

open Idealize.ShloMosaic Idealize.ShloMosaic.TcCoe
open Idealize.SL.Sem

abbrev BlockX : Shape := ⟨3, ![2, 128, 512]⟩
abbrev BlockW : Shape := ⟨2, ![512, 512]⟩

theorem block_rows (X : FVec Ideal WholeX .f32) (c : Fin 16) (b : Fin 2) (r : Fin 128) (d : Fin 512) :
    Layout.block BlockX WholeX 1 16 c X (by decide) (ix3 b r d) = X (ix3 b (posOf c r) d) := by
  rw [Layout.block_apply]
  refine congrArg X (funext fun a => Fin.ext ?_)
  rw [Layout.Tiles.idx_val]
  fin_cases a
  · rfl
  · show c.val * 128 + r.val = 128 * c.val + r.val
    omega
  · rfl

theorem block_cols (W : FVec Ideal WholeW .f32) (c : Fin 16) (d q : Fin 512) :
    Layout.block BlockW WholeW 1 16 c W (by decide) (ix2 d q) = W (ix2 d (colAt c q)) := by
  rw [Layout.block_apply]
  refine congrArg W (funext fun a => Fin.ext ?_)
  rw [Layout.Tiles.idx_val]
  fin_cases a
  · rfl
  · show c.val * 512 + q.val = 512 * c.val + q.val
    omega

theorem block_out (O : FVec Ideal WholeO .f32) (c : Fin 16) (q n : Fin 512) :
    Layout.block BlockW WholeO 0 16 c O (by decide) (ix2 q n) = O (ix2 (colAt c q) n) := by
  rw [Layout.block_apply]
  refine congrArg O (funext fun a => Fin.ext ?_)
  rw [Layout.Tiles.idx_val]
  fin_cases a
  · show c.val * 512 + q.val = 512 * c.val + q.val
    omega
  · rfl

/-- An index of the whole weights is one of a device's. -/
theorem whole_col (i : WholeW.Idx) : ∃ c d q, i = ix2 d (colAt c q) := by
  have h : (i 1).val < 8192 := (i 1).isLt
  refine ⟨⟨(i 1).val / 512, by show (i 1).val / 512 < 16; omega⟩, i 0, ⟨(i 1).val % 512, by omega⟩, ?_⟩
  refine funext fun a => Fin.ext ?_
  fin_cases a
  · rfl
  · show (i 1).val = 512 * ((i 1).val / 512) + (i 1).val % 512
    omega

/-- An index of the whole input is one of a device's. -/
theorem whole_row (i : WholeX.Idx) : ∃ c b r d, i = ix3 b (posOf c r) d := by
  refine ⟨chunkOf (i 1), i 0, rowOf (i 1), i 2, ?_⟩
  refine funext fun a => Fin.ext ?_
  fin_cases a
  · rfl
  · show (i 1).val = 128 * ((i 1).val / 128) + (i 1).val % 128
    omega
  · rfl

/-- The idealized kernel computes the reference, where the scores are real. -/
theorem algebraic [hp : Cert.Pre_finite_KernelIdeal.Facts] :
    Cert.algebraic_KernelIdeal_ReferenceIdeal_pre_finite_KernelIdeal (hKernelIdeal := Cert.KernelIdeal.Gen.facts)
      (hReferenceIdeal := Cert.ReferenceIdeal.Gen.facts) (hPre_finite_KernelIdeal := hp) := by
  intro m g m' g' hpre hm
  let t : Thread Cert.ReferenceIdeal.nD Cert.ReferenceIdeal.τ := (0 : Dev Cert.ReferenceIdeal.nD).tc
  let X : FVec Ideal WholeX .f32 := m' (t.loc Cert.ReferenceIdeal.main_arg0)
  let Q : FVec Ideal WholeW .f32 := m' (t.loc Cert.ReferenceIdeal.main_arg1)
  let K : FVec Ideal WholeW .f32 := m' (t.loc Cert.ReferenceIdeal.main_arg2)
  let V : FVec Ideal WholeW .f32 := m' (t.loc Cert.ReferenceIdeal.main_arg3)
  let O : FVec Ideal WholeO .f32 := m' (t.loc Cert.ReferenceIdeal.main_arg4)
  have hB : Blocks X Q K V O m :=
    { x := fun c b r d => (congrFun (hm c).1 _).trans (block_rows X c b r d)
      q := fun c d q => (congrFun (hm c).2.1 _).trans (block_cols Q c d q)
      k := fun c d q => (congrFun (hm c).2.2.1 _).trans (block_cols K c d q)
      v := fun c d q => (congrFun (hm c).2.2.2.1 _).trans (block_cols V c d q)
      o := fun c q n => (congrFun (hm c).2.2.2.2 _).trans (block_out O c q n) }
  have hF := fun c => finite_reals _ _ _ _ _ (hpre c)
  have hX : ∀ i, IsReal (X i) := fun i => by
    obtain ⟨c, b, r, d, rfl⟩ := whole_row i
    exact hB.x c b r d ▸ (hF c).1 _
  have hQ : ∀ i, IsReal (Q i) := fun i => by
    obtain ⟨c, d, q, rfl⟩ := whole_col i
    exact hB.q c d q ▸ (hF c).2.1 _
  have hK : ∀ i, IsReal (K i) := fun i => by
    obtain ⟨c, d, q, rfl⟩ := whole_col i
    exact hB.k c d q ▸ (hF c).2.2 _
  refine ⟨Cert.ReferenceIdeal.Value.res_main_v23 m' 0, ?_, ?_⟩
  · refine (θ_run (Cert.KernelIdeal.defs (F := Ideal)) _ _).mono (fun _ h c => ⟨(h.1 c).1.trans ?_, (h.1 c).2⟩) (run_result (F := Ideal) m g)
    rw [res_eq, Cert.ReferenceIdeal.Read.val_main_v23_eq]
    refine funext fun (i : BlockX.Idx) => ?_
    obtain ⟨b, r, d, rfl⟩ : ∃ b r d, i = ix3 b r d := ⟨i 0, i 1, i 2, funext fun a => by fin_cases a <;> rfl⟩
    exact (value_eq V O hB hX hQ hK c b r d).trans (block_rows _ c b r d).symm
  · exact (θ_run (Cert.ReferenceIdeal.defs (F := Ideal)) _ _).mono (fun _ h => h 0) (Cert.ReferenceIdeal.Value.run (F := Ideal) m' g')

end Cert.Ring16

end
-- ==== Proof.lean ====
/- The proof of the certificate: the frames of the kernel, of its idealization and of the reference, and the claim that
   the idealized kernel computes the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Finite
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Ring16.pre_kernel_facts, Cert.Ring16.pre_reference_facts,
  Cert.Ring16.frame_kernel, Cert.Ring16.frame_ideal, fun m g _ => Cert.Ring16.frame_ideal m g trivial,
  Cert.Ring16.frame_reference, fun m g _ => Cert.Ring16.frame_reference m g trivial, trivial,
  Cert.Ring16.algebraic (hp := Cert.Ring16.pre_kernel_facts)⟩

end Cert.Proof

end
